-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S24x8192x256 : Shape := ⟨3, ![24, 8192, 256]⟩
abbrev S32x8 : Shape := ⟨2, ![32, 8]⟩
abbrev S1x4x128 : Shape := ⟨3, ![1, 4, 128]⟩
abbrev S1x256 : Shape := ⟨2, ![1, 256]⟩
abbrev S1x2048x6144 : Shape := ⟨3, ![1, 2048, 6144]⟩
abbrev S2x2048x11264 : Shape := ⟨3, ![2, 2048, 11264]⟩
abbrev S_ : Shape := ⟨0, ![]⟩

class Facts : Prop where
  bitsLt_bf16_f32 : FTy.bits .bf16 < FTy.bits .f32
  bcast_S_S24x8192x256 : S_.BroadcastsInDim S24x8192x256 (![] : Fin 0 → Fin S24x8192x256.rank)
  bcast_S_S32x8 : S_.BroadcastsInDim S32x8 (![] : Fin 0 → Fin S32x8.rank)
  bcast_S_S1x4x128 : S_.BroadcastsInDim S1x4x128 (![] : Fin 0 → Fin S1x4x128.rank)

variable [Facts]

def fn {F : FTy → Type} [FloatOps F] (main_arg0 : FVec F S24x8192x256 .bf16) (main_arg1 : FVec F S32x8 .f32) (main_arg2 : FVec F S1x4x128 .f32) (main_arg3 : FVec F S1x256 .f32) (main_arg4 : FVec F S1x2048x6144 .f32) (main_arg5 : FVec F S2x2048x11264 .f32) : IVec S24x8192x256 1 × IVec S32x8 1 × IVec S1x4x128 1 :=
  let main_v0 : FVec F S24x8192x256 .f32 := (extf .f32 · bitsLt_bf16_f32) main_arg0
  let main_v1 : FVec F S24x8192x256 .f32 := Host.absf main_v0
  let main_cst : FVec F S_ .f32 := constant S_ .f32 0x7F800000#32
  let main_v2 : FVec F S24x8192x256 .f32 := broadcastInDim S24x8192x256 ![] bcast_S_S24x8192x256 main_cst
  let main_v3 : IVec S24x8192x256 1 := cmpf .olt main_v1 main_v2
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_v7 : FVec F S1x4x128 .f32 := Host.absf main_arg2
  let main_cst_1 : FVec F S_ .f32 := constant S_ .f32 0x7F800000#32
  let main_v8 : FVec F S1x4x128 .f32 := broadcastInDim S1x4x128 ![] bcast_S_S1x4x128 main_cst_1
  let main_v9 : IVec S1x4x128 1 := cmpf .olt main_v7 main_v8
  (main_v3, main_v6, main_v9)
-- ==== Kernel.lean ====
abbrev S24x8192x256 : Shape := ⟨3, ![24, 8192, 256]⟩
abbrev S32x8 : Shape := ⟨2, ![32, 8]⟩
abbrev S1x4x128 : Shape := ⟨3, ![1, 4, 128]⟩
abbrev S1x256 : Shape := ⟨2, ![1, 256]⟩
abbrev S1x2048x6144 : Shape := ⟨3, ![1, 2048, 6144]⟩
abbrev S2x2048x11264 : Shape := ⟨3, ![2, 2048, 11264]⟩
abbrev S8x8x256x256 : Shape := ⟨4, ![8, 8, 256, 256]⟩
abbrev S2048x6144 : Shape := ⟨2, ![2048, 6144]⟩
abbrev S1x256x6144 : Shape := ⟨3, ![1, 256, 6144]⟩
abbrev S1x8x256x256 : Shape := ⟨4, ![1, 8, 256, 256]⟩
abbrev S256x6144 : Shape := ⟨2, ![256, 6144]⟩
abbrev S256x256 : Shape := ⟨2, ![256, 256]⟩
abbrev S1x1 : Shape := ⟨2, ![1, 1]⟩
abbrev S1x1x256x256 : Shape := ⟨4, ![1, 1, 256, 256]⟩
abbrev S4x128 : Shape := ⟨2, ![4, 128]⟩
abbrev S256 : Shape := ⟨1, ![256]⟩
abbrev S8192x2048 : Shape := ⟨2, ![8192, 2048]⟩
abbrev S2048x11264 : Shape := ⟨2, ![2048, 11264]⟩
abbrev S1x2048x256 : Shape := ⟨3, ![1, 2048, 256]⟩
abbrev S1x64x11264 : Shape := ⟨3, ![1, 64, 11264]⟩
abbrev S2048x256 : Shape := ⟨2, ![2048, 256]⟩
abbrev S64x11264 : Shape := ⟨2, ![64, 11264]⟩
abbrev S1x128 : Shape := ⟨2, ![1, 128]⟩
abbrev S1 : Shape := ⟨1, ![1]⟩
abbrev S256x2048 : Shape := ⟨2, ![256, 2048]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S256x1 : Shape := ⟨2, ![256, 1]⟩
abbrev S256x1792 : Shape := ⟨2, ![256, 1792]⟩
abbrev S1x1792x128 : Shape := ⟨3, ![1, 1792, 128]⟩
abbrev S1792x128 : Shape := ⟨2, ![1792, 128]⟩
abbrev S1x1792x256 : Shape := ⟨3, ![1, 1792, 256]⟩
abbrev S1792x256 : Shape := ⟨2, ![1792, 256]⟩
abbrev S256x1536 : Shape := ⟨2, ![256, 1536]⟩
abbrev S1x1536x128 : Shape := ⟨3, ![1, 1536, 128]⟩
abbrev S1536x128 : Shape := ⟨2, ![1536, 128]⟩
abbrev S1x1536x256 : Shape := ⟨3, ![1, 1536, 256]⟩
abbrev S1536x256 : Shape := ⟨2, ![1536, 256]⟩
abbrev S256x1280 : Shape := ⟨2, ![256, 1280]⟩
abbrev S1x1280x128 : Shape := ⟨3, ![1, 1280, 128]⟩
abbrev S1280x128 : Shape := ⟨2, ![1280, 128]⟩
abbrev S1x1280x256 : Shape := ⟨3, ![1, 1280, 256]⟩
abbrev S1280x256 : Shape := ⟨2, ![1280, 256]⟩
abbrev S256x1024 : Shape := ⟨2, ![256, 1024]⟩
abbrev S1x1024x128 : Shape := ⟨3, ![1, 1024, 128]⟩
abbrev S1024x128 : Shape := ⟨2, ![1024, 128]⟩
abbrev S1x1024x256 : Shape := ⟨3, ![1, 1024, 256]⟩
abbrev S1024x256 : Shape := ⟨2, ![1024, 256]⟩
abbrev S256x768 : Shape := ⟨2, ![256, 768]⟩
abbrev S1x768x128 : Shape := ⟨3, ![1, 768, 128]⟩
abbrev S768x128 : Shape := ⟨2, ![768, 128]⟩
abbrev S1x768x256 : Shape := ⟨3, ![1, 768, 256]⟩
abbrev S768x256 : Shape := ⟨2, ![768, 256]⟩
abbrev S256x512 : Shape := ⟨2, ![256, 512]⟩
abbrev S1x512x128 : Shape := ⟨3, ![1, 512, 128]⟩
abbrev S512x128 : Shape := ⟨2, ![512, 128]⟩
abbrev S1x512x256 : Shape := ⟨3, ![1, 512, 256]⟩
abbrev S512x256 : Shape := ⟨2, ![512, 256]⟩
abbrev S1x256x256 : Shape := ⟨3, ![1, 256, 256]⟩

abbrev nBuf : Space → Nat
  | .hbm => 13
  | .vmem => 22
  | .smem => 1
  | _ => 0

abbrev bufTy : (tb : Table) → Fin (tcTables nBuf tb) → BufTy
  | .hbm, ⟨0, _⟩ => ⟨S24x8192x256, .bf16⟩
  | .hbm, ⟨1, _⟩ => ⟨S32x8, .f32⟩
  | .hbm, ⟨2, _⟩ => ⟨S1x4x128, .f32⟩
  | .hbm, ⟨3, _⟩ => ⟨S1x256, .f32⟩
  | .hbm, ⟨4, _⟩ => ⟨S1x2048x6144, .f32⟩
  | .hbm, ⟨5, _⟩ => ⟨S2x2048x11264, .f32⟩
  | .hbm, ⟨6, _⟩ => ⟨S8x8x256x256, .f32⟩
  | .hbm, ⟨7, _⟩ => ⟨S2048x6144, .bf16⟩
  | .hbm, ⟨8, _⟩ => ⟨S4x128, .f32⟩
  | .hbm, ⟨9, _⟩ => ⟨S256, .f32⟩
  | .hbm, ⟨10, _⟩ => ⟨S1x256, .f32⟩
  | .hbm, ⟨11, _⟩ => ⟨S8192x2048, .bf16⟩
  | .hbm, ⟨12, _⟩ => ⟨S2048x11264, .bf16⟩
  | .local _ .vmem, ⟨0, _⟩ => ⟨S1x256x6144, .f32⟩
  | .local _ .vmem, ⟨1, _⟩ => ⟨S1x256x6144, .f32⟩
  | .local _ .vmem, ⟨2, _⟩ => ⟨S1x8x256x256, .f32⟩
  | .local _ .vmem, ⟨3, _⟩ => ⟨S1x8x256x256, .f32⟩
  | .local _ .vmem, ⟨4, _⟩ => ⟨S256x6144, .bf16⟩
  | .local _ .vmem, ⟨5, _⟩ => ⟨S256x6144, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x8x256x256, .f32⟩
  | .local _ .vmem, ⟨13, _⟩ => ⟨S1x8x256x256, .f32⟩
  | .local _ .vmem, ⟨14, _⟩ => ⟨S4x128, .f32⟩
  | .local _ .vmem, ⟨15, _⟩ => ⟨S1x256, .f32⟩
  | .local _ .vmem, ⟨16, _⟩ => ⟨S1x64x11264, .f32⟩
  | .local _ .vmem, ⟨17, _⟩ => ⟨S1x64x11264, .f32⟩
  | .local _ .vmem, ⟨18, _⟩ => ⟨S2048x256, .bf16⟩
  | .local _ .vmem, ⟨19, _⟩ => ⟨S2048x256, .bf16⟩
  | .local _ .vmem, ⟨20, _⟩ => ⟨S64x11264, .bf16⟩
  | .local _ .vmem, ⟨21, _⟩ => ⟨S64x11264, .bf16⟩
  | .local _ .smem, ⟨0, _⟩ => ⟨S32x8, .f32⟩
  | _, _ => ⟨S24x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0_8 : Index := 0#32
  let arg0 : BitVec 32 := BitVec.ofNat 32 (i 0).val
  let v29 : Index := Scalar.indexCast arg0
  ![0, v29.toNat]
def k0_off2 (i : grid0.Coords) : Fin 2 → Nat :=
  let c1 : Index := 1#32
  let arg0 : BitVec 32 := BitVec.ofNat 32 (i 0).val
  let v34 : Index := Scalar.indexCast arg0
  ![1, v34.toNat]
def k0_off3 (i : grid0.Coords) : Fin 2 → Nat :=
  let c2 : Index := 2#32
  let arg0 : BitVec 32 := BitVec.ofNat 32 (i 0).val
  let v40 : Index := Scalar.indexCast arg0
  ![2, v40.toNat]
def k0_off4 (i : grid0.Coords) : Fin 2 → Nat :=
  let c3 : Index := 3#32
  let arg0 : BitVec 32 := BitVec.ofNat 32 (i 0).val
  let v46 : Index := Scalar.indexCast arg0
  ![3, v46.toNat]
def k0_off5 (i : grid0.Coords) : Fin 2 → Nat :=
  let c4 : Index := 4#32
  let arg0 : BitVec 32 := BitVec.ofNat 32 (i 0).val
  let v52 : Index := Scalar.indexCast arg0
  ![4, v52.toNat]
def k0_off6 (i : grid0.Coords) : Fin 2 → Nat :=
  let c5 : Index := 5#32
  let arg0 : BitVec 32 := BitVec.ofNat 32 (i 0).val
  let v58 : Index := Scalar.indexCast arg0
  ![5, v58.toNat]
def k0_off7 (i : grid0.Coords) : Fin 2 → Nat :=
  let c6 : Index := 6#32
  let arg0 : BitVec 32 := BitVec.ofNat 32 (i 0).val
  let v64 : Index := Scalar.indexCast arg0
  ![6, v64.toNat]
def k0_off8 (i : grid0.Coords) : Fin 2 → Nat :=
  let c7 : Index := 7#32
  let arg0 : BitVec 32 := BitVec.ofNat 32 (i 0).val
  let v70 : Index := Scalar.indexCast arg0
  ![7, v70.toNat]
def k0_off9 (i : grid0.Coords) : Fin 2 → Nat :=
  let c8 : Index := 8#32
  let arg0 : BitVec 32 := BitVec.ofNat 32 (i 0).val
  let v76 : Index := Scalar.indexCast arg0
  ![8, v76.toNat]
def k0_off10 (i : grid0.Coords) : Fin 2 → Nat :=
  let c9 : Index := 9#32
  let arg0 : BitVec 32 := BitVec.ofNat 32 (i 0).val
  let v82 : Index := Scalar.indexCast arg0
  ![9, v82.toNat]
def k0_off11 (i : grid0.Coords) : Fin 2 → Nat :=
  let c10 : Index := 10#32
  let arg0 : BitVec 32 := BitVec.ofNat 32 (i 0).val
  let v88 : Index := Scalar.indexCast arg0
  ![10, v88.toNat]
def k0_off12 (i : grid0.Coords) : Fin 2 → Nat :=
  let c11 : Index := 11#32
  let arg0 : BitVec 32 := BitVec.ofNat 32 (i 0).val
  let v94 : Index := Scalar.indexCast arg0
  ![11, v94.toNat]
def k0_off13 (i : grid0.Coords) : Fin 2 → Nat :=
  let c12 : Index := 12#32
  let arg0 : BitVec 32 := BitVec.ofNat 32 (i 0).val
  let v100 : Index := Scalar.indexCast arg0
  ![12, v100.toNat]
def k0_off14 (i : grid0.Coords) : Fin 2 → Nat :=
  let c13 : Index := 13#32
  let arg0 : BitVec 32 := BitVec.ofNat 32 (i 0).val
  let v106 : Index := Scalar.indexCast arg0
  ![13, v106.toNat]
def k0_off15 (i : grid0.Coords) : Fin 2 → Nat :=
  let c14 : Index := 14#32
  let arg0 : BitVec 32 := BitVec.ofNat 32 (i 0).val
  let v112 : Index := Scalar.indexCast arg0
  ![14, v112.toNat]
def k0_off16 (i : grid0.Coords) : Fin 2 → Nat :=
  let c15 : Index := 15#32
  let arg0 : BitVec 32 := BitVec.ofNat 32 (i 0).val
  let v118 : Index := Scalar.indexCast arg0
  ![15, v118.toNat]
def k0_off17 (i : grid0.Coords) : Fin 2 → Nat :=
  let c16 : Index := 16#32
  let arg0 : BitVec 32 := BitVec.ofNat 32 (i 0).val
  let v124 : Index := Scalar.indexCast arg0
  ![16, v124.toNat]
def k0_off18 (i : grid0.Coords) : Fin 2 → Nat :=
  let c17 : Index := 17#32
  let arg0 : BitVec 32 := BitVec.ofNat 32 (i 0).val
  let v130 : Index := Scalar.indexCast arg0
  ![17, v130.toNat]
def k0_off19 (i : grid0.Coords) : Fin 2 → Nat :=
  let c18 : Index := 18#32
  let arg0 : BitVec 32 := BitVec.ofNat 32 (i 0).val
  let v136 : Index := Scalar.indexCast arg0
  ![18, v136.toNat]
def k0_off20 (i : grid0.Coords) : Fin 2 → Nat :=
  let c19 : Index := 19#32
  let arg0 : BitVec 32 := BitVec.ofNat 32 (i 0).val
  let v142 : Index := Scalar.indexCast arg0
  ![19, v142.toNat]
def k0_off21 (i : grid0.Coords) : Fin 2 → Nat :=
  let c20 : Index := 20#32
  let arg0 : BitVec 32 := BitVec.ofNat 32 (i 0).val
  let v148 : Index := Scalar.indexCast arg0
  ![20, v148.toNat]
def k0_off22 (i : grid0.Coords) : Fin 2 → Nat :=
  let c21 : Index := 21#32
  let arg0 : BitVec 32 := BitVec.ofNat 32 (i 0).val
  let v154 : Index := Scalar.indexCast arg0
  ![21, v154.toNat]
def k0_off23 (i : grid0.Coords) : Fin 2 → Nat :=
  let c22 : Index := 22#32
  let arg0 : BitVec 32 := BitVec.ofNat 32 (i 0).val
  let v160 : Index := Scalar.indexCast arg0
  ![22, v160.toNat]
def k0_off24 (i : grid0.Coords) : Fin 2 → Nat :=
  let c23 : Index := 23#32
  let arg0 : BitVec 32 := BitVec.ofNat 32 (i 0).val
  let v166 : Index := Scalar.indexCast arg0
  ![23, v166.toNat]
def k0_off25 (i : grid0.Coords) : Fin 2 → Nat :=
  let c24 : Index := 24#32
  let arg0 : BitVec 32 := BitVec.ofNat 32 (i 0).val
  let v172 : Index := Scalar.indexCast arg0
  ![24, v172.toNat]
def k0_off26 (i : grid0.Coords) : Fin 2 → Nat :=
  let c25 : Index := 25#32
  let arg0 : BitVec 32 := BitVec.ofNat 32 (i 0).val
  let v178 : Index := Scalar.indexCast arg0
  ![25, v178.toNat]
def k0_off27 (i : grid0.Coords) : Fin 2 → Nat :=
  let c26 : Index := 26#32
  let arg0 : BitVec 32 := BitVec.ofNat 32 (i 0).val
  let v184 : Index := Scalar.indexCast arg0
  ![26, v184.toNat]
def k0_off28 (i : grid0.Coords) : Fin 2 → Nat :=
  let c27 : Index := 27#32
  let arg0 : BitVec 32 := BitVec.ofNat 32 (i 0).val
  let v378 : Index := Scalar.indexCast arg0
  ![27, v378.toNat]
def k0_off29 (i : grid0.Coords) : Fin 2 → Nat :=
  let c28 : Index := 28#32
  let arg0 : BitVec 32 := BitVec.ofNat 32 (i 0).val
  let v384 : Index := Scalar.indexCast arg0
  ![28, v384.toNat]
def k0_off30 (i : grid0.Coords) : Fin 2 → Nat :=
  let c29 : Index := 29#32
  let arg0 : BitVec 32 := BitVec.ofNat 32 (i 0).val
  let v442 : Index := Scalar.indexCast arg0
  ![29, v442.toNat]
def k0_off31 (i : grid0.Coords) : Fin 2 → Nat :=
  let c30 : Index := 30#32
  let arg0 : BitVec 32 := BitVec.ofNat 32 (i 0).val
  let v494 : Index := Scalar.indexCast arg0
  ![30, v494.toNat]
def k0_off32 (i : grid0.Coords) : Fin 2 → Nat :=
  let c31 : Index := 31#32
  let arg0 : BitVec 32 := BitVec.ofNat 32 (i 0).val
  let v546 : Index := Scalar.indexCast arg0
  ![31, v546.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![c0_i32.toNat, v2.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage1_0 : Fin 2 → Memref sig .tc .vmem S1x2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S4x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x64x11264 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x11264 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S24x8192x256 : Shape := ⟨3, ![24, 8192, 256]⟩
abbrev S32x8 : Shape := ⟨2, ![32, 8]⟩
abbrev S1x4x128 : Shape := ⟨3, ![1, 4, 128]⟩
abbrev S1x256 : Shape := ⟨2, ![1, 256]⟩
abbrev S1x2048x6144 : Shape := ⟨3, ![1, 2048, 6144]⟩
abbrev S2x2048x11264 : Shape := ⟨3, ![2, 2048, 11264]⟩
abbrev S3x8x4x2048x256 : Shape := ⟨5, ![3, 8, 4, 2048, 256]⟩
abbrev S1x8x4x2048x256 : Shape := ⟨5, ![1, 8, 4, 2048, 256]⟩
abbrev S8x4x2048x256 : Shape := ⟨4, ![8, 4, 2048, 256]⟩
abbrev S8x4x2048x2x128 : Shape := ⟨5, ![8, 4, 2048, 2, 128]⟩
abbrev S4x128 : Shape := ⟨2, ![4, 128]⟩
abbrev S1x128 : Shape := ⟨2, ![1, 128]⟩
abbrev S128 : Shape := ⟨1, ![128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S8x4x2x2048x2048 : Shape := ⟨5, ![8, 4, 2, 2048, 2048]⟩
abbrev S8x1x1x2048x2048 : Shape := ⟨5, ![8, 1, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S4x8x256x2048 : Shape := ⟨4, ![4, 8, 256, 2048]⟩
abbrev S4x2048x8x256 : Shape := ⟨4, ![4, 2048, 8, 256]⟩
abbrev S4x2048x8 : Shape := ⟨3, ![4, 2048, 8]⟩
abbrev S4x2048x8x1 : Shape := ⟨4, ![4, 2048, 8, 1]⟩
abbrev S256 : Shape := ⟨1, ![256]⟩
abbrev S1x1x1x256 : Shape := ⟨4, ![1, 1, 1, 256]⟩
abbrev S8192x2048 : Shape := ⟨2, ![8192, 2048]⟩
abbrev S2048x6144 : Shape := ⟨2, ![2048, 6144]⟩
abbrev S1x2048x11264 : Shape := ⟨3, ![1, 2048, 11264]⟩
abbrev S2048x11264 : Shape := ⟨2, ![2048, 11264]⟩

abbrev nBuf : Space → Nat
  | .hbm => 142
  | .vmem => 0
  | .smem => 0
  | _ => 0

abbrev hbmTy0_0 (i : Nat) : BufTy := match i % 128 with
  | 0 => ⟨S24x8192x256, .bf16⟩
  | 1 => ⟨S32x8, .f32⟩
  | 2 => ⟨S1x4x128, .f32⟩
  | 3 => ⟨S1x256, .f32⟩
  | 4 => ⟨S1x2048x6144, .f32⟩
  | 5 => ⟨S2x2048x11264, .f32⟩
  | 6 => ⟨S24x8192x256, .f32⟩
  | 7 => ⟨S3x8x4x2048x256, .f32⟩
  | 8 => ⟨S1x8x4x2048x256, .f32⟩
  | 9 => ⟨S8x4x2048x256, .f32⟩
  | 10 => ⟨S8x4x2048x2x128, .f32⟩
  | 11 => ⟨S1x8x4x2048x256, .f32⟩
  | 12 => ⟨S8x4x2048x256, .f32⟩
  | 13 => ⟨S8x4x2048x2x128, .f32⟩
  | 14 => ⟨S1x8x4x2048x256, .f32⟩
  | 15 => ⟨S8x4x2048x256, .f32⟩
  | 16 => ⟨S4x128, .f32⟩
  | 17 => ⟨S1x128, .f32⟩
  | 18 => ⟨S128, .f32⟩
  | 19 => ⟨S1x128, .f32⟩
  | 20 => ⟨S128, .f32⟩
  | 21 => ⟨S128, .f32⟩
  | 22 => ⟨S_, .f32⟩
  | 23 => ⟨S_, .f32⟩
  | 24 => ⟨S_, .f32⟩
  | 25 => ⟨S1x128, .f32⟩
  | 26 => ⟨S128, .f32⟩
  | 27 => ⟨S1x128, .f32⟩
  | 28 => ⟨S128, .f32⟩
  | 29 => ⟨S128, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S2048, .i32⟩
  | 37 => ⟨S2048x1, .i32⟩
  | 38 => ⟨S1x2048, .i32⟩
  | 39 => ⟨S2048x2048, .i32⟩
  | 40 => ⟨S2048x2048, .i32⟩
  | 41 => ⟨S2048x2048, .i32⟩
  | 42 => ⟨S_, .i32⟩
  | 43 => ⟨S2048x2048, .i32⟩
  | 44 => ⟨S2048x2048, .i32⟩
  | 45 => ⟨S_, .i32⟩
  | 46 => ⟨S2048x2048, .i32⟩
  | 47 => ⟨S2048x2048, .i32⟩
  | 48 => ⟨S2048x2048, .f32⟩
  | 49 => ⟨S_, .f32⟩
  | 50 => ⟨S2048x2048, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S2048x2048, .i32⟩
  | 60 => ⟨S_, .i32⟩
  | 61 => ⟨S2048x2048, .i32⟩
  | 62 => ⟨S2048x2048, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i1⟩
  | 69 => ⟨S2048x2048, .i32⟩
  | 70 => ⟨S_, .i32⟩
  | 71 => ⟨S2048x2048, .i32⟩
  | 72 => ⟨S2048x2048, .i1⟩
  | 73 => ⟨S_, .i32⟩
  | 74 => ⟨S2048x2048, .i32⟩
  | 75 => ⟨S2048x2048, .i32⟩
  | 76 => ⟨S2048x2048, .i32⟩
  | 77 => ⟨S2048x2048x1, .i32⟩
  | 78 => ⟨S2048x2048x8, .f32⟩
  | 79 => ⟨S8x2048x2048, .f32⟩
  | 80 => ⟨S8x4x2x2048x2048, .f32⟩
  | 81 => ⟨S8x1x1x2048x2048, .f32⟩
  | 82 => ⟨S8x4x2x2048x2048, .f32⟩
  | 83 => ⟨S8x4x2x2048x2048, .f32⟩
  | 84 => ⟨S_, .i32⟩
  | 85 => ⟨S2048x2048, .i32⟩
  | 86 => ⟨S2048x2048, .i1⟩
  | 87 => ⟨S_, .f32⟩
  | 88 => ⟨S_, .f32⟩
  | 89 => ⟨S8x4x2x2048x2048, .i1⟩
  | 90 => ⟨S8x4x2x2048x2048, .f32⟩
  | 91 => ⟨S8x4x2x2048x2048, .f32⟩
  | 92 => ⟨S_, .f32⟩
  | 93 => ⟨S8x4x2x2048, .f32⟩
  | 94 => ⟨S_, .f32⟩
  | 95 => ⟨S8x4x2x2048, .f32⟩
  | 96 => ⟨S8x4x2x2048, .f32⟩
  | 97 => ⟨S8x4x2x2048x1, .f32⟩
  | 98 => ⟨S8x4x2x2048x2048, .f32⟩
  | 99 => ⟨S8x4x2x2048x2048, .f32⟩
  | 100 => ⟨S8x4x2x2048x2048, .f32⟩
  | 101 => ⟨S_, .f32⟩
  | 102 => ⟨S8x4x2x2048, .f32⟩
  | 103 => ⟨S8x4x2x2048x1, .f32⟩
  | 104 => ⟨S8x4x2x2048x2048, .f32⟩
  | 105 => ⟨S8x4x2x2048x2048, .f32⟩
  | 106 => ⟨S8x4x1x2048x2048, .f32⟩
  | 107 => ⟨S8x4x2048x2048, .f32⟩
  | 108 => ⟨S8x4x1x2048x2048, .f32⟩
  | 109 => ⟨S8x4x2048x2048, .f32⟩
  | 110 => ⟨S8x4x2048x2048, .f32⟩
  | 111 => ⟨S8x4x2048x2048, .f32⟩
  | 112 => ⟨S8x4x2048x2048, .f32⟩
  | 113 => ⟨S4x8x256x2048, .f32⟩
  | 114 => ⟨S4x2048x8x256, .f32⟩
  | 115 => ⟨S4x2048x8x256, .f32⟩
  | 116 => ⟨S_, .f32⟩
  | 117 => ⟨S4x2048x8, .f32⟩
  | 118 => ⟨S4x2048x8x1, .f32⟩
  | 119 => ⟨S_, .f32⟩
  | 120 => ⟨S4x2048x8x1, .f32⟩
  | 121 => ⟨S4x2048x8x1, .f32⟩
  | 122 => ⟨S_, .f32⟩
  | 123 => ⟨S4x2048x8x1, .f32⟩
  | 124 => ⟨S4x2048x8x1, .f32⟩
  | 125 => ⟨S4x2048x8x1, .f32⟩
  | 126 => ⟨S4x2048x8x256, .f32⟩
  | 127 => ⟨S4x2048x8x256, .f32⟩
  | _ => ⟨S24x8192x256, .bf16⟩

abbrev hbmTy0_1 (i : Nat) : BufTy := match i % 128 with
  | 0 => ⟨S256, .f32⟩
  | 1 => ⟨S1x1x1x256, .f32⟩
  | 2 => ⟨S4x2048x8x256, .f32⟩
  | 3 => ⟨S4x2048x8x256, .f32⟩
  | 4 => ⟨S_, .f32⟩
  | 5 => ⟨S4x2048x8x256, .f32⟩
  | 6 => ⟨S4x2048x8x256, .f32⟩
  | 7 => ⟨S8192x2048, .f32⟩
  | 8 => ⟨S8192x2048, .bf16⟩
  | 9 => ⟨S2048x6144, .f32⟩
  | 10 => ⟨S2048x6144, .bf16⟩
  | 11 => ⟨S1x2048x11264, .f32⟩
  | 12 => ⟨S2048x11264, .f32⟩
  | 13 => ⟨S2048x11264, .bf16⟩
  | _ => ⟨S24x8192x256, .bf16⟩

abbrev hbmTy (i : Nat) : BufTy := match i / 128 with
  | 0 => hbmTy0_0 i
  | 1 => hbmTy0_1 i
  | _ => ⟨S24x8192x256, .bf16⟩

abbrev bufTy : (tb : Table) → Fin (tcTables nBuf tb) → BufTy
  | .hbm, ⟨i, _⟩ => hbmTy i
  | _, _ => ⟨S24x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_6 : Ref sig .tc := ⟨.hbm, 60, rfl⟩
abbrev main_v46 : Ref sig .tc := ⟨.hbm, 61, rfl⟩
abbrev main_v47 : Ref sig .tc := ⟨.hbm, 62, rfl⟩
abbrev main_c_7 : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_11 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_19 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩

abbrev nD : Nat := 1
abbrev τ : Topo := Topo.v7x

variable {F : FTy → Type} [FloatOps F]
-- ==== Kernel2.lean ====
abbrev S8192x2048 : Shape := ⟨2, ![8192, 2048]⟩
abbrev S2x2048 : Shape := ⟨2, ![2, 2048]⟩
abbrev S2048x11264 : Shape := ⟨2, ![2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S1x2048 : Shape := ⟨2, ![1, 2048]⟩
abbrev S2048 : Shape := ⟨1, ![2048]⟩
abbrev S1x2048x11264 : Shape := ⟨3, ![1, 2048, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S8192x5632 : Shape := ⟨2, ![8192, 5632]⟩
abbrev S5632x2048 : Shape := ⟨2, ![5632, 2048]⟩
abbrev S1024x2048 : Shape := ⟨2, ![1024, 2048]⟩
abbrev S16x2048 : Shape := ⟨2, ![16, 2048]⟩
abbrev S1x2048x512 : Shape := ⟨3, ![1, 2048, 512]⟩
abbrev S3x512 : Shape := ⟨2, ![3, 512]⟩
abbrev S1x512 : Shape := ⟨2, ![1, 512]⟩
abbrev S1x64x2048 : Shape := ⟨3, ![1, 64, 2048]⟩
abbrev S1024x512 : Shape := ⟨2, ![1024, 512]⟩
abbrev S64x2048 : Shape := ⟨2, ![64, 2048]⟩
abbrev S1040x2048 : Shape := ⟨2, ![1040, 2048]⟩
abbrev S1040x512 : Shape := ⟨2, ![1040, 512]⟩
abbrev S16 : Shape := ⟨1, ![16]⟩
abbrev S16x1 : Shape := ⟨2, ![16, 1]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S272x2048 : Shape := ⟨2, ![272, 2048]⟩
abbrev S272x512 : Shape := ⟨2, ![272, 512]⟩
abbrev S256x512 : Shape := ⟨2, ![256, 512]⟩

abbrev nBuf : Space → Nat
  | .hbm => 18
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x11264, .bf16⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S1x2048, .f32⟩
  | .hbm, ⟨7, _⟩ => ⟨S2048, .f32⟩
  | .hbm, ⟨8, _⟩ => ⟨S1x2048x11264, .bf16⟩
  | .hbm, ⟨9, _⟩ => ⟨S1x3x11264, .f32⟩
  | .hbm, ⟨10, _⟩ => ⟨S3x11264, .f32⟩
  | .hbm, ⟨11, _⟩ => ⟨S1x11264, .f32⟩
  | .hbm, ⟨12, _⟩ => ⟨S11264, .f32⟩
  | .hbm, ⟨13, _⟩ => ⟨S1x2048, .f32⟩
  | .hbm, ⟨14, _⟩ => ⟨S1x11264, .f32⟩
  | .hbm, ⟨15, _⟩ => ⟨S1x11264, .f32⟩
  | .hbm, ⟨16, _⟩ => ⟨S8192x5632, .bf16⟩
  | .hbm, ⟨17, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x64x2048, .f32⟩
  | .local _ .vmem, ⟨19, _⟩ => ⟨S1x64x2048, .f32⟩
  | .local _ .vmem, ⟨20, _⟩ => ⟨S1024x512, .bf16⟩
  | .local _ .vmem, ⟨21, _⟩ => ⟨S1024x512, .bf16⟩
  | .local _ .vmem, ⟨22, _⟩ => ⟨S64x2048, .bf16⟩
  | .local _ .vmem, ⟨23, _⟩ => ⟨S64x2048, .bf16⟩
  | .local _ .vmem, ⟨24, _⟩ => ⟨S1040x2048, .bf16⟩
  | .local _ .vmem, ⟨25, _⟩ => ⟨S1040x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 11], ![false, false]⟩

def k0_cond4 (i : grid0.Coords) : BitVec 1 :=
  let arg1 : BitVec 32 := BitVec.ofNat 32 (i 1).val
  let c10_i32 : BitVec 32 := 10#32
  let v7 : BitVec 1 := Scalar.cmpi .slt arg1 c10_i32
  let v8 : BitVec 32 := Scalar.extui v7
  let c0_i32_5 : BitVec 32 := 0#32
  let v9 : BitVec 1 := Scalar.cmpi .ne v8 c0_i32_5
  v9

def k0_cond5 (i : grid0.Coords) : BitVec 1 :=
  let arg1 : BitVec 32 := BitVec.ofNat 32 (i 1).val
  let c10_i32_6 : BitVec 32 := 10#32
  let v10 : BitVec 1 := Scalar.cmpi .eq arg1 c10_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c10_i32 : BitVec 32 := 10#32
  let v1 : BitVec 32 := Scalar.minsi v0 c10_i32
  let c0_i32 : BitVec 32 := 0#32
  let c0_i32_0 : BitVec 32 := 0#32
  let c0_i32_1 : BitVec 32 := 0#32
  ![c0_i32.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c1_i32 : BitVec 32 := 1#32
  let c0_i32 : BitVec 32 := 0#32
  let c0_i32_0 : BitVec 32 := 0#32
  ![c1_i32.toNat, v2.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8192x2048 : Shape := ⟨2, ![8192, 2048]⟩
abbrev S2x2048 : Shape := ⟨2, ![2, 2048]⟩
abbrev S2048x11264 : Shape := ⟨2, ![2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S4x2048x2048 : Shape := ⟨3, ![4, 2048, 2048]⟩
abbrev S4x2048x11264 : Shape := ⟨3, ![4, 2048, 11264]⟩
abbrev S4x2050x11264 : Shape := ⟨3, ![4, 2050, 11264]⟩
abbrev S1x3x11264 : Shape := ⟨3, ![1, 3, 11264]⟩
abbrev S3x11264 : Shape := ⟨2, ![3, 11264]⟩
abbrev S1x11264 : Shape := ⟨2, ![1, 11264]⟩
abbrev S11264 : Shape := ⟨1, ![11264]⟩
abbrev S1x1x11264 : Shape := ⟨3, ![1, 1, 11264]⟩
abbrev S4x2048x5632 : Shape := ⟨3, ![4, 2048, 5632]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x11264, .bf16⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S1x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S4x2048x2048, .f32⟩
  | .hbm, ⟨25, _⟩ => ⟨S2048x11264, .f32⟩
  | .hbm, ⟨26, _⟩ => ⟨S4x2048x11264, .f32⟩
  | .hbm, ⟨27, _⟩ => ⟨S_, .i32⟩
  | .hbm, ⟨28, _⟩ => ⟨S_, .f32⟩
  | .hbm, ⟨29, _⟩ => ⟨S4x2050x11264, .f32⟩
  | .hbm, ⟨30, _⟩ => ⟨S1x3x11264, .f32⟩
  | .hbm, ⟨31, _⟩ => ⟨S3x11264, .f32⟩
  | .hbm, ⟨32, _⟩ => ⟨S1x11264, .f32⟩
  | .hbm, ⟨33, _⟩ => ⟨S11264, .f32⟩
  | .hbm, ⟨34, _⟩ => ⟨S4x2048x11264, .f32⟩
  | .hbm, ⟨35, _⟩ => ⟨S1x1x11264, .f32⟩
  | .hbm, ⟨36, _⟩ => ⟨S4x2048x11264, .f32⟩
  | .hbm, ⟨37, _⟩ => ⟨S4x2048x11264, .f32⟩
  | .hbm, ⟨38, _⟩ => ⟨S1x11264, .f32⟩
  | .hbm, ⟨39, _⟩ => ⟨S11264, .f32⟩
  | .hbm, ⟨40, _⟩ => ⟨S4x2048x11264, .f32⟩
  | .hbm, ⟨41, _⟩ => ⟨S1x1x11264, .f32⟩
  | .hbm, ⟨42, _⟩ => ⟨S4x2048x11264, .f32⟩
  | .hbm, ⟨43, _⟩ => ⟨S4x2048x11264, .f32⟩
  | .hbm, ⟨44, _⟩ => ⟨S4x2048x11264, .f32⟩
  | .hbm, ⟨45, _⟩ => ⟨S1x11264, .f32⟩
  | .hbm, ⟨46, _⟩ => ⟨S11264, .f32⟩
  | .hbm, ⟨47, _⟩ => ⟨S4x2048x11264, .f32⟩
  | .hbm, ⟨48, _⟩ => ⟨S1x1x11264, .f32⟩
  | .hbm, ⟨49, _⟩ => ⟨S4x2048x11264, .f32⟩
  | .hbm, ⟨50, _⟩ => ⟨S4x2048x11264, .f32⟩
  | .hbm, ⟨51, _⟩ => ⟨S4x2048x11264, .f32⟩
  | .hbm, ⟨52, _⟩ => ⟨S1x11264, .f32⟩
  | .hbm, ⟨53, _⟩ => ⟨S11264, .f32⟩
  | .hbm, ⟨54, _⟩ => ⟨S1x1x11264, .f32⟩
  | .hbm, ⟨55, _⟩ => ⟨S4x2048x11264, .f32⟩
  | .hbm, ⟨56, _⟩ => ⟨S4x2048x11264, .f32⟩
  | .hbm, ⟨57, _⟩ => ⟨S4x2048x5632, .f32⟩
  | .hbm, ⟨58, _⟩ => ⟨S4x2048x5632, .f32⟩
  | .hbm, ⟨59, _⟩ => ⟨S4x2048x5632, .f32⟩
  | .hbm, ⟨60, _⟩ => ⟨S4x2048x5632, .f32⟩
  | .hbm, ⟨61, _⟩ => ⟨S_, .f32⟩
  | .hbm, ⟨62, _⟩ => ⟨S4x2048x5632, .f32⟩
  | .hbm, ⟨63, _⟩ => ⟨S4x2048x5632, .f32⟩
  | .hbm, ⟨64, _⟩ => ⟨S_, .f32⟩
  | .hbm, ⟨65, _⟩ => ⟨S4x2048x5632, .f32⟩
  | .hbm, ⟨66, _⟩ => ⟨S4x2048x5632, .f32⟩
  | .hbm, ⟨67, _⟩ => ⟨S4x2048x5632, .f32⟩
  | .hbm, ⟨68, _⟩ => ⟨S4x2048x5632, .f32⟩
  | .hbm, ⟨69, _⟩ => ⟨S8192x5632, .f32⟩
  | .hbm, ⟨70, _⟩ => ⟨S8192x5632, .bf16⟩
  | .hbm, ⟨71, _⟩ => ⟨S1x5632x2048, .f32⟩
  | .hbm, ⟨72, _⟩ => ⟨S5632x2048, .f32⟩
  | .hbm, ⟨73, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S512x2048 : Shape := ⟨2, ![512, 2048]⟩
abbrev S256x2048 : Shape := ⟨2, ![256, 2048]⟩
abbrev S256x5632 : Shape := ⟨2, ![256, 5632]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S2x2048 : Shape := ⟨2, ![2, 2048]⟩
abbrev S2048x6144 : Shape := ⟨2, ![2048, 6144]⟩
abbrev S1x128 : Shape := ⟨2, ![1, 128]⟩
abbrev S6 : Shape := ⟨1, ![6]⟩
abbrev S1x2048 : Shape := ⟨2, ![1, 2048]⟩
abbrev S2048 : Shape := ⟨1, ![2048]⟩
abbrev S1x2048x6144 : Shape := ⟨3, ![1, 2048, 6144]⟩
abbrev S128 : Shape := ⟨1, ![128]⟩
abbrev S_ : Shape := ⟨0, ![]⟩
abbrev S16x128 : Shape := ⟨2, ![16, 128]⟩
abbrev S6144 : Shape := ⟨1, ![6144]⟩
abbrev S1x6144 : Shape := ⟨2, ![1, 6144]⟩
abbrev S24x8192x256 : Shape := ⟨3, ![24, 8192, 256]⟩
abbrev S1024x2048 : Shape := ⟨2, ![1024, 2048]⟩
abbrev S1x2048x1024 : Shape := ⟨3, ![1, 2048, 1024]⟩
abbrev S1x1024 : Shape := ⟨2, ![1, 1024]⟩
abbrev S4x1024x256 : Shape := ⟨3, ![4, 1024, 256]⟩
abbrev S8x256x128 : Shape := ⟨3, ![8, 256, 128]⟩
abbrev S1 : Shape := ⟨1, ![1]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 25
  | .vmem => 11
  | .smem => 1
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x6144, .bf16⟩
  | .hbm, ⟨3, _⟩ => ⟨S1x128, .f32⟩
  | .hbm, ⟨4, _⟩ => ⟨S1x128, .f32⟩
  | .hbm, ⟨5, _⟩ => ⟨S1x2048, .f32⟩
  | .hbm, ⟨6, _⟩ => ⟨S2048, .f32⟩
  | .hbm, ⟨7, _⟩ => ⟨S1x2048x6144, .bf16⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S16x128, .f32⟩
  | .hbm, ⟨15, _⟩ => ⟨S2048, .f32⟩
  | .hbm, ⟨16, _⟩ => ⟨S1x128, .f32⟩
  | .hbm, ⟨17, _⟩ => ⟨S16x128, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S6144, .f32⟩
  | .hbm, ⟨22, _⟩ => ⟨S1x2048, .f32⟩
  | .hbm, ⟨23, _⟩ => ⟨S1x6144, .f32⟩
  | .hbm, ⟨24, _⟩ => ⟨S24x8192x256, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S4x1024x256, .bf16⟩
  | .local _ .vmem, ⟨8, _⟩ => ⟨S4x1024x256, .bf16⟩
  | .local _ .vmem, ⟨9, _⟩ => ⟨S1024x2048, .bf16⟩
  | .local _ .vmem, ⟨10, _⟩ => ⟨S8x256x128, .f32⟩
  | .local _ .smem, ⟨0, _⟩ => ⟨S6, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg1 : BitVec 32 := BitVec.ofNat 32 (i 1).val
  let c0_i32_0 : BitVec 32 := 0#32
  let v3 : BitVec 1 := Scalar.cmpi .eq arg1 c0_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg1 : BitVec 32 := BitVec.ofNat 32 (i 1).val
  let c0_i32_2 : BitVec 32 := 0#32
  let v7 : BitVec 1 := Scalar.cmpi .sgt arg1 c0_i32_2
  let v8 : BitVec 32 := Scalar.extui v7
  let c0_i32_3 : BitVec 32 := 0#32
  let v9 : BitVec 1 := Scalar.cmpi .slt arg1 c0_i32_3
  let v10 : BitVec 32 := Scalar.extui v9
  let v11 : BitVec 32 := Scalar.subi v8 v10
  let c6_i32 : BitVec 32 := 6#32
  let c0_i32_4 : BitVec 32 := 0#32
  let v12 : BitVec 1 := Scalar.cmpi .sgt c6_i32 c0_i32_4
  let v13 : BitVec 32 := Scalar.extui v12
  let c0_i32_5 : BitVec 32 := 0#32
  let v14 : BitVec 1 := Scalar.cmpi .slt c6_i32 c0_i32_5
  let v15 : BitVec 32 := Scalar.extui v14
  let v16 : BitVec 32 := Scalar.subi v13 v15
  let v17 : BitVec 1 := Scalar.cmpi .ne v11 v16
  let v18 : BitVec 32 := Scalar.remsi arg1 c6_i32
  let c0_i32_6 : BitVec 32 := 0#32
  let v19 : BitVec 1 := Scalar.cmpi .ne v18 c0_i32_6
  let v20 : BitVec 1 := Scalar.andi v17 v19
  let v6 : BitVec 32 := Scalar.divsi arg1 c6_i32
  let c1_i32 : BitVec 32 := 1#32
  let v21 : BitVec 32 := Scalar.subi v6 c1_i32
  let v22 : BitVec 32 := Scalar.select v20 v21 v6
  let c0_i32_7 : BitVec 32 := 0#32
  let v23 : BitVec 1 := Scalar.cmpi .eq v22 c0_i32_7
  let c0_i32_8 : BitVec 32 := 0#32
  let v24 : BitVec 1 := Scalar.cmpi .sgt arg1 c0_i32_8
  let v25 : BitVec 1 := Scalar.andi v23 v24
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![v2.toNat, arg0.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x2048 : Shape := ⟨2, ![8192, 2048]⟩
abbrev S2x2048 : Shape := ⟨2, ![2, 2048]⟩
abbrev S2048x6144 : Shape := ⟨2, ![2048, 6144]⟩
abbrev S1x128 : Shape := ⟨2, ![1, 128]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x8x2x128 : Shape := ⟨4, ![8192, 8, 2, 128]⟩
abbrev S128 : Shape := ⟨1, ![128]⟩
abbrev S8192x8x2 : Shape := ⟨3, ![8192, 8, 2]⟩
abbrev S8192x8x2x1 : Shape := ⟨4, ![8192, 8, 2, 1]⟩
abbrev S1x1x1x128 : Shape := ⟨4, ![1, 1, 1, 128]⟩
abbrev S8192x8x256 : Shape := ⟨3, ![8192, 8, 256]⟩
abbrev S1x8192x8x256 : Shape := ⟨4, ![1, 8192, 8, 256]⟩
abbrev S3x8192x8x256 : Shape := ⟨4, ![3, 8192, 8, 256]⟩
abbrev S3x8x8192x256 : Shape := ⟨4, ![3, 8, 8192, 256]⟩
abbrev S24x8192x256 : Shape := ⟨3, ![24, 8192, 256]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2048x6144, .bf16⟩
  | .hbm, ⟨3, _⟩ => ⟨S1x128, .f32⟩
  | .hbm, ⟨4, _⟩ => ⟨S1x128, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x6144, .f32⟩
  | .hbm, ⟨24, _⟩ => ⟨S8192x6144, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x8x2x128, .f32⟩
  | .hbm, ⟨29, _⟩ => ⟨S128, .f32⟩
  | .hbm, ⟨30, _⟩ => ⟨S8192x8x2x128, .f32⟩
  | .hbm, ⟨31, _⟩ => ⟨S_, .f32⟩
  | .hbm, ⟨32, _⟩ => ⟨S8192x8x2, .f32⟩
  | .hbm, ⟨33, _⟩ => ⟨S8192x8x2x1, .f32⟩
  | .hbm, ⟨34, _⟩ => ⟨S_, .f32⟩
  | .hbm, ⟨35, _⟩ => ⟨S8192x8x2x1, .f32⟩
  | .hbm, ⟨36, _⟩ => ⟨S8192x8x2x1, .f32⟩
  | .hbm, ⟨37, _⟩ => ⟨S_, .f32⟩
  | .hbm, ⟨38, _⟩ => ⟨S8192x8x2x1, .f32⟩
  | .hbm, ⟨39, _⟩ => ⟨S8192x8x2x1, .f32⟩
  | .hbm, ⟨40, _⟩ => ⟨S8192x8x2x1, .f32⟩
  | .hbm, ⟨41, _⟩ => ⟨S8192x8x2x128, .f32⟩
  | .hbm, ⟨42, _⟩ => ⟨S8192x8x2x128, .f32⟩
  | .hbm, ⟨43, _⟩ => ⟨S1x1x1x128, .f32⟩
  | .hbm, ⟨44, _⟩ => ⟨S8192x8x2x128, .f32⟩
  | .hbm, ⟨45, _⟩ => ⟨S8192x8x2x128, .f32⟩
  | .hbm, ⟨46, _⟩ => ⟨S_, .f32⟩
  | .hbm, ⟨47, _⟩ => ⟨S8192x8x2x128, .f32⟩
  | .hbm, ⟨48, _⟩ => ⟨S8192x8x2x128, .f32⟩
  | .hbm, ⟨49, _⟩ => ⟨S8192x8x2x128, .f32⟩
  | .hbm, ⟨50, _⟩ => ⟨S128, .f32⟩
  | .hbm, ⟨51, _⟩ => ⟨S8192x8x2x128, .f32⟩
  | .hbm, ⟨52, _⟩ => ⟨S_, .f32⟩
  | .hbm, ⟨53, _⟩ => ⟨S8192x8x2, .f32⟩
  | .hbm, ⟨54, _⟩ => ⟨S8192x8x2x1, .f32⟩
  | .hbm, ⟨55, _⟩ => ⟨S_, .f32⟩
  | .hbm, ⟨56, _⟩ => ⟨S8192x8x2x1, .f32⟩
  | .hbm, ⟨57, _⟩ => ⟨S8192x8x2x1, .f32⟩
  | .hbm, ⟨58, _⟩ => ⟨S_, .f32⟩
  | .hbm, ⟨59, _⟩ => ⟨S8192x8x2x1, .f32⟩
  | .hbm, ⟨60, _⟩ => ⟨S8192x8x2x1, .f32⟩
  | .hbm, ⟨61, _⟩ => ⟨S8192x8x2x1, .f32⟩
  | .hbm, ⟨62, _⟩ => ⟨S8192x8x2x128, .f32⟩
  | .hbm, ⟨63, _⟩ => ⟨S8192x8x2x128, .f32⟩
  | .hbm, ⟨64, _⟩ => ⟨S1x1x1x128, .f32⟩
  | .hbm, ⟨65, _⟩ => ⟨S8192x8x2x128, .f32⟩
  | .hbm, ⟨66, _⟩ => ⟨S8192x8x2x128, .f32⟩
  | .hbm, ⟨67, _⟩ => ⟨S8192x8x256, .f32⟩
  | .hbm, ⟨68, _⟩ => ⟨S8192x8x256, .f32⟩
  | .hbm, ⟨69, _⟩ => ⟨S8192x8x256, .f32⟩
  | .hbm, ⟨70, _⟩ => ⟨S1x8192x8x256, .f32⟩
  | .hbm, ⟨71, _⟩ => ⟨S1x8192x8x256, .f32⟩
  | .hbm, ⟨72, _⟩ => ⟨S1x8192x8x256, .f32⟩
  | .hbm, ⟨73, _⟩ => ⟨S3x8192x8x256, .f32⟩
  | .hbm, ⟨74, _⟩ => ⟨S3x8x8192x256, .f32⟩
  | .hbm, ⟨75, _⟩ => ⟨S24x8192x256, .f32⟩
  | .hbm, ⟨76, _⟩ => ⟨S24x8192x256, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Proof.Bucket.lean ====
module

public import Idealize.ShloMosaic.PureOps.Ideal.Laws
public import Mathlib.Analysis.SpecialFunctions.Log.Basic
public import Mathlib.Tactic.IntervalCases

/-!
# The relative-position bucket

Both programs turn a distance `query − key` into a bucket number by the same scalar operations:
below sixteen the distance itself, from there on sixteen plus the scaled logarithm rounded down, at
most thirty-one. Here the function is written once, its value on the distances that occur is bounded,
and those bounds are what lets the kernel look only at a few buckets per band of the table.
-/

@[expose] public section

noncomputable section

namespace Cert.DiffAttn

open Idealize.ShloMosaic

/-- The bucket of a distance word, in the operations both programs apply. -/
def bucketOf (x : BitVec 32) : BitVec 32 :=
  Scalar.select (IntOp.cmpi .slt (IntOp.maxsi x 0#32) 16#32) (IntOp.maxsi x 0#32)
    (IntOp.minsi (IntOp.addi 16#32 (Ideal.fptosi 32
      (Ideal.div (Ideal.log (Ideal.div (((IntOp.maxsi (IntOp.maxsi x 0#32) 1#32).toInt : ℝ) : EReal)
          (Ideal.ofBits .f32 0x41800000#32)))
        (Ideal.ofBits .f32 0x409B43D5#32) * Ideal.ofBits .f32 0x41800000#32))) 31#32)

/-- The number the rounded constant `log 128` stands for. -/
def logWidth : ℝ := 10175445 / 2097152

theorem ofBits_sixteen : Ideal.ofBits .f32 0x41800000#32 = ((16 : ℝ) : EReal) := by
  simp [Ideal.ofBits, Ideal.ieee, -EReal.coe_mul]; norm_num

theorem ofBits_logWidth : Ideal.ofBits .f32 0x409B43D5#32 = ((logWidth : ℝ) : EReal) := by
  simp [Ideal.ofBits, Ideal.ieee, logWidth, -EReal.coe_mul]; norm_num

/-- The scaled logarithm of a distance. -/
def scaled (n : ℕ) : ℝ := Real.log ((n : ℝ) * (1 / 16)) * (1 / logWidth) * 16

/-- `log 2` from above, by `log x ≤ x − 1` at a sixty-fourth root. -/
theorem log_two_upper : Real.log 2 < 0.698 := by
  have h1 := Real.log_le_sub_one_of_pos (x := 1.0109) (by norm_num)
  have h2 : Real.log 2 ≤ Real.log ((1.0109 : ℝ) ^ 64) :=
    Real.log_le_log (by norm_num) (by norm_num)
  rw [Real.log_pow] at h2
  norm_num at *; linarith

/-- `log 2` from below, the same way from the reciprocal. -/
theorem log_two_lower : 0.687 < Real.log 2 := by
  have h1 := Real.log_le_sub_one_of_pos (x := 0.98925) (by norm_num)
  have h2 : Real.log (2⁻¹) ≤ Real.log ((0.98925 : ℝ) ^ 64) :=
    Real.log_le_log (by norm_num) (by norm_num)
  rw [Real.log_pow, Real.log_inv] at h2
  norm_num at *; linarith

theorem logWidth_pos : 0 < logWidth := by unfold logWidth; norm_num

/-- Sixteen logarithms are the logarithm of the sixteenth power. -/
theorem scaled_eq (n : ℕ) : scaled n = Real.log (((n : ℝ) * (1 / 16)) ^ 16) / logWidth := by
  rw [Real.log_pow]; unfold scaled; push_cast; ring

/-- From a distance whose sixteenth power is large enough on, the scaled logarithm is at least `k`. -/
theorem le_scaled {lo k : ℕ} (hk : k ≤ 15) (hlo : 0 < lo)
    (hpow : 2 ^ (7 * k + 1) * 16 ^ 16 ≤ lo ^ 16) {n : ℕ} (h : lo ≤ n) : (k : ℝ) ≤ scaled n := by
  rw [scaled_eq, le_div_iff₀ logWidth_pos]
  have h1 : (2 : ℝ) ^ (7 * k + 1) ≤ ((n : ℝ) * (1 / 16)) ^ 16 := by
    have h2 : (2 : ℝ) ^ (7 * k + 1) * 16 ^ 16 ≤ (lo : ℝ) ^ 16 := by exact_mod_cast hpow
    have h3 : (lo : ℝ) ^ 16 ≤ (n : ℝ) ^ 16 := by
      have : (lo : ℝ) ≤ n := by exact_mod_cast h
      gcongr
    rw [mul_pow, div_pow, one_pow, mul_one_div, le_div_iff₀ (by positivity)]
    linarith
  have h4 := Real.log_le_log (by positivity) h1
  rw [Real.log_pow] at h4
  have h6 := log_two_lower
  have h7 : (k : ℝ) ≤ 15 := by exact_mod_cast hk
  have h8 : (0 : ℝ) ≤ k := by positivity
  push_cast at h4
  have h9 : ((7 * k + 1 : ℝ)) * 0.687 ≤ (7 * k + 1) * Real.log 2 := by gcongr
  unfold logWidth
  norm_num at h4 h6 h9 ⊢
  linarith

/-- Up to a distance whose sixteenth power is small enough, the scaled logarithm is below `k`. -/
theorem scaled_lt {hi k : ℕ} (hk : 0 < k) (hk' : k ≤ 17)
    (hpow : hi ^ 16 ≤ 2 ^ (7 * k - 1) * 16 ^ 16) {n : ℕ} (hn : 0 < n) (h : n ≤ hi) : scaled n < (k : ℝ) := by
  rw [scaled_eq, div_lt_iff₀ logWidth_pos]
  have hn' : (0 : ℝ) < n := by exact_mod_cast hn
  have h1 : ((n : ℝ) * (1 / 16)) ^ 16 ≤ (2 : ℝ) ^ (7 * k - 1) := by
    have h2 : (hi : ℝ) ^ 16 ≤ (2 : ℝ) ^ (7 * k - 1) * 16 ^ 16 := by exact_mod_cast hpow
    have h3 : (n : ℝ) ^ 16 ≤ (hi : ℝ) ^ 16 := by
      have : (n : ℝ) ≤ hi := by exact_mod_cast h
      gcongr
    rw [mul_pow, div_pow, one_pow, mul_one_div, div_le_iff₀ (by positivity)]
    linarith
  have h4 := Real.log_le_log (by positivity) h1
  rw [Real.log_pow (2 : ℝ)] at h4
  have h5 := log_two_upper
  have h7 : (0 : ℝ) < k := by exact_mod_cast hk
  have h8 : (k : ℝ) ≤ 17 := by exact_mod_cast hk'
  have h10 : (1 : ℝ) ≤ k := by exact_mod_cast hk
  rw [Nat.cast_sub (by omega)] at h4
  push_cast at h4 ⊢
  have h9 : ((7 * k - 1 : ℝ)) * Real.log 2 ≤ (7 * k - 1) * 0.698 := by
    gcongr
    linarith
  unfold logWidth
  norm_num at h4 h5 h9 ⊢
  linarith

/-- A distance below sixteen is its own bucket. -/
theorem bucketOf_small {n : ℕ} (h : n < 16) : bucketOf (BitVec.ofNat 32 n) = BitVec.ofNat 32 n := by
  have e : IntOp.maxsi (BitVec.ofNat 32 n) 0#32 = BitVec.ofNat 32 n := by
    interval_cases n <;> decide
  have c : IntOp.cmpi .slt (BitVec.ofNat 32 n) 16#32 = 1#1 := by
    interval_cases n <;> decide
  unfold bucketOf
  rw [e, c]
  rfl

/-- A distance of sixteen and more has bucket sixteen plus the scaled logarithm rounded down, at most
    thirty-one. -/
theorem bucketOf_large {n : ℕ} (h : 16 ≤ n) (hn : n < 2048) :
    bucketOf (BitVec.ofNat 32 n) = BitVec.ofNat 32 (min (16 + ⌊scaled n⌋₊) 31) := by
  have ht : (BitVec.ofNat 32 n).toInt = n := by
    rw [BitVec.toInt_eq_toNat_of_lt (by rw [BitVec.toNat_ofNat]; omega), BitVec.toNat_ofNat]
    congr 1
    omega
  have e : IntOp.maxsi (BitVec.ofNat 32 n) 0#32 = BitVec.ofNat 32 n := by
    unfold IntOp.maxsi
    rw [if_pos]
    rw [BitVec.slt_eq_decide, ht]; simp; omega
  have e1 : IntOp.maxsi (BitVec.ofNat 32 n) 1#32 = BitVec.ofNat 32 n := by
    unfold IntOp.maxsi
    rw [if_pos]
    rw [BitVec.slt_eq_decide, ht]; simp; omega
  have c : IntOp.cmpi .slt (BitVec.ofNat 32 n) 16#32 = 0#1 := by
    have : (BitVec.ofNat 32 n).slt 16#32 = false := by
      rw [BitVec.slt_eq_decide, ht]; simp; omega
    simp only [IntOp.cmpi, this]; rfl
  have hpos : (0 : ℝ) < (n : ℝ) * (1 / 16) := by
    have : (0 : ℝ) < n := by exact_mod_cast (by omega : 0 < n)
    positivity
  have s0 : 0 ≤ scaled n := by
    have h1 : (1 : ℝ) ≤ (n : ℝ) * (1 / 16) := by
      have : (16 : ℝ) ≤ n := by exact_mod_cast h
      linarith
    have := Real.log_nonneg h1
    have := logWidth_pos
    unfold scaled; positivity
  have s1 : scaled n < (17 : ℕ) :=
    scaled_lt (hi := 2047) (by norm_num) (by norm_num) (by norm_num) (by omega) (by omega)
  have hf : ⌊scaled n⌋₊ < 17 := (Nat.floor_lt s0).2 s1
  unfold bucketOf
  rw [e, c, e1, ht, ofBits_sixteen, ofBits_logWidth]
  rw [Ideal.div_coe (by norm_num : (16 : ℝ) ≠ 0), Ideal.div_coe logWidth_pos.ne']
  have hl : Ideal.log ((((n : ℤ) : ℝ) : EReal) * ((1 / 16 : ℝ) : EReal))
      = ((Real.log ((n : ℝ) * (1 / 16)) : ℝ) : EReal) := by
    rw [← EReal.coe_mul]
    show (if _ then _ else _) = _
    rw [if_neg (by push_cast; exact not_le.2 hpos)]
    push_cast; rfl
  rw [hl, ← EReal.coe_mul, ← EReal.coe_mul]
  have hfp : Ideal.fptosi 32 ((Real.log ((n : ℝ) * (1 / 16)) * (1 / logWidth) * 16 : ℝ) : EReal)
      = BitVec.ofNat 32 ⌊scaled n⌋₊ := by
    show BitVec.ofInt 32 (max _ (min _ (if (0 : ℝ) ≤ scaled n then ⌊scaled n⌋ else _))) = _
    rw [if_pos s0, ← Int.natCast_floor_eq_floor s0]
    rw [← BitVec.ofInt_natCast]
    congr 1
    norm_num
    omega
  rw [hfp]
  generalize ⌊scaled n⌋₊ = m at hf
  show IntOp.minsi _ _ = _
  interval_cases m <;> decide

/-- A negative distance has bucket zero. -/
theorem bucketOf_neg {x : BitVec 32} (h : x.toInt < 0) : bucketOf x = 0#32 := by
  have e : IntOp.maxsi x 0#32 = 0#32 := by
    unfold IntOp.maxsi
    rw [if_neg]
    rw [BitVec.slt_eq_decide]; simp; omega
  unfold bucketOf
  rw [e]
  rfl

/-- The bucket of a distance at least `lo` is at least `16 + k`, where `lo` is far enough out. -/
theorem bucketOf_ge {lo k : ℕ} (hk : k ≤ 15) (h16 : 16 ≤ lo)
    (hpow : 2 ^ (7 * k + 1) * 16 ^ 16 ≤ lo ^ 16) {n : ℕ} (h : lo ≤ n) (hn : n < 2048) :
    16 + k ≤ (bucketOf (BitVec.ofNat 32 n)).toNat := by
  rw [bucketOf_large (by omega) hn]
  have := Nat.le_floor (le_scaled (by omega) (by omega) hpow h)
  rw [BitVec.toNat_ofNat]
  omega

/-- The bucket of a distance at most `hi` is below `16 + k`, where `hi` is near enough. -/
theorem bucketOf_lt {hi k : ℕ} (hk : 0 < k) (hk' : k ≤ 17)
    (hpow : hi ^ 16 ≤ 2 ^ (7 * k - 1) * 16 ^ 16) {n : ℕ} (h : n ≤ hi) (hn : n < 2048) :
    (bucketOf (BitVec.ofNat 32 n)).toNat < 16 + k := by
  rcases Nat.lt_or_ge n 16 with h' | h'
  · rw [bucketOf_small h', BitVec.toNat_ofNat]; omega
  · rw [bucketOf_large h' hn]
    have := (Nat.floor_lt' (a := scaled n) hk.ne').2 (scaled_lt hk hk' hpow (by omega) h)
    rw [BitVec.toNat_ofNat]
    omega

/-- Every bucket number is at most thirty-one. -/
theorem bucketOf_le {n : ℕ} (hn : n < 2048) : (bucketOf (BitVec.ofNat 32 n)).toNat ≤ 31 := by
  rcases Nat.lt_or_ge n 16 with h' | h'
  · rw [bucketOf_small h', BitVec.toNat_ofNat]; omega
  · rw [bucketOf_large h' hn, BitVec.toNat_ofNat]; omega

end Cert.DiffAttn

end
-- ==== Proof.BiasTable.lean ====
module

public import proofs.«01_k».proof.Proof.Gen.KernelIdeal.Frame
public import proofs.«01_k».proof.Proof.Bucket
public import Idealize.ShloMosaic.Lib.Pointwise
public import Idealize.ShloMosaic.Lib.Pipeline.ValueKit.Tiles

/-!
# The bias table, as the first call leaves it

For one head the call fills eight tiles of 256 × 256. The entry of tile `d` at row `i` and column `l`
is the learned bias of the bucket of the distance `256 d + i − l`, and minus infinity where that
distance is negative (which only happens in tile zero).
-/

@[expose] public section

set_option maxRecDepth 65536

noncomputable section

namespace Cert.DiffAttn

open Idealize.ShloMosaic Idealize.ShloMosaic.TcCoe Cert.KernelIdeal Cert.KernelIdeal.Gen

/-- The bias a query position gives a key position: the entry of the distance's bucket, minus infinity
    for a key that comes later. -/
def biasOf (rb : Fin 32 → EReal) (q k : ℕ) : EReal :=
  if k ≤ q then rb (Fin.ofNat 32 (bucketOf (BitVec.ofNat 32 (q - k))).toNat) else ⊥

/-- The choice by comparison with one bucket number after another: `f lo` unless the bucket is one of
    the `n` numbers after `lo`, whose entry is then taken. -/
def chain (lo : ℕ) (B : BitVec 32) (f : ℕ → EReal) : ℕ → EReal
  | 0 => f lo
  | n + 1 => Scalar.select (IntOp.cmpi .eq B (BitVec.ofNat 32 (lo + n + 1))) (f (lo + n + 1))
      (chain lo B f n)

/-- The choice finds the bucket's own entry if the bucket is among the numbers compared. -/
theorem chain_eq (lo : ℕ) (B : BitVec 32) (f : ℕ → EReal) (n : ℕ) (hn : lo + n < 2 ^ 32)
    (h0 : lo ≤ B.toNat) (h1 : B.toNat ≤ lo + n) : chain lo B f n = f B.toNat := by
  induction n with
  | zero => rw [chain, (by omega : B.toNat = lo)]
  | succ n ih =>
    by_cases h : B.toNat = lo + n + 1
    · have : BitVec.ofNat 32 (lo + n + 1) = B := by
        apply BitVec.eq_of_toNat_eq
        rw [BitVec.toNat_ofNat]; omega
      rw [chain, this, h]
      simp [IntOp.cmpi, Scalar.select]
    · have : (B == BitVec.ofNat 32 (lo + n + 1)) = false := by
        rw [beq_eq_false_iff_ne]
        intro e
        apply h
        rw [e, BitVec.toNat_ofNat]; omega
      rw [chain, ih (by omega) (by omega)]
      simp only [IntOp.cmpi, this]
      rfl

/-- The entry of the bias array a scalar load reads: row `b`, the grid point's column. -/
def entry (i : grid0.Coords) (a1 : Memref sig .tc .smem S32x8 .f32) (h1 : a1.IsWhole)
    (x0 : Vec Ideal S32x8 .f32) (b : Fin 32)
    (hb : ∀ a, (![b.val, (Scalar.indexCast (BitVec.ofNat 32 (i 0).val)).toNat] : Fin 2 → ℕ) a + S1x1.size a ≤ S32x8.size a) : EReal :=
  View.readAt (Elt Ideal) a1.view
    (Rect.unit (s := S32x8) ![b.val, (Scalar.indexCast (BitVec.ofNat 32 (i 0).val)).toNat] S1x1.size hb).toLoadRect
    (h1.unread x0) (Shape.Idx.first (numel1_S1x1.symm ▸ Nat.one_pos))

theorem entry_eq (i : grid0.Coords) (a1 : Memref sig .tc .smem S32x8 .f32) (h1 : a1.IsWhole)
    (x0 : Vec Ideal S32x8 .f32) (b : Fin 32) (hb) :
    entry i a1 h1 x0 b hb = x0 (ValueIdx.ix2 b (i 0)) := by
  unfold entry
  rw [View.readAt_apply, h1.read_unread]
  congr 1
  have hi : (i 0).val < 8 := (i 0).isLt
  funext a; apply Fin.ext
  match a with
  | ⟨0, _⟩ => show b.val + 1 * 0 = b.val; omega
  | ⟨1, _⟩ =>
    show (BitVec.ofNat 32 (i 0).val).toNat + 1 * 0 = (i 0).val
    rw [BitVec.toNat_ofNat]; omega

/-- A load's offsets stay inside the bias array. -/
theorem entry_inb (i : grid0.Coords) (b : Fin 32) :
    ∀ a, (![b.val, (Scalar.indexCast (BitVec.ofNat 32 (i 0).val)).toNat] : Fin 2 → ℕ) a + S1x1.size a ≤ S32x8.size a := by
  have hi : (i 0).val < 8 := (i 0).isLt
  have hb := b.isLt
  intro a
  match a with
  | ⟨0, _⟩ => show b.val + 1 ≤ 32; omega
  | ⟨1, _⟩ =>
    show (BitVec.ofNat 32 (i 0).val).toNat + 1 ≤ 8
    rw [BitVec.toNat_ofNat]; omega

/-- The distance word of an entry of tile `d`. -/
def distWord (d : ℕ) (r l : Fin 256) : BitVec 32 :=
  BitVec.ofNat 32 (256 * d) + (BitVec.ofNat 32 r.val - BitVec.ofNat 32 l.val)

/-- An entry of tile `d` as the call chooses it. -/
def chosen (i : grid0.Coords) (a1 : Memref sig .tc .smem S32x8 .f32) (h1 : a1.IsWhole)
    (x0 : Vec Ideal S32x8 .f32) (lo n d : ℕ) (r l : Fin 256) : EReal :=
  chain lo (bucketOf (distWord d r l)) (fun b => entry i a1 h1 x0 (Fin.ofNat 32 b) (entry_inb i _)) n

/-- A 256 × 256 tile stored under two leading axes of extent one, read back. -/
theorem shapeCast_tile (v : FVec Ideal S256x256 .f32) (h) (j : S1x1x256x256.Idx) :
    shapeCast S1x1x256x256 v h j = v (ValueIdx.ix2 (j 2) (j 3)) := by
  pointwise
  rfl

theorem tile_inb (d : ℕ) (hd : d < 8) : ∀ a, (![0, d, 0, 0] : Fin 4 → ℕ) a + S1x1x256x256.size a ≤ S1x8x256x256.size a := by
  intro a
  match a with
  | ⟨0, _⟩ => show 0 + 1 ≤ 1; omega
  | ⟨1, _⟩ => show d + 1 ≤ 8; omega
  | ⟨2, _⟩ => show 0 + 256 ≤ 256; omega
  | ⟨3, _⟩ => show 0 + 256 ≤ 256; omega

variable (i : grid0.Coords) (x0 : Vec Ideal S32x8 .f32)

/-- The block of the table one grid point writes. -/
def tableBlock : Vec Ideal S1x8x256x256 .f32 := fun y =>
  biasOf (fun b => x0 (ValueIdx.ix2 b (i 0))) (256 * (y 1).val + (y 2).val) (y 3).val

/-- Away from tile zero the chosen entry is the bias of the distance. -/
theorem chosen_eq (a1 : Memref sig .tc .smem S32x8 .f32) (h1 : a1.IsWhole) (lo n d : ℕ) (r l : Fin 256)
    (hn : lo + n < 32) (hd : d < 8) (hle : l.val ≤ 256 * d + r.val)
    (h0 : lo ≤ (bucketOf (BitVec.ofNat 32 (256 * d + r.val - l.val))).toNat)
    (h2 : (bucketOf (BitVec.ofNat 32 (256 * d + r.val - l.val))).toNat ≤ lo + n) :
    chosen i a1 h1 x0 lo n d r l = biasOf (fun b => x0 (ValueIdx.ix2 b (i 0))) (256 * d + r.val) l.val := by
  have hr := r.isLt
  have hl := l.isLt
  have e : distWord d r l = BitVec.ofNat 32 (256 * d + r.val - l.val) := by
    unfold distWord
    apply BitVec.eq_of_toNat_eq
    rw [BitVec.toNat_add, BitVec.toNat_sub]
    simp only [BitVec.toNat_ofNat]
    omega
  unfold chosen biasOf
  rw [e, chain_eq _ _ _ _ (by omega) h0 h2, if_pos hle, entry_eq]

variable (c : Dev nD) (a1 : Memref sig .tc .smem S32x8 .f32) (h1 : a1.IsWhole)
  (a2 : Memref sig .tc .vmem S1x256x6144 .f32) (h2 : a2.IsWhole)
  (a3 : Memref sig .tc .vmem S1x8x256x256 .f32) (h3 : a3.IsWhole)
  (a4 : Memref sig .tc .vmem S256x6144 .bf16) (h4 : a4.IsWhole) (x1 : Vec Ideal S1x256x6144 .f32)

/-- A tile's place in the block. -/
theorem emb_tile (d : ℕ) (hd : d < 8) (j : S1x1x256x256.Idx) :
    tableBlock i x0 ((Rect.unit (s := S1x8x256x256) ![0, d, 0, 0] S1x1x256x256.size (tile_inb d hd)).emb j)
      = biasOf (fun b => x0 (ValueIdx.ix2 b (i 0))) (256 * d + (j 2).val) (j 3).val := by
  have h1 : (j 1).val < 1 := (j 1).isLt
  show biasOf _ (256 * (d + 1 * (j 1).val) + (0 + 1 * (j 2).val)) (0 + 1 * (j 3).val) = _
  congr 1 <;> omega

/-- A tile's distances as the call computes them. -/
abbrev distVec (b : BitVec 32) : IVec S256x256 32 :=
  addi (broadcast S256x256 b)
    (subi (iota .tc S256x256 32 [0] iota_S256x256_d0_w32) (iota .tc S256x256 32 [1] iota_S256x256_d1_w32))

/-- A tile's buckets as the call computes them, from its distances. -/
abbrev bucketVec (v : IVec S256x256 32) : IVec S256x256 32 :=
  select (cmpi .slt (maxsi v (broadcast S256x256 0#32)) (broadcast S256x256 16#32))
    (maxsi v (broadcast S256x256 0#32))
    (minsi (addi (broadcast S256x256 16#32)
      (fptosi 32 (mulf (divf (log (divf
          (sitofp (F := Ideal) .f32 (maxsi (maxsi v (broadcast S256x256 0#32)) (broadcast S256x256 1#32)))
          (broadcast S256x256 (FloatOps.ofBits .f32 0x41800000#32))))
        (broadcast S256x256 (FloatOps.ofBits .f32 0x409B43D5#32)))
        (broadcast S256x256 (FloatOps.ofBits .f32 0x41800000#32)))))
      (broadcast S256x256 31#32))

theorem distVec_apply (d : ℕ) (r l : Fin 256) :
    distVec (BitVec.ofNat 32 (256 * d)) (ValueIdx.ix2 r l) = distWord d r l := by
  pointwise
  rfl

theorem bucketVec_apply (d : ℕ) (r l : Fin 256) :
    bucketVec (distVec (BitVec.ofNat 32 (256 * d))) (ValueIdx.ix2 r l) = bucketOf (distWord d r l) := by
  rw [← distVec_apply d r l]
  generalize distVec (BitVec.ofNat 32 (256 * d)) = v
  pointwise
  rfl

/-- One comparison of the call's choice, at an entry. -/
theorem chain_step {B : IVec S256x256 32} {b : BitVec 32} {w : EReal} {v : FVec Ideal S256x256 .f32}
    {r l : Fin 256} {lo n : ℕ} {D : BitVec 32} {f : ℕ → EReal} (hB : B (ValueIdx.ix2 r l) = D)
    (hb : b = BitVec.ofNat 32 (lo + n + 1)) (hw : w = f (lo + n + 1))
    (hv : v (ValueIdx.ix2 r l) = chain lo D f n) :
    select (cmpi .eq B (broadcast S256x256 b)) (broadcast S256x256 w) v (ValueIdx.ix2 r l)
      = chain lo D f (n + 1) := by
  subst hB hb hw
  rw [chain, ← hv]
  rfl

/-- The mask of tile zero, at an entry. -/
theorem select_at {V : IVec S256x256 32} {v : FVec Ideal S256x256 .f32} {w x : EReal} {j : S256x256.Idx}
    {D : BitVec 32} (h : V j = D) (hv : v j = x) :
    select (cmpi .sge V (broadcast S256x256 0#32)) v (broadcast S256x256 w) j
      = Scalar.select (IntOp.cmpi .sge D 0#32) x w := by
  subst h hv; rfl

/-- Tile one. -/
theorem tile_one (j : S1x1x256x256.Idx) : kernelRun0_A.sl.v390 c i a1 h1 x0 j
    = biasOf (fun b => x0 (ValueIdx.ix2 b (i 0))) (256 * 1 + (j 2).val) (j 3).val := by
  have hr : (j 2).val < 256 := (j 2).isLt
  have hl : (j 3).val < 256 := (j 3).isLt
  rw [← chosen_eq i x0 a1 h1 0 28 1 (j 2) (j 3) (by norm_num) (by norm_num) (by omega)
    (Nat.zero_le _)
    (Nat.le_of_lt_succ (bucketOf_lt (hi := 511) (k := 13) (by norm_num) (by norm_num) (by norm_num) (by omega) (by omega)))]
  sl_unfold_words
  rw [shapeCast_tile]
  iterate 28 refine chain_step (bucketVec_apply 1 _ _) rfl rfl ?_
  rfl

/-- Tile two. -/
theorem tile_two (j : S1x1x256x256.Idx) : kernelRun0_A.sl.v448 c i a1 h1 x0 j
    = biasOf (fun b => x0 (ValueIdx.ix2 b (i 0))) (256 * 2 + (j 2).val) (j 3).val := by
  have hr : (j 2).val < 256 := (j 2).isLt
  have hl : (j 3).val < 256 := (j 3).isLt
  rw [← chosen_eq i x0 a1 h1 24 5 2 (j 2) (j 3) (by norm_num) (by norm_num) (by omega)
    (bucketOf_ge (lo := 257) (k := 8) (by norm_num) (by norm_num) (by norm_num) (by omega) (by omega))
    (Nat.le_of_lt_succ (bucketOf_lt (hi := 767) (k := 14) (by norm_num) (by norm_num) (by norm_num) (by omega) (by omega)))]
  sl_unfold_words
  rw [shapeCast_tile]
  iterate 5 refine chain_step (bucketVec_apply 2 _ _) rfl rfl ?_
  rfl

/-- Tile three. -/
theorem tile_three (j : S1x1x256x256.Idx) : kernelRun0_A.sl.v500 c i a1 h1 x0 j
    = biasOf (fun b => x0 (ValueIdx.ix2 b (i 0))) (256 * 3 + (j 2).val) (j 3).val := by
  have hr : (j 2).val < 256 := (j 2).isLt
  have hl : (j 3).val < 256 := (j 3).isLt
  rw [← chosen_eq i x0 a1 h1 26 4 3 (j 2) (j 3) (by norm_num) (by norm_num) (by omega)
    (bucketOf_ge (lo := 513) (k := 10) (by norm_num) (by norm_num) (by norm_num) (by omega) (by omega))
    (Nat.le_of_lt_succ (bucketOf_lt (hi := 1023) (k := 15) (by norm_num) (by norm_num) (by norm_num) (by omega) (by omega)))]
  sl_unfold_words
  rw [shapeCast_tile]
  iterate 4 refine chain_step (bucketVec_apply 3 _ _) rfl rfl ?_
  rfl

/-- Tile four. -/
theorem tile_four (j : S1x1x256x256.Idx) : kernelRun0_A.sl.v552 c i a1 h1 x0 j
    = biasOf (fun b => x0 (ValueIdx.ix2 b (i 0))) (256 * 4 + (j 2).val) (j 3).val := by
  have hr : (j 2).val < 256 := (j 2).isLt
  have hl : (j 3).val < 256 := (j 3).isLt
  rw [← chosen_eq i x0 a1 h1 27 4 4 (j 2) (j 3) (by norm_num) (by norm_num) (by omega)
    (bucketOf_ge (lo := 769) (k := 11) (by norm_num) (by norm_num) (by norm_num) (by omega) (by omega))
    (bucketOf_le (by omega))]
  sl_unfold_words
  rw [shapeCast_tile]
  iterate 4 refine chain_step (bucketVec_apply 4 _ _) rfl rfl ?_
  rfl

/-- Tile five. -/
theorem tile_five (j : S1x1x256x256.Idx) : kernelRun0_A.sl.v598 c i a1 h1 x0 j
    = biasOf (fun b => x0 (ValueIdx.ix2 b (i 0))) (256 * 5 + (j 2).val) (j 3).val := by
  have hr : (j 2).val < 256 := (j 2).isLt
  have hl : (j 3).val < 256 := (j 3).isLt
  rw [← chosen_eq i x0 a1 h1 28 3 5 (j 2) (j 3) (by norm_num) (by norm_num) (by omega)
    (bucketOf_ge (lo := 1025) (k := 12) (by norm_num) (by norm_num) (by norm_num) (by omega) (by omega))
    (bucketOf_le (by omega))]
  sl_unfold_words
  rw [shapeCast_tile]
  iterate 3 refine chain_step (bucketVec_apply 5 _ _) rfl rfl ?_
  rfl

/-- Tile six. -/
theorem tile_six (j : S1x1x256x256.Idx) : kernelRun0_A.sl.v638 c i a1 h1 x0 j
    = biasOf (fun b => x0 (ValueIdx.ix2 b (i 0))) (256 * 6 + (j 2).val) (j 3).val := by
  have hr : (j 2).val < 256 := (j 2).isLt
  have hl : (j 3).val < 256 := (j 3).isLt
  rw [← chosen_eq i x0 a1 h1 29 2 6 (j 2) (j 3) (by norm_num) (by norm_num) (by omega)
    (bucketOf_ge (lo := 1281) (k := 13) (by norm_num) (by norm_num) (by norm_num) (by omega) (by omega))
    (bucketOf_le (by omega))]
  sl_unfold_words
  rw [shapeCast_tile]
  iterate 2 refine chain_step (bucketVec_apply 6 _ _) rfl rfl ?_
  rfl

/-- Tile seven. -/
theorem tile_seven (j : S1x1x256x256.Idx) : k0_pay1 (kernelRun0_A.sl.r_37 c i a1 h1 x0) j
    = biasOf (fun b => x0 (ValueIdx.ix2 b (i 0))) (256 * 7 + (j 2).val) (j 3).val := by
  have hr : (j 2).val < 256 := (j 2).isLt
  have hl : (j 3).val < 256 := (j 3).isLt
  rw [← chosen_eq i x0 a1 h1 30 1 7 (j 2) (j 3) (by norm_num) (by norm_num) (by omega)
    (bucketOf_ge (lo := 1537) (k := 14) (by norm_num) (by norm_num) (by norm_num) (by omega) (by omega))
    (bucketOf_le (by omega))]
  sl_unfold_words
  rw [k0_pay1, shapeCast_tile, k0_pay46]
  iterate 1 refine chain_step (bucketVec_apply 7 _ _) rfl rfl ?_
  rfl

theorem select_one (a b : EReal) : Scalar.select 1#1 a b = a := rfl
theorem select_zero (a b : EReal) : Scalar.select 0#1 a b = b := rfl

/-- Masking an entry by the sign of its distance gives the bias of tile zero. -/
theorem masked_eq (r l : Fin 256) :
    Scalar.select (IntOp.cmpi .sge (distWord 0 r l) 0#32)
        (chosen i a1 h1 x0 0 26 0 r l) (Named.named (F := Ideal) κ "mask" (φ := .f32) 0xF149F2CA#32)
      = biasOf (fun b => x0 (ValueIdx.ix2 b (i 0))) (256 * 0 + r.val) l.val := by
  have hr := r.isLt
  have hl := l.isLt
  by_cases hle : l.val ≤ r.val
  · have hd : distWord 0 r l = BitVec.ofNat 32 (r.val - l.val) := by
      unfold distWord
      apply BitVec.eq_of_toNat_eq
      rw [BitVec.toNat_add, BitVec.toNat_sub]
      simp only [BitVec.toNat_ofNat]
      omega
    have hc : IntOp.cmpi .sge (distWord 0 r l) 0#32 = 1#1 := by
      have ht : (BitVec.ofNat 32 (r.val - l.val)).toInt = ((r.val - l.val : ℕ) : ℤ) := by
        rw [BitVec.toInt_eq_toNat_of_lt (by rw [BitVec.toNat_ofNat]; omega), BitVec.toNat_ofNat]
        congr 1; omega
      have : (0#32).sle (BitVec.ofNat 32 (r.val - l.val)) = true := by
        rw [BitVec.sle_eq_decide, ht]; simp
      rw [hd]
      simp only [IntOp.cmpi, this]; rfl
    rw [hc, select_one]
    exact (chosen_eq i x0 a1 h1 0 26 0 r l (by norm_num) (by norm_num) (by omega)
      (Nat.zero_le _)
      (Nat.le_of_lt_succ (bucketOf_lt (hi := 255) (k := 11) (by norm_num) (by norm_num) (by norm_num) (by omega) (by omega))))
  · have hc : IntOp.cmpi .sge (distWord 0 r l) 0#32 = 0#1 := by
      have hd : (distWord 0 r l).toNat = 2 ^ 32 - (l.val - r.val) := by
        unfold distWord
        rw [BitVec.toNat_add, BitVec.toNat_sub]
        simp only [BitVec.toNat_ofNat]
        omega
      have ht : (distWord 0 r l).toInt = (r.val - l.val : ℤ) := by
        rw [BitVec.toInt_eq_toNat_cond, hd, if_neg (by omega)]
        omega
      have : (0#32).sle (distWord 0 r l) = false := by
        rw [BitVec.sle_eq_decide, ht]; simp; omega
      simp only [IntOp.cmpi, this]; rfl
    rw [hc, select_zero]
    unfold biasOf
    rw [if_neg (by omega)]
    exact IdealRules.named_const.ideal_named_scalar _ _ _ _ rfl

/-- Tile zero: the entries above the diagonal are masked. -/
theorem tile_zero (j : S1x1x256x256.Idx) :
    k0_pay16 (F := Ideal) kernelRun0_A.sl.v8 (kernelRun0_A.sl.v28 (F := Ideal)) (kernelRun0_A.sl.v169 c i a1 h1 x0)
        (kernelRun0_A.sl.v171 (F := Ideal)) (kernelRun0_A.sl.v174 c i a1 h1 x0) (kernelRun0_A.sl.r_25 c i a1 h1 x0)
        (kernelRun0_A.sl.r_26 c i a1 h1 x0) j
      = biasOf (fun b => x0 (ValueIdx.ix2 b (i 0))) (256 * 0 + (j 2).val) (j 3).val := by
  have hr : (j 2).val < 256 := (j 2).isLt
  have hl : (j 3).val < 256 := (j 3).isLt
  have e : k0_pay16 (F := Ideal) kernelRun0_A.sl.v8 (kernelRun0_A.sl.v28 (F := Ideal)) (kernelRun0_A.sl.v169 c i a1 h1 x0)
        (kernelRun0_A.sl.v171 (F := Ideal)) (kernelRun0_A.sl.v174 c i a1 h1 x0) (kernelRun0_A.sl.r_25 c i a1 h1 x0)
        (kernelRun0_A.sl.r_26 c i a1 h1 x0) j
      = Scalar.select (IntOp.cmpi .sge (distWord 0 (j 2) (j 3)) 0#32)
        (chosen i a1 h1 x0 0 26 0 (j 2) (j 3)) (Named.named (F := Ideal) κ "mask" (φ := .f32) 0xF149F2CA#32) := by
    rw [k0_pay16, shapeCast_tile]
    sl_unfold_words
    refine select_at (distVec_apply 0 _ _) ?_
    iterate 26 refine chain_step (bucketVec_apply 0 _ _) rfl rfl ?_
    rfl
  exact e.trans (masked_eq i x0 a1 h1 (j 2) (j 3))

/-- The first call's table output at one grid point. -/
theorem out_table : out0_A_2 c i a1 h1 a2 h2 a3 h3 a4 h4 x0 x1 = tableBlock i x0 := by
  funext y
  unfold out0_A_2
  rw [View.read_writes_eq_canon _ _ _ (cover0_A_2 c i a1 h1 a2 h2 a3 h3 a4 h4 x0 x1)]
  refine View.canon_apply_of_pieces (tableBlock i x0) _ (fun p hp j => ?_) y (cover0_A_2 c i a1 h1 a2 h2 a3 h3 a4 h4 x0 x1 y)
  unfold kernelRun0_A at hp
  dsimp only at hp
  simp only [List.mem_cons, List.mem_nil_iff, or_false] at hp
  rcases hp with rfl | rfl | rfl | rfl | rfl | rfl | rfl | rfl
  · dsimp only
    refine (tile_seven i x0 c a1 h1 j).trans ?_
    exact (emb_tile i x0 7 (by norm_num) j).symm
  · dsimp only
    refine (tile_six i x0 c a1 h1 j).trans ?_
    exact (emb_tile i x0 6 (by norm_num) j).symm
  · dsimp only
    refine (tile_five i x0 c a1 h1 j).trans ?_
    exact (emb_tile i x0 5 (by norm_num) j).symm
  · dsimp only
    refine (tile_four i x0 c a1 h1 j).trans ?_
    exact (emb_tile i x0 4 (by norm_num) j).symm
  · dsimp only
    refine (tile_three i x0 c a1 h1 j).trans ?_
    exact (emb_tile i x0 3 (by norm_num) j).symm
  · dsimp only
    refine (tile_two i x0 c a1 h1 j).trans ?_
    exact (emb_tile i x0 2 (by norm_num) j).symm
  · dsimp only
    refine (tile_one i x0 c a1 h1 j).trans ?_
    exact (emb_tile i x0 1 (by norm_num) j).symm
  · dsimp only
    refine (tile_zero i x0 c a1 h1 j).trans ?_
    exact (emb_tile i x0 0 (by norm_num) j).symm

/-- The first call's other output at one grid point: its slab of the weight. -/
theorem out_slab (y : S256x6144.Idx) :
    out0_A_3 c i a1 h1 a2 h2 a3 h3 a4 h4 x0 x1 y = x1 (ValueIdx.ix3 0 (y 0) (y 1)) := by
  unfold out0_A_3
  rw [View.read_writes_eq_canon _ _ _ (cover0_A_3 c i a1 h1 a2 h2 a3 h3 a4 h4 x0 x1)]
  unfold kernelRun0_A
  dsimp only
  sl_unfold_words
  rw [View.canon_unit_zero (by decide), View.readAt_eq_ld, h2.read_unread, View.ld_unit_zero (by decide)]
  pointwise
  rfl

end Cert.DiffAttn

end
-- ==== Proof.Tables.lean ====
module

public import proofs.«01_k».proof.Proof.BiasTable
public import Idealize.ShloMosaic.Lib.Pipeline.Value

/-!
# What the bias table's call leaves in its two arrays

The eight points of the grid are the heads. Head `h`'s block of the first array is its table of biases by
tile distance; the eight slabs of the second array are the projection's weights of the first layer, cast.
-/

@[expose] public section

set_option maxRecDepth 16384

noncomputable section

namespace Cert.DiffAttn

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The bias weights of a head, as launched. -/
def headBias (h : Fin 8) (b : Fin 32) : EReal :=
  (m ((c : Thread nD τ).loc main_arg1) : Vec Ideal S32x8 .f32) (ValueIdx.ix2 b h)

/-- The table array: head, tile distance, row and column of the tile. -/
def tableArr : Buf (Elt Ideal) ((c : Thread nD τ).loc main_v0_0) :=
  (fun y => biasOf (headBias m c (y 0)) (256 * (y 1).val + (y 2).val) (y 3).val : Vec Ideal S8x8x256x256 .f32)

/-- The cast weights of the first layer's projection. -/
def castArr : Buf (Elt Ideal) ((c : Thread nD τ).loc main_v0_1) :=
  (fun y => (m ((c : Thread nD τ).loc main_arg4) : Vec Ideal S1x2048x6144 .f32) (ValueIdx.ix3 0 (y 0) (y 1)) :
    Vec Ideal S2048x6144 .bf16)

/-- Where the windows' blocks lie at a point. -/
theorem places0 : ∀ t : Fin grid0.N, (grid0.coords t 0).val = t.val
    ∧ (win0_0.index t 0 = 0 ∧ win0_0.index t 1 = 0)
    ∧ (win0_1.index t 0 = 0 ∧ win0_1.index t 1 = t.val ∧ win0_1.index t 2 = 0)
    ∧ (win0_2.index t 0 = t.val ∧ win0_2.index t 1 = 0 ∧ win0_2.index t 2 = 0 ∧ win0_2.index t 3 = 0)
    ∧ (win0_3.index t 0 = t.val ∧ win0_3.index t 1 = 0) := by decide +kernel

variable (ρ : Dev nD → PrngReg)

/-- The block of the weights a point is given. -/
theorem iblk0_1 (t : Fin cfg0.N) (j : S1x256x6144.Idx) (y : S1x2048x6144.Idx) (h0 : (y 0).val = 0)
    (h1 : (y 1).val = 256 * t.val + (j 1).val) (h2 : (y 2).val = (j 2).val) :
    iblk0 (V0 m ρ) c 1 t j = (m ((c : Thread nD τ).loc main_arg4) : Vec Ideal S1x2048x6144 .f32) y := by
  obtain ⟨-, -, ⟨p0, p1, p2⟩, -⟩ := places0 t
  refine congrArg (m ((c : Thread nD τ).loc main_arg4) : Vec Ideal S1x2048x6144 .f32) (funext fun a => Fin.ext ?_)
  have hj : (j 0).val < 1 := (j 0).isLt
  match a with
  | ⟨0, _⟩ => show win0_1.index t 0 * 1 + 1 * (j 0).val = (y 0).val; omega
  | ⟨1, _⟩ => show win0_1.index t 1 * 256 + 1 * (j 1).val = (y 1).val; omega
  | ⟨2, _⟩ => show win0_1.index t 2 * 6144 + 1 * (j 2).val = (y 2).val; omega

/-- The bias weights are given whole. -/
theorem iblk0_0 (t : Fin cfg0.N) (j : S32x8.Idx) :
    iblk0 (V0 m ρ) c 0 t j = (m ((c : Thread nD τ).loc main_arg1) : Vec Ideal S32x8 .f32) j := by
  obtain ⟨-, ⟨p0, p1⟩, -⟩ := places0 t
  refine congrArg (m ((c : Thread nD τ).loc main_arg1) : Vec Ideal S32x8 .f32) (funext fun a => Fin.ext ?_)
  match a with
  | ⟨0, _⟩ => show win0_0.index t 0 * 32 + 1 * (j 0).val = (j 0).val; omega
  | ⟨1, _⟩ => show win0_0.index t 1 * 8 + 1 * (j 1).val = (j 1).val; omega

/-- A point writes its head's block of the table. -/
theorem flushed_table (t : Fin cfg0.N) :
    (dat0 (V0 m ρ) c).flushed 2 t = ((cfg0.win 2).blk t).view.read (Elt Ideal) (tableArr m c) := by
  obtain ⟨pc, -, -, ⟨p0, p1, p2, p3⟩, -⟩ := places0 t
  show (cfg0.win 2).cut (grid0.coords t) ((dat0 (V0 m ρ) c).after 2 t) = _
  rw [after0_2]
  unfold outsAt0
  dsimp only
  rw [out_table]
  funext j
  show tableBlock (grid0.coords t) (iblk0 (V0 m ρ) c 0 t) j = tableArr m c (((cfg0.win 2).blk t).view.emb j)
  unfold tableBlock
  have hj : (j 0).val < 1 := (j 0).isLt
  have e0 : ((((cfg0.win 2).blk t).view.emb j) 0).val = t.val := by
    show win0_2.index t 0 * 1 + 1 * (j 0).val = t.val; omega
  have e1 : ((((cfg0.win 2).blk t).view.emb j) 1).val = (j 1).val := by
    show win0_2.index t 1 * 8 + 1 * (j 1).val = (j 1).val; omega
  have e2 : ((((cfg0.win 2).blk t).view.emb j) 2).val = (j 2).val := by
    show win0_2.index t 2 * 256 + 1 * (j 2).val = (j 2).val; omega
  have e3 : ((((cfg0.win 2).blk t).view.emb j) 3).val = (j 3).val := by
    show win0_2.index t 3 * 256 + 1 * (j 3).val = (j 3).val; omega
  show _ = biasOf (headBias m c ((((cfg0.win 2).blk t).view.emb j) 0))
    (256 * ((((cfg0.win 2).blk t).view.emb j) 1).val + ((((cfg0.win 2).blk t).view.emb j) 2).val)
    ((((cfg0.win 2).blk t).view.emb j) 3).val
  rw [e1, e2, e3]
  refine congrArg (fun f => biasOf f _ _) (funext fun b => ?_)
  rw [iblk0_0]
  unfold headBias
  exact congrArg (fun h => (m ((c : Thread nD τ).loc main_arg1) : Vec Ideal S32x8 .f32) (ValueIdx.ix2 b h))
    (Fin.ext (pc.trans e0.symm))

/-- The blocks of the table tile it. -/
theorem cover_table (y : S8x8x256x256.Idx) :
    ∃ t : Fin cfg0.N, (cfg0.win 2).flush t = true ∧ y ∈ ((cfg0.win 2).blk t).view.set := by
  have h0 : (y 0).val < 8 := (y 0).isLt
  have h1 : (y 1).val < 8 := (y 1).isLt
  have h2 : (y 2).val < 256 := (y 2).isLt
  have h3 : (y 3).val < 256 := (y 3).isLt
  refine ⟨⟨(y 0).val, h0⟩, flush0_2 _, ?_⟩
  obtain ⟨-, -, -, ⟨p0, p1, p2, p3⟩, -⟩ := places0 ⟨(y 0).val, h0⟩
  show y ∈ ((View.whole main_v0_0).slice (win0_2.rect ⟨(y 0).val, h0⟩)).set
  rw [View.set_slice_whole, Rect.mem_set_unit]
  intro a
  match a with
  | ⟨0, _⟩ => show win0_2.index _ 0 * 1 ≤ (y 0).val ∧ (y 0).val < win0_2.index _ 0 * 1 + 1; rw [p0]; dsimp only; omega
  | ⟨1, _⟩ => show win0_2.index _ 1 * 8 ≤ (y 1).val ∧ (y 1).val < win0_2.index _ 1 * 8 + 8; rw [p1]; omega
  | ⟨2, _⟩ => show win0_2.index _ 2 * 256 ≤ (y 2).val ∧ (y 2).val < win0_2.index _ 2 * 256 + 256; rw [p2]; omega
  | ⟨3, _⟩ => show win0_2.index _ 3 * 256 ≤ (y 3).val ∧ (y 3).val < win0_2.index _ 3 * 256 + 256; rw [p3]; omega

/-- So the first array ends holding the table. -/
theorem final_table : (dat0 (V0 m ρ) c).arrAt 2 cfg0.N = tableArr m c :=
  (dat0 (V0 m ρ) c).arrAt_eq_of_cover 2 (tableArr m c) (fun t _ => flushed_table m c ρ t) cover_table

/-- A point writes its slab of the cast weights. -/
theorem flushed_cast (t : Fin cfg0.N) :
    (dat0 (V0 m ρ) c).flushed 3 t = ((cfg0.win 3).blk t).view.read (Elt Ideal) (castArr m c) := by
  obtain ⟨-, -, -, -, ⟨p0, p1⟩⟩ := places0 t
  show (cfg0.win 3).cut (grid0.coords t) ((dat0 (V0 m ρ) c).after 3 t) = _
  rw [after0_3]
  unfold outsAt0
  dsimp only
  funext j
  refine (out_slab _ _ _ _ _ _ _ _ _ _ _ _ _).trans ?_
  refine (iblk0_1 m c ρ t _ (ValueIdx.ix3 0 ((((cfg0.win 3).blk t).view.emb j) 0) ((((cfg0.win 3).blk t).view.emb j) 1))
    rfl ?_ ?_).trans rfl
  · show win0_3.index t 0 * 256 + 1 * (j 0).val = 256 * t.val + (j 0).val; omega
  · show win0_3.index t 1 * 6144 + 1 * (j 1).val = (j 1).val; omega

/-- The slabs tile their array. -/
theorem cover_cast (y : S2048x6144.Idx) :
    ∃ t : Fin cfg0.N, (cfg0.win 3).flush t = true ∧ y ∈ ((cfg0.win 3).blk t).view.set := by
  have h0 : (y 0).val < 2048 := (y 0).isLt
  have h1 : (y 1).val < 6144 := (y 1).isLt
  have ht : (y 0).val / 256 < grid0.N := lt_of_lt_of_eq (by omega : (y 0).val / 256 < 8) N_0.symm
  refine ⟨⟨(y 0).val / 256, ht⟩, flush0_3 _, ?_⟩
  obtain ⟨-, -, -, -, ⟨p0, p1⟩⟩ := places0 ⟨(y 0).val / 256, ht⟩
  show y ∈ ((View.whole main_v0_1).slice (win0_3.rect ⟨(y 0).val / 256, ht⟩)).set
  rw [View.set_slice_whole, Rect.mem_set_unit]
  intro a
  match a with
  | ⟨0, _⟩ => show win0_3.index _ 0 * 256 ≤ (y 0).val ∧ (y 0).val < win0_3.index _ 0 * 256 + 256; rw [p0]; dsimp only; omega
  | ⟨1, _⟩ => show win0_3.index _ 1 * 6144 ≤ (y 1).val ∧ (y 1).val < win0_3.index _ 1 * 6144 + 6144; rw [p1]; omega

/-- So the second array ends holding the cast weights. -/
theorem final_cast : (dat0 (V0 m ρ) c).arrAt 3 cfg0.N = castArr m c :=
  (dat0 (V0 m ρ) c).arrAt_eq_of_cover 3 (castArr m c) (fun t _ => flushed_cast m c ρ t) cover_cast

end Cert.DiffAttn

end
-- ==== Proof.Softmax.lean ====
/- One row of a differential attention over the extended reals: two softmax weightings of the same values, the second
   taken `lam` times from the first. A kernel that keeps only the keys a causal mask leaves, and divides after the
   product with the values, computes the same number as the masked softmax over all keys. No program is named here. -/
module

public import Idealize.ShloMosaic.PureOps.Ideal
public import Idealize.ShloMosaic.PureOps.Ideal.Laws

@[expose] public section

noncomputable section

namespace Cert.DiffAttn

open Idealize.ShloMosaic

/-- The largest logit of a row. -/
def rowMax {n : ℕ} (s : Fin n → EReal) : EReal := Finset.univ.fold max ⊥ s

/-- The unnormalised weight of key `k`. -/
def weight {n : ℕ} (s : Fin n → EReal) (k : Fin n) : EReal := Ideal.exp (s k - rowMax s)

/-- The values averaged with the row's weights, divided after the sum. -/
def attend {n : ℕ} (s v : Fin n → EReal) : EReal := Ideal.div (∑ k, weight s k * v k) (∑ k, weight s k)

theorem rowMax_eq_sup {n : ℕ} (s : Fin n → EReal) : rowMax s = Finset.univ.sup s := rfl

theorem le_rowMax {n : ℕ} (s : Fin n → EReal) (k : Fin n) : s k ≤ rowMax s := by
  rw [rowMax_eq_sup]; exact Finset.le_sup (Finset.mem_univ k)

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem div_coe_coe (a b : ℝ) (hb : b ≠ 0) : Ideal.div (a : EReal) (b : EReal) = ((a / b : ℝ) : EReal) := by
  rw [Ideal.div_coe hb, ← EReal.coe_mul, mul_one_div]

/-- A row with no `+∞` and at least one finite logit has a finite largest logit. -/
theorem rowMax_real {n : ℕ} (s : Fin n → EReal) (ht : ∀ k, s k ≠ ⊤) (hb : ∃ k, s k ≠ ⊥) :
    ∃ r : ℝ, rowMax s = r := by
  obtain ⟨k, hk⟩ := hb
  have h1 : rowMax s ≠ ⊤ := by
    rw [rowMax_eq_sup]
    exact ((Finset.sup_lt_iff (by simp : (⊥ : EReal) < ⊤)).2 (fun k _ => lt_top_iff_ne_top.2 (ht k))).ne
  have h2 : rowMax s ≠ ⊥ := fun h => hk (le_bot_iff.1 (h ▸ le_rowMax s k))
  exact ⟨(rowMax s).toReal, (EReal.coe_toReal h1 h2).symm⟩

/-- The weights of such a row are nonnegative reals with a positive sum, and a masked key's weight is zero. -/
theorem weight_real {n : ℕ} (s : Fin n → EReal) (ht : ∀ k, s k ≠ ⊤) (hb : ∃ k, s k ≠ ⊥) :
    ∃ w : Fin n → ℝ, (∀ k, weight s k = w k) ∧ 0 < ∑ k, w k ∧ ∀ k, s k = ⊥ → w k = 0 := by
  obtain ⟨r, hr⟩ := rowMax_real s ht hb
  refine ⟨fun k => if s k = ⊥ then 0 else Real.exp ((s k).toReal - r), fun k => ?_, ?_, fun k hk => if_pos hk⟩
  · unfold weight
    rw [hr]
    by_cases h : s k = ⊥
    · show _ = ((if s k = ⊥ then 0 else Real.exp ((s k).toReal - r) : ℝ) : EReal)
      rw [if_pos h, h]; rfl
    · show _ = ((if s k = ⊥ then 0 else Real.exp ((s k).toReal - r) : ℝ) : EReal)
      rw [if_neg h]
      conv_lhs => rw [← EReal.coe_toReal (ht k) h]
      rw [← EReal.coe_sub]; rfl
  · obtain ⟨k, hk⟩ := hb
    refine Finset.sum_pos' (fun i _ => ?_) ⟨k, Finset.mem_univ k, ?_⟩
    · split_ifs
      · exact le_refl _
      · exact (Real.exp_pos _).le
    · rw [if_neg hk]; exact Real.exp_pos _

/-- Keys masked from `n` on do not move the largest logit. -/
theorem rowMax_prefix {n N : ℕ} (h : n ≤ N) (t : Fin N → EReal) (hm : ∀ k : Fin N, n ≤ k.val → t k = ⊥) :
    rowMax (fun k : Fin n => t (Fin.castLE h k)) = rowMax t := by
  rw [rowMax_eq_sup, rowMax_eq_sup]
  apply le_antisymm
  · exact Finset.sup_le fun k _ => Finset.le_sup (f := t) (Finset.mem_univ (Fin.castLE h k))
  · refine Finset.sup_le fun k _ => ?_
    by_cases hk : k.val < n
    · exact Finset.le_sup (f := fun k : Fin n => t (Fin.castLE h k)) (Finset.mem_univ ⟨k.val, hk⟩)
    · rw [hm k (not_lt.1 hk)]; exact bot_le

/-- A sum over all keys whose terms vanish from `n` on is the sum over the first `n`. -/
theorem sum_prefix {M : Type} [AddCommMonoid M] {n N : ℕ} (h : n ≤ N) (f : Fin N → M)
    (hf : ∀ k : Fin N, n ≤ k.val → f k = 0) : ∑ k : Fin n, f (Fin.castLE h k) = ∑ k, f k :=
  Fintype.sum_of_injective (Fin.castLE h) (Fin.castLE_injective h) _ _
    (fun k hk => hf k (by
      by_contra hlt
      exact hk ⟨⟨k.val, not_le.1 hlt⟩, rfl⟩)) (fun _ => rfl)

/-- The two attentions over the first `n` keys, each divided after its sum, the second taken `lam` times from the
    first: the same as ONE sum over all `N` keys of the values against the difference of the two normalised rows, when
    every key from `n` on is masked in both rows, no logit is `+∞`, one is finite, and the values and `lam` are finite. -/
theorem diff_row {n N : ℕ} (h : n ≤ N) (t0 t1 : Fin N → EReal) (v : Fin N → EReal) (lam : ℝ)
    (ht0 : ∀ k, t0 k ≠ ⊤) (ht1 : ∀ k, t1 k ≠ ⊤) (hm0 : ∀ k : Fin N, n ≤ k.val → t0 k = ⊥)
    (hm1 : ∀ k : Fin N, n ≤ k.val → t1 k = ⊥) (hb0 : ∃ k, t0 k ≠ ⊥) (hb1 : ∃ k, t1 k ≠ ⊥)
    (hv : ∀ k, ∃ r : ℝ, v k = r) :
    attend (fun k : Fin n => t0 (Fin.castLE h k)) (fun k => v (Fin.castLE h k))
        - (lam : EReal) * attend (fun k : Fin n => t1 (Fin.castLE h k)) (fun k => v (Fin.castLE h k))
      = ∑ k, v k * (Ideal.div (weight t0 k) (∑ j, weight t0 j) - (lam : EReal) * Ideal.div (weight t1 k) (∑ j, weight t1 j)) := by
  obtain ⟨w0, hw0, hp0, hz0⟩ := weight_real t0 ht0 hb0
  obtain ⟨w1, hw1, hp1, hz1⟩ := weight_real t1 ht1 hb1
  choose u hu using hv
  have e0 : ∀ k : Fin n, weight (fun k : Fin n => t0 (Fin.castLE h k)) k = weight t0 (Fin.castLE h k) := fun k => by
    unfold weight; rw [rowMax_prefix h t0 hm0]
  have e1 : ∀ k : Fin n, weight (fun k : Fin n => t1 (Fin.castLE h k)) k = weight t1 (Fin.castLE h k) := fun k => by
    unfold weight; rw [rowMax_prefix h t1 hm1]
  have s0 : ∑ k : Fin n, w0 (Fin.castLE h k) = ∑ k, w0 k := sum_prefix h w0 fun k hk => hz0 k (hm0 k hk)
  have s1 : ∑ k : Fin n, w1 (Fin.castLE h k) = ∑ k, w1 k := sum_prefix h w1 fun k hk => hz1 k (hm1 k hk)
  have p0 : ∑ k : Fin n, w0 (Fin.castLE h k) * u (Fin.castLE h k) = ∑ k, w0 k * u k :=
    sum_prefix h (fun k => w0 k * u k) fun k hk => by simp only [hz0 k (hm0 k hk), zero_mul]
  have p1 : ∑ k : Fin n, w1 (Fin.castLE h k) * u (Fin.castLE h k) = ∑ k, w1 k * u k :=
    sum_prefix h (fun k => w1 k * u k) fun k hk => by simp only [hz1 k (hm1 k hk), zero_mul]
  unfold attend
  simp only [e0, e1, hw0, hw1, hu, ← EReal.coe_mul, coe_sum, s0, s1, p0, p1, div_coe_coe _ _ hp0.ne', div_coe_coe _ _ hp1.ne',
    ← EReal.coe_sub]
  congr 1
  rw [div_eq_mul_inv, div_eq_mul_inv, Finset.sum_mul, Finset.sum_mul, Finset.mul_sum, ← Finset.sum_sub_distrib]
  exact Finset.sum_congr rfl fun k _ => by rw [div_eq_mul_inv, div_eq_mul_inv]; ring

end Cert.DiffAttn

end
-- ==== Proof.Attend.lean ====
module

public import proofs.«01_k».proof.Proof.Gen.KernelIdeal.Frame
public import proofs.«01_k».proof.Proof.Softmax
public import Idealize.ShloMosaic.Lib.Pointwise

/-!
# What one query tile does with its two rows of scores

For every query tile the attention call softmaxes two rows of scores over the keys up to the tile's end,
takes the first average of the values minus lambda times the second, and normalises the difference.
The eight tiles have eight widths; each is read here at an entry, over opaque scores.
-/

@[expose] public section

set_option maxRecDepth 65536

noncomputable section

namespace Cert.DiffAttn

open Idealize.ShloMosaic Idealize.ShloMosaic.TcCoe Cert.KernelIdeal Cert.KernelIdeal.Gen

/-- A row normalised by its root mean square, times a gain. -/
def normRow (d : Fin 256 → EReal) (g : EReal) (e : Fin 256) : EReal :=
  d e * Ideal.rsqrt (Ideal.div (∑ e', d e' * d e') (Ideal.ofBits .f32 0x43800000#32)
    + Ideal.ofBits .f32 0x358637BD#32) * g

/-- The difference of two attentions over `n` keys, normalised. -/
def headRow {n : ℕ} (s0 s1 : Fin n → EReal) (v : Fin n → Fin 256 → EReal) (lam g : EReal) (e : Fin 256) : EReal :=
  normRow (fun e' => attend s0 (fun k => v k e') - lam * attend s1 (fun k => v k e')) g e

variable (lam : FVec Ideal S1x1 .f32) (gain : FVec Ideal S1x256 .f32) (r e : Fin 256)

/-- Tile zero: 256 keys. -/
theorem head_zero (L0 L1 : FVec Ideal S256x256 .f32) (V : Vec Ideal S1x256x256 .bf16) :
    k1_pay74 lam gain L1 (k1_pay72 L0 V) (k1_pay73 L0) V (ix2 r e)
      = headRow (fun k : Fin 256 => L0 (ix2 r k)) (fun k => L1 (ix2 r k)) (fun k e' => V (ix3 0 k e'))
          (lam (ix2 0 0)) (gain (ix2 0 e)) e := by
  pointwise [k1_pay74, k1_pay72, k1_pay73, k1_pay71]
  rfl

/-- Tile one: 512 keys. -/
theorem head_one (L0 : FVec Ideal S256x512 .f32) (B : FVec Ideal S256x512 .f32) (Q : FVec Ideal S256x128 .bf16) (K : FVec Ideal S512x128 .bf16) (V : Vec Ideal S1x512x256 .bf16) :
    k1_pay69 lam gain (k1_pay66 L0 V) (k1_pay68 B Q K V) (ix2 r e)
      = headRow (fun k : Fin 512 => L0 (ix2 r k)) (fun k => ∑ x : Fin 128, Q (ix2 r x) * K (ix2 k x) + B (ix2 r k)) (fun k e' => V (ix3 0 k e'))
          (lam (ix2 0 0)) (gain (ix2 0 e)) e := by
  pointwise [k1_pay69, k1_pay66, k1_pay68]
  rfl

/-- Tile two: 768 keys. -/
theorem head_two (L0 : FVec Ideal S256x768 .f32) (B : FVec Ideal S256x768 .f32) (Q : Vec Ideal S1x256x128 .bf16) (K : Vec Ideal S1x768x128 .bf16) (V : Vec Ideal S1x768x256 .bf16) :
    k1_pay62 lam gain (k1_pay59 L0 V) (k1_pay61 B Q K) V (ix2 r e)
      = headRow (fun k : Fin 768 => L0 (ix2 r k)) (fun k => ∑ x : Fin 128, Q (ix3 0 r x) * K (ix3 0 k x) + B (ix2 r k)) (fun k e' => V (ix3 0 k e'))
          (lam (ix2 0 0)) (gain (ix2 0 e)) e := by
  pointwise [k1_pay62, k1_pay59, k1_pay61]
  rfl

/-- Tile three: 1024 keys. -/
theorem head_three (L0 : FVec Ideal S256x1024 .f32) (B : FVec Ideal S256x1024 .f32) (Q : FVec Ideal S256x128 .bf16) (K : Vec Ideal S1x1024x128 .bf16) (V : Vec Ideal S1x1024x256 .bf16) :
    k1_pay57 lam gain (k1_pay53 B Q K) (k1_pay54 L0 V) (k1_pay56 B Q K) V (ix2 r e)
      = headRow (fun k : Fin 1024 => L0 (ix2 r k)) (fun k => ∑ x : Fin 128, Q (ix2 r x) * K (ix3 0 k x) + B (ix2 r k)) (fun k e' => V (ix3 0 k e'))
          (lam (ix2 0 0)) (gain (ix2 0 e)) e := by
  pointwise [k1_pay57, k1_pay53, k1_pay54, k1_pay56]
  rfl

/-- Tile four: 1280 keys. -/
theorem head_four (L0 L1 : FVec Ideal S256x1280 .f32) (V : Vec Ideal S1x1280x256 .bf16) :
    k1_pay50 lam gain (k1_pay44 (k1_pay42 L0) (k1_pay43 L0) V) (k1_pay47 L1) (k1_pay48 L1) (k1_pay49 V) (ix2 r e)
      = headRow (fun k : Fin 1280 => L0 (ix2 r k)) (fun k => L1 (ix2 r k)) (fun k e' => V (ix3 0 k e'))
          (lam (ix2 0 0)) (gain (ix2 0 e)) e := by
  pointwise [k1_pay50, k1_pay44, k1_pay42, k1_pay43, k1_pay47, k1_pay48, k1_pay49, k1_pay41, k1_pay46]
  rfl

/-- Tile five: 1536 keys. -/
theorem head_five (L0 L1 : FVec Ideal S256x1536 .f32) (V : Vec Ideal S1x1536x256 .bf16) :
    k1_pay39 lam gain L1 (k1_pay34 L0 V) V (ix2 r e)
      = headRow (fun k : Fin 1536 => L0 (ix2 r k)) (fun k => L1 (ix2 r k)) (fun k e' => V (ix3 0 k e'))
          (lam (ix2 0 0)) (gain (ix2 0 e)) e := by
  pointwise [k1_pay39, k1_pay34]
  rfl

/-- Tile six: 1792 keys. -/
theorem head_six (L0 L1 : FVec Ideal S256x1792 .f32) (V : Vec Ideal S1x1792x256 .bf16) :
    k1_pay27 lam gain (k1_pay22 L0 V) (k1_pay25 L1) (k1_pay26 L1) V (ix2 r e)
      = headRow (fun k : Fin 1792 => L0 (ix2 r k)) (fun k => L1 (ix2 r k)) (fun k e' => V (ix3 0 k e'))
          (lam (ix2 0 0)) (gain (ix2 0 e)) e := by
  pointwise [k1_pay27, k1_pay22, k1_pay25, k1_pay26, k1_pay24]
  rfl

/-- Tile seven: 2048 keys. -/
theorem head_seven (L0 L1 : FVec Ideal S256x2048 .f32) (V : Vec Ideal S1x2048x256 .bf16) :
    k1_pay17 lam gain L1 (k1_pay15 (k1_pay12 L0) (k1_pay13 L0) (k1_pay14 V)) V (ix2 r e)
      = headRow (fun k : Fin 2048 => L0 (ix2 r k)) (fun k => L1 (ix2 r k)) (fun k e' => V (ix3 0 k e'))
          (lam (ix2 0 0)) (gain (ix2 0 e)) e := by
  pointwise [k1_pay17, k1_pay15, k1_pay12, k1_pay13, k1_pay14, k1_pay11]
  rfl

end Cert.DiffAttn

end
-- ==== Proof.Scores.lean ====
module

public import proofs.«01_k».proof.Proof.BiasTable
public import proofs.«01_k».proof.Proof.Attend

/-!
# The attention call's output block

The scores of a query tile are products of the head's queries and keys plus tiles of the bias table set
side by side; read together, the bias of a score is the bias of its query and key positions. With that
every stored row is `headRow` of the scores of its own query, over the keys up to its tile's end.
-/

@[expose] public section

set_option maxRecDepth 65536

noncomputable section

namespace Cert.DiffAttn

open Idealize.ShloMosaic Idealize.ShloMosaic.TcCoe Cert.KernelIdeal Cert.KernelIdeal.Gen

/-- A column of a pair's first half. -/
def lower (x : Fin 128) : Fin 256 := ⟨x.val, by omega⟩

/-- A column of a pair's second half. -/
def upper (x : Fin 128) : Fin 256 := ⟨128 + x.val, by omega⟩

variable (x0 x1 x2 : Vec Ideal S1x2048x256 .bf16) (x3 : Vec Ideal S1x8x256x256 .f32)
  (x4 : Vec Ideal S4x128 .f32) (x5 : Vec Ideal S1x256 .f32) (x6 : Vec Ideal S1x64x11264 .f32)
  (rb : Fin 32 → EReal)

/-- The score of a query and a key in one half of the pair. -/
def score (half : Fin 128 → Fin 256) (q k : Fin 2048) : EReal :=
  (∑ x : Fin 128, x0 (ix3 0 q (half x)) * x1 (ix3 0 k (half x))) + biasOf rb q.val k.val

/-- A bias depends on the distance only. -/
theorem biasOf_congr {q k q' k' : ℕ} (h : q + k' = q' + k) : biasOf rb q k = biasOf rb q' k' := by
  unfold biasOf
  by_cases hk : k ≤ q
  · rw [if_pos hk, if_pos (by omega), (by omega : q - k = q' - k')]
  · rw [if_neg hk, if_neg (by omega)]

/-- What the table's block is said to hold. -/
def IsTable : Prop :=
  ∀ (d : Fin 8) (i l : Fin 256), x3 (ix4 0 d i l) = biasOf rb (256 * d.val + i.val) l.val

theorem tile_bias (hT : IsTable x3 rb) (d : Fin 8) (n : ℕ) (hd : d.val = n) (i l : Fin 256) (q k : ℕ)
    (h : 256 * n + i.val + k = q + l.val) : x3 (ix4 0 d i l) = biasOf rb q k := by
  rw [hT d i l, hd]
  exact biasOf_congr rb h

/-- A choice whose two branches are one value is that value. -/
theorem dite_same {α : Sort*} {p : Prop} [Decidable p] {a : p → α} {b : ¬p → α} {z : α}
    (ha : ∀ h, a h = z) (hb : ∀ h, b h = z) : dite p a b = z := by
  by_cases h : p
  · rw [dif_pos h, ha h]
  · rw [dif_neg h, hb h]

/-- Rows agree if their scores, values and factors do. -/
theorem headRow_congr {n : ℕ} {s0 s0' s1 s1' : Fin n → EReal} {v v' : Fin n → Fin 256 → EReal}
    {lam g : EReal} {e : Fin 256} (h0 : ∀ k, s0 k = s0' k) (h1 : ∀ k, s1 k = s1' k)
    (hv : ∀ k e', v k e' = v' k e') : headRow s0 s1 v lam g e = headRow s0' s1' v' lam g e := by
  rw [funext h0, funext h1, (funext fun k => funext (hv k) : v = v')]

/-- Lambda, from the four rows of weights. -/
def lamOf : EReal := k1_pay2 (F := Ideal) (View.ld x4 r1_2) (ix2 0 0)

/-- The gain of a column. -/
def gainOf (e : Fin 256) : EReal := k1_pay3 (F := Ideal) (View.ld x5 r1_3) (ix2 0 e)

/-- The row the call leaves for query `q`, over its first `n` keys. -/
def rowOver (n : ℕ) (hn : n ≤ 2048) (q : Fin 2048) (e : Fin 256) : EReal :=
  headRow (fun k : Fin n => score x0 x1 rb lower q (Fin.castLE hn k))
    (fun k : Fin n => score x0 x1 rb upper q (Fin.castLE hn k))
    (fun k e' => x2 (ix3 0 (Fin.castLE hn k) e')) (lamOf x4) (gainOf x5 e) e

variable (hT : IsTable x3 rb) (r e : Fin 256)
include hT

/-- Tile zero's first scores. -/
theorem first_zero (k : Fin 256) :
    k1_pay67 (View.ld x3 r1_11) (View.ld x0 r1_53) (View.ld x1 r1_53) (ix2 r k)
      = score x0 x1 rb lower ⟨r.val, by omega⟩ (Fin.castLE (by norm_num) k) := by
  pointwise [k1_pay67]
  refine congrArg₂ (· + ·) rfl ?_
  have hc : (Fin.castLE (by norm_num : 256 ≤ 2048) k).val = k.val := rfl
  exact tile_bias x3 rb hT 0 0 rfl _ _ _ _ (by first | (rw [hc]; done) | (rw [hc]; dsimp only; omega) | (rw [hc]; omega))

/-- Tile zero's second scores. -/
theorem second_zero (k : Fin 256) :
    k1_pay70 (View.ld x3 r1_11) (View.ld x0 r1_55) (View.ld x1 r1_55) (ix2 r k)
      = score x0 x1 rb upper ⟨r.val, by omega⟩ (Fin.castLE (by norm_num) k) := by
  pointwise [k1_pay70]
  refine congrArg₂ (· + ·) rfl ?_
  have hc : (Fin.castLE (by norm_num : 256 ≤ 2048) k).val = k.val := rfl
  exact tile_bias x3 rb hT 0 0 rfl _ _ _ _ (by first | (rw [hc]; done) | (rw [hc]; dsimp only; omega) | (rw [hc]; omega))

/-- Tile one's first scores. -/
theorem first_one (k : Fin 512) :
    k1_pay60 (View.ld x3 r1_10) (View.ld x3 r1_11) (View.ld x0 r1_47) (View.ld x1 r1_48) (ix2 r k)
      = score x0 x1 rb lower ⟨256 + r.val, by omega⟩ (Fin.castLE (by norm_num) k) := by
  pointwise [k1_pay60]
  refine congrArg₂ (· + ·) rfl ?_
  have hc : (Fin.castLE (by norm_num : 512 ≤ 2048) k).val = k.val := rfl
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile one's second scores. -/
theorem second_one (k : Fin 512) :
    ∑ x : Fin 128, k1_pay64 (View.ld x0 r1_50) (ix2 r x) * k1_pay65 (View.ld x1 r1_51) (ix2 k x) + k1_pay63 (View.ld x3 r1_10) (View.ld x3 r1_11) (ix2 r k)
      = score x0 x1 rb upper ⟨256 + r.val, by omega⟩ (Fin.castLE (by norm_num) k) := by
  pointwise [k1_pay63, k1_pay64, k1_pay65]
  refine congrArg₂ (· + ·) rfl ?_
  have hc : (Fin.castLE (by norm_num : 512 ≤ 2048) k).val = k.val := rfl
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile two's first scores. -/
theorem first_two (k : Fin 768) :
    k1_pay55 (View.ld x3 r1_9) (View.ld x3 r1_10) (View.ld x3 r1_11) (View.ld x0 r1_41) (View.ld x1 r1_42) (ix2 r k)
      = score x0 x1 rb lower ⟨512 + r.val, by omega⟩ (Fin.castLE (by norm_num) k) := by
  pointwise [k1_pay55]
  refine congrArg₂ (· + ·) rfl ?_
  have hc : (Fin.castLE (by norm_num : 768 ≤ 2048) k).val = k.val := rfl
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile two's second scores. -/
theorem second_two (k : Fin 768) :
    ∑ x : Fin 128, View.ld x0 r1_44 (ix3 0 r x) * View.ld x1 r1_45 (ix3 0 k x) + k1_pay58 (View.ld x3 r1_9) (View.ld x3 r1_10) (View.ld x3 r1_11) (ix2 r k)
      = score x0 x1 rb upper ⟨512 + r.val, by omega⟩ (Fin.castLE (by norm_num) k) := by
  pointwise [k1_pay58]
  refine congrArg₂ (· + ·) rfl ?_
  have hc : (Fin.castLE (by norm_num : 768 ≤ 2048) k).val = k.val := rfl
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile three's first scores. -/
theorem first_three (k : Fin 1024) :
    k1_pay45 (View.ld x3 r1_8) (View.ld x3 r1_9) (View.ld x3 r1_10) (View.ld x3 r1_11) (View.ld x0 r1_35) (View.ld x1 r1_36) (ix2 r k)
      = score x0 x1 rb lower ⟨768 + r.val, by omega⟩ (Fin.castLE (by norm_num) k) := by
  pointwise [k1_pay45]
  refine congrArg₂ (· + ·) rfl ?_
  have hc : (Fin.castLE (by norm_num : 1024 ≤ 2048) k).val = k.val := rfl
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile three's second scores. -/
theorem second_three (k : Fin 1024) :
    ∑ x : Fin 128, k1_pay52 (View.ld x0 r1_38) (ix2 r x) * View.ld x1 r1_39 (ix3 0 k x) + k1_pay51 (View.ld x3 r1_8) (View.ld x3 r1_9) (View.ld x3 r1_10) (View.ld x3 r1_11) (ix2 r k)
      = score x0 x1 rb upper ⟨768 + r.val, by omega⟩ (Fin.castLE (by norm_num) k) := by
  pointwise [k1_pay51, k1_pay52]
  refine congrArg₂ (· + ·) rfl ?_
  have hc : (Fin.castLE (by norm_num : 1024 ≤ 2048) k).val = k.val := rfl
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile four's first scores. -/
theorem first_four (k : Fin 1280) :
    k1_pay38 (k1_pay35 (View.ld x3 r1_7)) (k1_pay36 (View.ld x3 r1_8)) (k1_pay37 (View.ld x3 r1_9)) (View.ld x3 r1_10) (View.ld x3 r1_11) (View.ld x0 r1_29) (View.ld x1 r1_30) (ix2 r k)
      = score x0 x1 rb lower ⟨1024 + r.val, by omega⟩ (Fin.castLE (by norm_num) k) := by
  pointwise [k1_pay38, k1_pay35, k1_pay36, k1_pay37]
  refine congrArg₂ (· + ·) rfl ?_
  have hc : (Fin.castLE (by norm_num : 1280 ≤ 2048) k).val = k.val := rfl
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile four's second scores. -/
theorem second_four (k : Fin 1280) :
    k1_pay40 (View.ld x3 r1_7) (View.ld x3 r1_8) (View.ld x3 r1_9) (View.ld x3 r1_10) (View.ld x3 r1_11) (View.ld x0 r1_32) (View.ld x1 r1_33) (ix2 r k)
      = score x0 x1 rb upper ⟨1024 + r.val, by omega⟩ (Fin.castLE (by norm_num) k) := by
  pointwise [k1_pay40]
  refine congrArg₂ (· + ·) rfl ?_
  have hc : (Fin.castLE (by norm_num : 1280 ≤ 2048) k).val = k.val := rfl
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile five's first scores. -/
theorem first_five (k : Fin 1536) :
    k1_pay23 (View.ld x3 r1_6) (View.ld x3 r1_7) (View.ld x3 r1_8) (View.ld x3 r1_9) (View.ld x3 r1_10) (View.ld x3 r1_11) (View.ld x0 r1_23) (View.ld x1 r1_24) (ix2 r k)
      = score x0 x1 rb lower ⟨1280 + r.val, by omega⟩ (Fin.castLE (by norm_num) k) := by
  pointwise [k1_pay23]
  refine congrArg₂ (· + ·) rfl ?_
  have hc : (Fin.castLE (by norm_num : 1536 ≤ 2048) k).val = k.val := rfl
  refine dite_same (fun h5 => ?_) (fun h5 => ?_)
  · exact tile_bias x3 rb hT 5 5 rfl _ _ _ _ (by rw [hc] <;> (dsimp only; omega))
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile five's second scores. -/
theorem second_five (k : Fin 1536) :
    k1_pay33 (k1_pay28 (View.ld x3 r1_6)) (k1_pay29 (View.ld x3 r1_7)) (k1_pay30 (View.ld x3 r1_8)) (k1_pay31 (View.ld x3 r1_9)) (k1_pay32 (View.ld x3 r1_10)) (View.ld x3 r1_11) (View.ld x0 r1_26) (View.ld x1 r1_27) (ix2 r k)
      = score x0 x1 rb upper ⟨1280 + r.val, by omega⟩ (Fin.castLE (by norm_num) k) := by
  pointwise [k1_pay33, k1_pay28, k1_pay29, k1_pay30, k1_pay31, k1_pay32]
  refine congrArg₂ (· + ·) rfl ?_
  have hc : (Fin.castLE (by norm_num : 1536 ≤ 2048) k).val = k.val := rfl
  refine dite_same (fun h5 => ?_) (fun h5 => ?_)
  · exact tile_bias x3 rb hT 5 5 rfl _ _ _ _ (by rw [hc] <;> (dsimp only; omega))
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile six's first scores. -/
theorem first_six (k : Fin 1792) :
    k1_pay16 (View.ld x3 r1_5) (View.ld x3 r1_6) (View.ld x3 r1_7) (View.ld x3 r1_8) (View.ld x3 r1_9) (View.ld x3 r1_10) (View.ld x3 r1_11) (View.ld x0 r1_17) (View.ld x1 r1_18) (ix2 r k)
      = score x0 x1 rb lower ⟨1536 + r.val, by omega⟩ (Fin.castLE (by norm_num) k) := by
  pointwise [k1_pay16]
  refine congrArg₂ (· + ·) rfl ?_
  have hc : (Fin.castLE (by norm_num : 1792 ≤ 2048) k).val = k.val := rfl
  refine dite_same (fun h6 => ?_) (fun h6 => ?_)
  · exact tile_bias x3 rb hT 6 6 rfl _ _ _ _ (by rw [hc] <;> (dsimp only; omega))
  refine dite_same (fun h5 => ?_) (fun h5 => ?_)
  · exact tile_bias x3 rb hT 5 5 rfl _ _ _ _ (by rw [hc] <;> (dsimp only; omega))
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile six's second scores. -/
theorem second_six (k : Fin 1792) :
    k1_pay21 (k1_pay18 (View.ld x3 r1_5)) (k1_pay19 (View.ld x3 r1_6)) (k1_pay20 (View.ld x3 r1_7)) (View.ld x3 r1_8) (View.ld x3 r1_9) (View.ld x3 r1_10) (View.ld x3 r1_11) (View.ld x0 r1_20) (View.ld x1 r1_21) (ix2 r k)
      = score x0 x1 rb upper ⟨1536 + r.val, by omega⟩ (Fin.castLE (by norm_num) k) := by
  pointwise [k1_pay21, k1_pay18, k1_pay19, k1_pay20]
  refine congrArg₂ (· + ·) rfl ?_
  have hc : (Fin.castLE (by norm_num : 1792 ≤ 2048) k).val = k.val := rfl
  refine dite_same (fun h6 => ?_) (fun h6 => ?_)
  · exact tile_bias x3 rb hT 6 6 rfl _ _ _ _ (by rw [hc] <;> (dsimp only; omega))
  refine dite_same (fun h5 => ?_) (fun h5 => ?_)
  · exact tile_bias x3 rb hT 5 5 rfl _ _ _ _ (by rw [hc] <;> (dsimp only; omega))
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile seven's first scores. -/
theorem first_seven (k : Fin 2048) :
    k1_pay7 (k1_pay4 (View.ld x3 r1_4)) (k1_pay5 (View.ld x3 r1_5)) (k1_pay6 (View.ld x3 r1_6)) (View.ld x3 r1_7) (View.ld x3 r1_8) (View.ld x3 r1_9) (View.ld x3 r1_10) (View.ld x3 r1_11) (View.ld x0 r1_12) (View.ld x1 r1_13) (ix2 r k)
      = score x0 x1 rb lower ⟨1792 + r.val, by omega⟩ (Fin.castLE (by norm_num) k) := by
  pointwise [k1_pay7, k1_pay4, k1_pay5, k1_pay6]
  refine congrArg₂ (· + ·) rfl ?_
  have hc : (Fin.castLE (by norm_num : 2048 ≤ 2048) k).val = k.val := rfl
  refine dite_same (fun h7 => ?_) (fun h7 => ?_)
  · exact tile_bias x3 rb hT 7 7 rfl _ _ _ _ (by rw [hc] <;> (dsimp only; omega))
  refine dite_same (fun h6 => ?_) (fun h6 => ?_)
  · exact tile_bias x3 rb hT 6 6 rfl _ _ _ _ (by rw [hc] <;> (dsimp only; omega))
  refine dite_same (fun h5 => ?_) (fun h5 => ?_)
  · exact tile_bias x3 rb hT 5 5 rfl _ _ _ _ (by rw [hc] <;> (dsimp only; omega))
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

/-- Tile seven's second scores. -/
theorem second_seven (k : Fin 2048) :
    k1_pay10 (k1_pay8 (View.ld x3 r1_4)) (k1_pay9 (View.ld x3 r1_5)) (View.ld x3 r1_6) (View.ld x3 r1_7) (View.ld x3 r1_8) (View.ld x3 r1_9) (View.ld x3 r1_10) (View.ld x3 r1_11) (View.ld x0 r1_14) (View.ld x1 r1_15) (ix2 r k)
      = score x0 x1 rb upper ⟨1792 + r.val, by omega⟩ (Fin.castLE (by norm_num) k) := by
  pointwise [k1_pay10, k1_pay8, k1_pay9]
  refine congrArg₂ (· + ·) rfl ?_
  have hc : (Fin.castLE (by norm_num : 2048 ≤ 2048) k).val = k.val := rfl
  refine dite_same (fun h7 => ?_) (fun h7 => ?_)
  · exact tile_bias x3 rb hT 7 7 rfl _ _ _ _ (by rw [hc] <;> (dsimp only; omega))
  refine dite_same (fun h6 => ?_) (fun h6 => ?_)
  · exact tile_bias x3 rb hT 6 6 rfl _ _ _ _ (by rw [hc] <;> (dsimp only; omega))
  refine dite_same (fun h5 => ?_) (fun h5 => ?_)
  · exact tile_bias x3 rb hT 5 5 rfl _ _ _ _ (by rw [hc] <;> (dsimp only; omega))
  refine dite_same (fun h4 => ?_) (fun h4 => ?_)
  · exact tile_bias x3 rb hT 4 4 rfl _ _ _ _ (by rw [hc] <;> (dsimp only; omega))
  refine dite_same (fun h3 => ?_) (fun h3 => ?_)
  · exact tile_bias x3 rb hT 3 3 rfl _ _ _ _ (by rw [hc] <;> (dsimp only; omega))
  refine dite_same (fun h2 => ?_) (fun h2 => ?_)
  · exact tile_bias x3 rb hT 2 2 rfl _ _ _ _ (by rw [hc] <;> (dsimp only; omega))
  refine dite_same (fun h1 => ?_) (fun h1 => ?_)
  · exact tile_bias x3 rb hT 1 1 rfl _ _ _ _ (by rw [hc] <;> (dsimp only; omega))
  exact tile_bias x3 rb hT 0 0 rfl _ _ _ _ (by rw [hc]; dsimp only; omega)

end Cert.DiffAttn

end
-- ==== Proof.Block.lean ====
module

public import proofs.«01_k».proof.Proof.Scores

/-!
# What the attention call stores for a head and a batch entry

The eight stores tile the block's rows; each row is `headRow` over the keys up to its tile's end, and its
column's gain and lambda are the call's. The second output is the slab it was given, cast.
-/

@[expose] public section

set_option maxRecDepth 65536

noncomputable section

namespace Cert.DiffAttn

open Idealize.ShloMosaic Idealize.ShloMosaic.TcCoe Cert.KernelIdeal Cert.KernelIdeal.Gen

variable (x0 x1 x2 : Vec Ideal S1x2048x256 .bf16) (x3 : Vec Ideal S1x8x256x256 .f32)
  (x4 : Vec Ideal S4x128 .f32) (x5 : Vec Ideal S1x256 .f32) (x6 : Vec Ideal S1x64x11264 .f32)
  (rb : Fin 32 → EReal)

/-- The row stored for query `q`: its keys are those up to the end of its tile. -/
def rowAt (q : Fin 2048) (e : Fin 256) : EReal :=
  rowOver x0 x1 x2 x4 x5 rb (256 * (q.val / 256 + 1)) (by have := q.isLt; omega) q e

/-- A tile's row, at its place in the block. -/
theorem rowOver_eq_rowAt (n c : ℕ) (hn : n ≤ 2048) (hc : n = 256 * (c + 1)) (q q' : Fin 2048) (e e' : Fin 256)
    (hq : q'.val = q.val) (hqc : q.val / 256 = c) (he : e' = e) :
    rowOver x0 x1 x2 x4 x5 rb n hn q e = rowAt x0 x1 x2 x4 x5 rb q' e' := by
  obtain rfl : q' = q := Fin.ext hq
  subst hqc hc he
  rfl

/-- The block of such rows. -/
def blockRows : Vec Ideal S2048x256 .bf16 := fun y => rowAt x0 x1 x2 x4 x5 rb (y 0) (y 1)

variable (hT : IsTable x3 rb) (r e : Fin 256)

section
include hT

/-- Tile zero's stored rows. -/
theorem rows_zero :
    k1_pay74 (k1_pay75 x0 x1 x2 x3 x4 x5 x6) (k1_pay76 x0 x1 x2 x3 x4 x5 x6) (k1_pay70 (View.ld x3 r1_11) (View.ld x0 r1_55) (View.ld x1 r1_55)) (k1_pay72 (k1_pay83 x0 x1 x2 x3 x4 x5 x6) (View.ld x2 r1_56)) (k1_pay73 (k1_pay83 x0 x1 x2 x3 x4 x5 x6)) (View.ld x2 r1_56) (ix2 r e)
      = rowOver x0 x1 x2 x4 x5 rb 256 (by norm_num) ⟨r.val, by omega⟩ e :=
  (head_zero _ _ r e _ _ _).trans
    (headRow_congr (first_zero x0 x1 x3 rb hT r) (second_zero x0 x1 x3 rb hT r)
      (fun k e' => by pointwise; rfl))

/-- Tile one's stored rows. -/
theorem rows_one :
    k1_pay69 (k1_pay75 x0 x1 x2 x3 x4 x5 x6) (k1_pay76 x0 x1 x2 x3 x4 x5 x6) (k1_pay66 (k1_pay60 (View.ld x3 r1_10) (View.ld x3 r1_11) (View.ld x0 r1_47) (View.ld x1 r1_48)) (View.ld x2 r1_52)) (k1_pay68 (k1_pay63 (View.ld x3 r1_10) (View.ld x3 r1_11)) (k1_pay64 (View.ld x0 r1_50)) (k1_pay65 (View.ld x1 r1_51)) (View.ld x2 r1_52)) (ix2 r e)
      = rowOver x0 x1 x2 x4 x5 rb 512 (by norm_num) ⟨256 + r.val, by omega⟩ e :=
  (head_one _ _ r e _ _ _ _ _).trans
    (headRow_congr (first_one x0 x1 x3 rb hT r) (second_one x0 x1 x3 rb hT r)
      (fun k e' => by pointwise; rfl))

/-- Tile two's stored rows. -/
theorem rows_two :
    k1_pay62 (k1_pay75 x0 x1 x2 x3 x4 x5 x6) (k1_pay76 x0 x1 x2 x3 x4 x5 x6) (k1_pay59 (k1_pay55 (View.ld x3 r1_9) (View.ld x3 r1_10) (View.ld x3 r1_11) (View.ld x0 r1_41) (View.ld x1 r1_42)) (View.ld x2 r1_46)) (k1_pay61 (k1_pay58 (View.ld x3 r1_9) (View.ld x3 r1_10) (View.ld x3 r1_11)) (View.ld x0 r1_44) (View.ld x1 r1_45)) (View.ld x2 r1_46) (ix2 r e)
      = rowOver x0 x1 x2 x4 x5 rb 768 (by norm_num) ⟨512 + r.val, by omega⟩ e :=
  (head_two _ _ r e _ _ _ _ _).trans
    (headRow_congr (first_two x0 x1 x3 rb hT r) (second_two x0 x1 x3 rb hT r)
      (fun k e' => by pointwise; rfl))

/-- Tile three's stored rows. -/
theorem rows_three :
    k1_pay57 (k1_pay75 x0 x1 x2 x3 x4 x5 x6) (k1_pay76 x0 x1 x2 x3 x4 x5 x6) (k1_pay53 (k1_pay81 x0 x1 x2 x3 x4 x5 x6) (k1_pay82 x0 x1 x2 x3 x4 x5 x6) (View.ld x1 r1_39)) (k1_pay54 (k1_pay45 (View.ld x3 r1_8) (View.ld x3 r1_9) (View.ld x3 r1_10) (View.ld x3 r1_11) (View.ld x0 r1_35) (View.ld x1 r1_36)) (View.ld x2 r1_40)) (k1_pay56 (k1_pay81 x0 x1 x2 x3 x4 x5 x6) (k1_pay82 x0 x1 x2 x3 x4 x5 x6) (View.ld x1 r1_39)) (View.ld x2 r1_40) (ix2 r e)
      = rowOver x0 x1 x2 x4 x5 rb 1024 (by norm_num) ⟨768 + r.val, by omega⟩ e :=
  (head_three _ _ r e _ _ _ _ _).trans
    (headRow_congr (first_three x0 x1 x3 rb hT r) (second_three x0 x1 x3 rb hT r)
      (fun k e' => by pointwise; rfl))

/-- Tile four's stored rows. -/
theorem rows_four :
    k1_pay50 (k1_pay75 x0 x1 x2 x3 x4 x5 x6) (k1_pay76 x0 x1 x2 x3 x4 x5 x6) (k1_pay44 (k1_pay42 (k1_pay79 x0 x1 x2 x3 x4 x5 x6)) (k1_pay43 (k1_pay79 x0 x1 x2 x3 x4 x5 x6)) (View.ld x2 r1_34)) (k1_pay47 (k1_pay80 x0 x1 x2 x3 x4 x5 x6)) (k1_pay48 (k1_pay80 x0 x1 x2 x3 x4 x5 x6)) (k1_pay49 (View.ld x2 r1_34)) (ix2 r e)
      = rowOver x0 x1 x2 x4 x5 rb 1280 (by norm_num) ⟨1024 + r.val, by omega⟩ e :=
  (head_four _ _ r e _ _ _).trans
    (headRow_congr (first_four x0 x1 x3 rb hT r) (second_four x0 x1 x3 rb hT r)
      (fun k e' => by pointwise; rfl))

/-- Tile five's stored rows. -/
theorem rows_five :
    k1_pay39 (k1_pay75 x0 x1 x2 x3 x4 x5 x6) (k1_pay76 x0 x1 x2 x3 x4 x5 x6) (k1_pay33 (k1_pay28 (View.ld x3 r1_6)) (k1_pay29 (View.ld x3 r1_7)) (k1_pay30 (View.ld x3 r1_8)) (k1_pay31 (View.ld x3 r1_9)) (k1_pay32 (View.ld x3 r1_10)) (View.ld x3 r1_11) (View.ld x0 r1_26) (View.ld x1 r1_27)) (k1_pay34 (k1_pay23 (View.ld x3 r1_6) (View.ld x3 r1_7) (View.ld x3 r1_8) (View.ld x3 r1_9) (View.ld x3 r1_10) (View.ld x3 r1_11) (View.ld x0 r1_23) (View.ld x1 r1_24)) (View.ld x2 r1_28)) (View.ld x2 r1_28) (ix2 r e)
      = rowOver x0 x1 x2 x4 x5 rb 1536 (by norm_num) ⟨1280 + r.val, by omega⟩ e :=
  (head_five _ _ r e _ _ _).trans
    (headRow_congr (first_five x0 x1 x3 rb hT r) (second_five x0 x1 x3 rb hT r)
      (fun k e' => by pointwise; rfl))

/-- Tile six's stored rows. -/
theorem rows_six :
    k1_pay27 (k1_pay75 x0 x1 x2 x3 x4 x5 x6) (k1_pay76 x0 x1 x2 x3 x4 x5 x6) (k1_pay22 (k1_pay16 (View.ld x3 r1_5) (View.ld x3 r1_6) (View.ld x3 r1_7) (View.ld x3 r1_8) (View.ld x3 r1_9) (View.ld x3 r1_10) (View.ld x3 r1_11) (View.ld x0 r1_17) (View.ld x1 r1_18)) (View.ld x2 r1_22)) (k1_pay25 (k1_pay78 x0 x1 x2 x3 x4 x5 x6)) (k1_pay26 (k1_pay78 x0 x1 x2 x3 x4 x5 x6)) (View.ld x2 r1_22) (ix2 r e)
      = rowOver x0 x1 x2 x4 x5 rb 1792 (by norm_num) ⟨1536 + r.val, by omega⟩ e :=
  (head_six _ _ r e _ _ _).trans
    (headRow_congr (first_six x0 x1 x3 rb hT r) (second_six x0 x1 x3 rb hT r)
      (fun k e' => by pointwise; rfl))

/-- Tile seven's stored rows. -/
theorem rows_seven :
    k1_pay17 (k1_pay75 x0 x1 x2 x3 x4 x5 x6) (k1_pay76 x0 x1 x2 x3 x4 x5 x6) (k1_pay10 (k1_pay8 (View.ld x3 r1_4)) (k1_pay9 (View.ld x3 r1_5)) (View.ld x3 r1_6) (View.ld x3 r1_7) (View.ld x3 r1_8) (View.ld x3 r1_9) (View.ld x3 r1_10) (View.ld x3 r1_11) (View.ld x0 r1_14) (View.ld x1 r1_15)) (k1_pay15 (k1_pay12 (k1_pay77 x0 x1 x2 x3 x4 x5 x6)) (k1_pay13 (k1_pay77 x0 x1 x2 x3 x4 x5 x6)) (k1_pay14 (View.ld x2 r1_16))) (View.ld x2 r1_16) (ix2 r e)
      = rowOver x0 x1 x2 x4 x5 rb 2048 (by norm_num) ⟨1792 + r.val, by omega⟩ e :=
  (head_seven _ _ r e _ _ _).trans
    (headRow_congr (first_seven x0 x1 x3 rb hT r) (second_seven x0 x1 x3 rb hT r)
      (fun k e' => by pointwise; rfl))

/-- The block the call leaves: every row is the row of its query. -/
theorem out_rows : out1_7 x0 x1 x2 x3 x4 x5 x6 = blockRows x0 x1 x2 x4 x5 rb := by
  funext y
  unfold out1_7
  refine View.canon_apply_of_pieces (blockRows x0 x1 x2 x4 x5 rb) _ (fun p hp j => ?_) y
    (cover1_7 _ _ _ _ _ _ _ _ y)
  simp only [List.mem_cons, List.mem_nil_iff, or_false] at hp
  rcases hp with rfl | rfl | rfl | rfl | rfl | rfl | rfl | rfl
  · have h0 : (j 0).val < 256 := (j 0).isLt
    dsimp only
    refine (congrArg _ (ValueIdx.eq_ix2 j)).trans ((rows_zero x0 x1 x2 x3 x4 x5 x6 rb hT (j 0) (j 1)).trans ?_)
    refine rowOver_eq_rowAt x0 x1 x2 x4 x5 rb 256 0 _ (by norm_num) _ _ _ _ ?_ ?_ (Fin.ext ?_)
    · show 0 + 1 * (j 0).val = (j 0).val
      omega
    · show ((j 0).val) / 256 = 0
      omega
    · show 0 + 1 * (j 1).val = (j 1).val
      omega
  · have h0 : (j 0).val < 256 := (j 0).isLt
    dsimp only
    refine (congrArg _ (ValueIdx.eq_ix2 j)).trans ((rows_one x0 x1 x2 x3 x4 x5 x6 rb hT (j 0) (j 1)).trans ?_)
    refine rowOver_eq_rowAt x0 x1 x2 x4 x5 rb 512 1 _ (by norm_num) _ _ _ _ ?_ ?_ (Fin.ext ?_)
    · show 256 + 1 * (j 0).val = 256 + (j 0).val
      omega
    · show (256 + (j 0).val) / 256 = 1
      omega
    · show 0 + 1 * (j 1).val = (j 1).val
      omega
  · have h0 : (j 0).val < 256 := (j 0).isLt
    dsimp only
    refine (congrArg _ (ValueIdx.eq_ix2 j)).trans ((rows_two x0 x1 x2 x3 x4 x5 x6 rb hT (j 0) (j 1)).trans ?_)
    refine rowOver_eq_rowAt x0 x1 x2 x4 x5 rb 768 2 _ (by norm_num) _ _ _ _ ?_ ?_ (Fin.ext ?_)
    · show 512 + 1 * (j 0).val = 512 + (j 0).val
      omega
    · show (512 + (j 0).val) / 256 = 2
      omega
    · show 0 + 1 * (j 1).val = (j 1).val
      omega
  · have h0 : (j 0).val < 256 := (j 0).isLt
    dsimp only
    refine (congrArg _ (ValueIdx.eq_ix2 j)).trans ((rows_three x0 x1 x2 x3 x4 x5 x6 rb hT (j 0) (j 1)).trans ?_)
    refine rowOver_eq_rowAt x0 x1 x2 x4 x5 rb 1024 3 _ (by norm_num) _ _ _ _ ?_ ?_ (Fin.ext ?_)
    · show 768 + 1 * (j 0).val = 768 + (j 0).val
      omega
    · show (768 + (j 0).val) / 256 = 3
      omega
    · show 0 + 1 * (j 1).val = (j 1).val
      omega
  · have h0 : (j 0).val < 256 := (j 0).isLt
    dsimp only
    refine (congrArg _ (ValueIdx.eq_ix2 j)).trans ((rows_four x0 x1 x2 x3 x4 x5 x6 rb hT (j 0) (j 1)).trans ?_)
    refine rowOver_eq_rowAt x0 x1 x2 x4 x5 rb 1280 4 _ (by norm_num) _ _ _ _ ?_ ?_ (Fin.ext ?_)
    · show 1024 + 1 * (j 0).val = 1024 + (j 0).val
      omega
    · show (1024 + (j 0).val) / 256 = 4
      omega
    · show 0 + 1 * (j 1).val = (j 1).val
      omega
  · have h0 : (j 0).val < 256 := (j 0).isLt
    dsimp only
    refine (congrArg _ (ValueIdx.eq_ix2 j)).trans ((rows_five x0 x1 x2 x3 x4 x5 x6 rb hT (j 0) (j 1)).trans ?_)
    refine rowOver_eq_rowAt x0 x1 x2 x4 x5 rb 1536 5 _ (by norm_num) _ _ _ _ ?_ ?_ (Fin.ext ?_)
    · show 1280 + 1 * (j 0).val = 1280 + (j 0).val
      omega
    · show (1280 + (j 0).val) / 256 = 5
      omega
    · show 0 + 1 * (j 1).val = (j 1).val
      omega
  · have h0 : (j 0).val < 256 := (j 0).isLt
    dsimp only
    refine (congrArg _ (ValueIdx.eq_ix2 j)).trans ((rows_six x0 x1 x2 x3 x4 x5 x6 rb hT (j 0) (j 1)).trans ?_)
    refine rowOver_eq_rowAt x0 x1 x2 x4 x5 rb 1792 6 _ (by norm_num) _ _ _ _ ?_ ?_ (Fin.ext ?_)
    · show 1536 + 1 * (j 0).val = 1536 + (j 0).val
      omega
    · show (1536 + (j 0).val) / 256 = 6
      omega
    · show 0 + 1 * (j 1).val = (j 1).val
      omega
  · have h0 : (j 0).val < 256 := (j 0).isLt
    dsimp only
    refine (congrArg _ (ValueIdx.eq_ix2 j)).trans ((rows_seven x0 x1 x2 x3 x4 x5 x6 rb hT (j 0) (j 1)).trans ?_)
    refine rowOver_eq_rowAt x0 x1 x2 x4 x5 rb 2048 7 _ (by norm_num) _ _ _ _ ?_ ?_ (Fin.ext ?_)
    · show 1792 + 1 * (j 0).val = 1792 + (j 0).val
      omega
    · show (1792 + (j 0).val) / 256 = 7
      omega
    · show 0 + 1 * (j 1).val = (j 1).val
      omega

end

/-- The second output is the slab, cast. -/
theorem out_cast (y : S64x11264.Idx) :
    out1_8 (F := Ideal) x0 x1 x2 x3 x4 x5 x6 y = x6 (ValueIdx.ix3 0 (y 0) (y 1)) := by
  unfold out1_8
  rw [View.canon_unit_zero (by decide)]
  rw [ValueIdx.eq_ix2 y]
  pointwise [k1_pay1]
  rfl

end Cert.DiffAttn

end
-- ==== Proof.Arrays.lean ====
module

public import proofs.«01_k».proof.Proof.Tables
public import proofs.«01_k».proof.Proof.Block

/-!
# What the attention's call leaves in its two arrays

A point of the grid is a head and a batch entry. Its block of the first array is the rows of that head and
entry, from the blocks of queries, keys and values it is given and the head's bias table; the 32 slabs of the
second array are the first layer's up-projection, cast.
-/

@[expose] public section

set_option maxRecDepth 16384

noncomputable section

namespace Cert.DiffAttn

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The projected rows of a column tile and a batch entry, as launched. -/
def qkvBlock (g : Fin 24) (b : Fin 4) : Vec Ideal S1x2048x256 .bf16 := fun j =>
  (m ((c : Thread nD τ).loc main_arg0) : Vec Ideal S24x8192x256 .bf16)
    (ValueIdx.ix3 g ⟨2048 * b.val + (j 1).val, by have h : (j 1).val < 2048 := (j 1).isLt; omega⟩ (j 2))

/-- Lambda's weights, as launched. -/
def lamRows : Vec Ideal S4x128 .f32 := fun j =>
  (m ((c : Thread nD τ).loc main_arg2) : Vec Ideal S1x4x128 .f32) (ValueIdx.ix3 0 (j 0) (j 1))

/-- The gains, as launched. -/
def gainRow : Vec Ideal S1x256 .f32 := m ((c : Thread nD τ).loc main_arg3)

/-- The row of head `h`, entry `b` and query `q`. -/
def attnRow (h : Fin 8) (b : Fin 4) (q : Fin 2048) (e : Fin 256) : EReal :=
  rowAt (qkvBlock m c ⟨h.val, by omega⟩ b) (qkvBlock m c ⟨8 + h.val, by omega⟩ b)
    (qkvBlock m c ⟨16 + h.val, by omega⟩ b) (lamRows m c) (gainRow m c) (headBias m c h) q e

/-- The attention's result array: rows by entry and query, columns by head. -/
def attnArr : Buf (Elt Ideal) ((c : Thread nD τ).loc main_v4_0) :=
  (fun y => attnRow m c ⟨(y 1).val / 256, by have h : (y 1).val < 2048 := (y 1).isLt; omega⟩
      ⟨(y 0).val / 2048, by have h : (y 0).val < 8192 := (y 0).isLt; omega⟩
      ⟨(y 0).val % 2048, by omega⟩ ⟨(y 1).val % 256, by omega⟩ : Vec Ideal S8192x2048 .bf16)

/-- The cast weights of the first layer's up-projection. -/
def upArr : Buf (Elt Ideal) ((c : Thread nD τ).loc main_v4_1) :=
  (fun y => (m ((c : Thread nD τ).loc main_arg5) : Vec Ideal S2x2048x11264 .f32) (ValueIdx.ix3 0 (y 0) (y 1)) :
    Vec Ideal S2048x11264 .bf16)

/-- Where the windows' blocks lie at a point. -/
theorem places1 : ∀ t : Fin grid1.N,
    (win1_0.index t 0 = t.val / 4 ∧ win1_0.index t 1 = t.val % 4 ∧ win1_0.index t 2 = 0)
    ∧ (win1_1.index t 0 = 8 + t.val / 4 ∧ win1_1.index t 1 = t.val % 4 ∧ win1_1.index t 2 = 0)
    ∧ (win1_2.index t 0 = 16 + t.val / 4 ∧ win1_2.index t 1 = t.val % 4 ∧ win1_2.index t 2 = 0)
    ∧ (win1_3.index t 0 = t.val / 4 ∧ win1_3.index t 1 = 0 ∧ win1_3.index t 2 = 0 ∧ win1_3.index t 3 = 0)
    ∧ (win1_4.index t 0 = 0 ∧ win1_4.index t 1 = 0)
    ∧ (win1_5.index t 0 = 0 ∧ win1_5.index t 1 = 0)
    ∧ (win1_6.index t 0 = 0 ∧ win1_6.index t 1 = t.val ∧ win1_6.index t 2 = 0)
    ∧ (win1_7.index t 0 = t.val % 4 ∧ win1_7.index t 1 = t.val / 4)
    ∧ (win1_8.index t 0 = t.val ∧ win1_8.index t 1 = 0) := by decide +kernel

/-- A point's head. -/
def headOf (t : Fin cfg1.N) : Fin 8 := ⟨t.val / 4, by have := lt_of_lt_of_eq t.isLt N_1; omega⟩

/-- A point's batch entry. -/
def entryOf (t : Fin cfg1.N) : Fin 4 := ⟨t.val % 4, by omega⟩

variable (ρ : Dev nD → PrngReg)

theorem V2_arg0 : V2 (F := Ideal) m ρ c main_arg0 = m ((c : Thread nD τ).loc main_arg0) := W2_args m ρ c main_arg0 (by decide)
theorem V2_arg5 : V2 (F := Ideal) m ρ c main_arg5 = m ((c : Thread nD τ).loc main_arg5) := W2_args m ρ c main_arg5 (by decide)

/-- The bias table as the attention's call finds it. -/
theorem V2_table : V2 m ρ c main_v0_0 = tableArr m c :=
  (W2_of m ρ c main_v0_0 (by decide)).trans ((W1_arr m ρ c 2).trans (final_table m c ρ))

/-- Lambda's weights as the call finds them. -/
theorem V2_lam : V2 m ρ c main_v1 = (lamRows m c : Vec Ideal S4x128 .f32) := by
  have e : V2 m ρ c main_v1 = shapeCast S4x128 (W1 m ρ c (Proc.devRef .tc main_arg2) : Vec Ideal S1x4x128 .f32) shapeCasts_S1x4x128_S4x128 := by
    rfl
  rw [e, W1_args m ρ c main_arg2 (by decide)]
  funext j
  rw [ValueIdx.eq_ix2 j]
  pointwise
  rfl

/-- The gains as the call finds them. -/
theorem V2_gain : V2 m ρ c main_v3 = (gainRow m c : Vec Ideal S1x256 .f32) := by
  have e : V2 m ρ c main_v3 = shapeCast S1x256 (shapeCast S256 (W1 m ρ c (Proc.devRef .tc main_arg3) : Vec Ideal S1x256 .f32) shapeCasts_S1x256_S256) shapeCasts_S256_S1x256 := by
    rfl
  rw [e, W1_args m ρ c main_arg3 (by decide)]
  funext j
  rw [ValueIdx.eq_ix2 j]
  pointwise
  rfl

/-- The queries a point is given. -/
theorem iblk1_0 (t : Fin cfg1.N) :
    iblk1 (V2 m ρ) c 0 t = qkvBlock m c ⟨(headOf t).val, by have := (headOf t).isLt; omega⟩ (entryOf t) := by
  obtain ⟨p0, p1, p2⟩ := (places1 t).1
  funext j
  unfold iblk1
  refine (congrArg (fun X : Vec Ideal S24x8192x256 .bf16 => X (((cfg1.win 0).blk t).view.emb j)) (V2_arg0 m c ρ)).trans ?_
  unfold qkvBlock
  refine congrArg (m ((c : Thread nD τ).loc main_arg0) : Vec Ideal S24x8192x256 .bf16) (funext fun a => Fin.ext ?_)
  have hj : (j 0).val < 1 := (j 0).isLt
  match a with
  | ⟨0, _⟩ => show win1_0.index t 0 * 1 + 1 * (j 0).val = t.val / 4; omega
  | ⟨1, _⟩ => show win1_0.index t 1 * 2048 + 1 * (j 1).val = 2048 * (t.val % 4) + (j 1).val; omega
  | ⟨2, _⟩ => show win1_0.index t 2 * 256 + 1 * (j 2).val = (j 2).val; omega

/-- The keys a point is given. -/
theorem iblk1_1 (t : Fin cfg1.N) :
    iblk1 (V2 m ρ) c 1 t = qkvBlock m c ⟨8 + (headOf t).val, by have := (headOf t).isLt; omega⟩ (entryOf t) := by
  obtain ⟨p0, p1, p2⟩ := (places1 t).2.1
  funext j
  unfold iblk1
  refine (congrArg (fun X : Vec Ideal S24x8192x256 .bf16 => X (((cfg1.win 1).blk t).view.emb j)) (V2_arg0 m c ρ)).trans ?_
  unfold qkvBlock
  refine congrArg (m ((c : Thread nD τ).loc main_arg0) : Vec Ideal S24x8192x256 .bf16) (funext fun a => Fin.ext ?_)
  have hj : (j 0).val < 1 := (j 0).isLt
  match a with
  | ⟨0, _⟩ => show win1_1.index t 0 * 1 + 1 * (j 0).val = 8 + t.val / 4; omega
  | ⟨1, _⟩ => show win1_1.index t 1 * 2048 + 1 * (j 1).val = 2048 * (t.val % 4) + (j 1).val; omega
  | ⟨2, _⟩ => show win1_1.index t 2 * 256 + 1 * (j 2).val = (j 2).val; omega

/-- The values a point is given. -/
theorem iblk1_2 (t : Fin cfg1.N) :
    iblk1 (V2 m ρ) c 2 t = qkvBlock m c ⟨16 + (headOf t).val, by have := (headOf t).isLt; omega⟩ (entryOf t) := by
  obtain ⟨p0, p1, p2⟩ := (places1 t).2.2.1
  funext j
  unfold iblk1
  refine (congrArg (fun X : Vec Ideal S24x8192x256 .bf16 => X (((cfg1.win 2).blk t).view.emb j)) (V2_arg0 m c ρ)).trans ?_
  unfold qkvBlock
  refine congrArg (m ((c : Thread nD τ).loc main_arg0) : Vec Ideal S24x8192x256 .bf16) (funext fun a => Fin.ext ?_)
  have hj : (j 0).val < 1 := (j 0).isLt
  match a with
  | ⟨0, _⟩ => show win1_2.index t 0 * 1 + 1 * (j 0).val = 16 + t.val / 4; omega
  | ⟨1, _⟩ => show win1_2.index t 1 * 2048 + 1 * (j 1).val = 2048 * (t.val % 4) + (j 1).val; omega
  | ⟨2, _⟩ => show win1_2.index t 2 * 256 + 1 * (j 2).val = (j 2).val; omega

/-- The table's block a point is given is its head's. -/
theorem iblk1_3 (t : Fin cfg1.N) : IsTable (iblk1 (V2 m ρ) c 3 t) (headBias m c (headOf t)) := by
  obtain ⟨p0, p1, p2, p3⟩ := (places1 t).2.2.2.1
  intro d i l
  unfold iblk1
  refine (congrArg (fun X : Vec Ideal S8x8x256x256 .f32 => X (((cfg1.win 3).blk t).view.emb (ix4 0 d i l))) (V2_table m c ρ)).trans ?_
  have e0 : ((((cfg1.win 3).blk t).view.emb (ix4 0 d i l)) 0).val = (headOf t).val := by
    show win1_3.index t 0 * 1 + 1 * 0 = t.val / 4; omega
  have e1 : ((((cfg1.win 3).blk t).view.emb (ix4 0 d i l)) 1).val = d.val := by
    show win1_3.index t 1 * 8 + 1 * d.val = d.val; omega
  have e2 : ((((cfg1.win 3).blk t).view.emb (ix4 0 d i l)) 2).val = i.val := by
    show win1_3.index t 2 * 256 + 1 * i.val = i.val; omega
  have e3 : ((((cfg1.win 3).blk t).view.emb (ix4 0 d i l)) 3).val = l.val := by
    show win1_3.index t 3 * 256 + 1 * l.val = l.val; omega
  show biasOf (headBias m c ((((cfg1.win 3).blk t).view.emb (ix4 0 d i l)) 0))
    (256 * ((((cfg1.win 3).blk t).view.emb (ix4 0 d i l)) 1).val + ((((cfg1.win 3).blk t).view.emb (ix4 0 d i l)) 2).val)
    ((((cfg1.win 3).blk t).view.emb (ix4 0 d i l)) 3).val = _
  rw [e1, e2, e3]
  exact congrArg (fun h => biasOf (headBias m c h) _ _) (Fin.ext e0)

/-- Lambda's weights are given whole. -/
theorem iblk1_4 (t : Fin cfg1.N) : iblk1 (V2 m ρ) c 4 t = lamRows m c := by
  obtain ⟨p0, p1⟩ := (places1 t).2.2.2.2.1
  funext j
  unfold iblk1
  refine (congrArg (fun X : Vec Ideal S4x128 .f32 => X (((cfg1.win 4).blk t).view.emb j)) (V2_lam m c ρ)).trans ?_
  refine congrArg (lamRows m c) (funext fun a => Fin.ext ?_)
  match a with
  | ⟨0, _⟩ => show win1_4.index t 0 * 4 + 1 * (j 0).val = (j 0).val; omega
  | ⟨1, _⟩ => show win1_4.index t 1 * 128 + 1 * (j 1).val = (j 1).val; omega

/-- The gains are given whole. -/
theorem iblk1_5 (t : Fin cfg1.N) : iblk1 (V2 m ρ) c 5 t = gainRow m c := by
  obtain ⟨p0, p1⟩ := (places1 t).2.2.2.2.2.1
  funext j
  unfold iblk1
  refine (congrArg (fun X : Vec Ideal S1x256 .f32 => X (((cfg1.win 5).blk t).view.emb j)) (V2_gain m c ρ)).trans ?_
  refine congrArg (gainRow m c) (funext fun a => Fin.ext ?_)
  match a with
  | ⟨0, _⟩ => show win1_5.index t 0 * 1 + 1 * (j 0).val = (j 0).val; omega
  | ⟨1, _⟩ => show win1_5.index t 1 * 256 + 1 * (j 1).val = (j 1).val; omega

/-- The slab of the weights a point is given. -/
theorem iblk1_6 (t : Fin cfg1.N) (j : S1x64x11264.Idx) (y : S2x2048x11264.Idx) (h0 : (y 0).val = 0)
    (h1 : (y 1).val = 64 * t.val + (j 1).val) (h2 : (y 2).val = (j 2).val) :
    iblk1 (V2 m ρ) c 6 t j = (m ((c : Thread nD τ).loc main_arg5) : Vec Ideal S2x2048x11264 .f32) y := by
  obtain ⟨p0, p1, p2⟩ := (places1 t).2.2.2.2.2.2.1
  unfold iblk1
  refine (congrArg (fun X : Vec Ideal S2x2048x11264 .f32 => X (((cfg1.win 6).blk t).view.emb j)) (V2_arg5 m c ρ)).trans ?_
  refine congrArg (m ((c : Thread nD τ).loc main_arg5) : Vec Ideal S2x2048x11264 .f32) (funext fun a => Fin.ext ?_)
  have hj : (j 0).val < 1 := (j 0).isLt
  match a with
  | ⟨0, _⟩ => show win1_6.index t 0 * 1 + 1 * (j 0).val = (y 0).val; omega
  | ⟨1, _⟩ => show win1_6.index t 1 * 64 + 1 * (j 1).val = (y 1).val; omega
  | ⟨2, _⟩ => show win1_6.index t 2 * 11264 + 1 * (j 2).val = (y 2).val; omega

/-- A point writes its head's and entry's block of the result. -/
theorem flushed_attn (t : Fin cfg1.N) :
    (dat1 (V2 m ρ) c).flushed 7 t = ((cfg1.win 7).blk t).view.read (Elt Ideal) (attnArr m c) := by
  obtain ⟨p0, p1⟩ := (places1 t).2.2.2.2.2.2.2.1
  show (cfg1.win 7).cut (grid1.coords t) ((dat1 (V2 m ρ) c).after 7 t) = _
  rw [after1_7, out_rows _ _ _ _ _ _ _ (headBias m c (headOf t)) (iblk1_3 m c ρ t), iblk1_0, iblk1_1, iblk1_2, iblk1_4, iblk1_5]
  funext j
  have hj0 : (j 0).val < 2048 := (j 0).isLt
  have hj1 : (j 1).val < 256 := (j 1).isLt
  have e0 : ((((cfg1.win 7).blk t).view.emb j) 0).val = 2048 * (t.val % 4) + (j 0).val := by
    show win1_7.index t 0 * 2048 + 1 * (j 0).val = _; omega
  have e1 : ((((cfg1.win 7).blk t).view.emb j) 1).val = 256 * (t.val / 4) + (j 1).val := by
    show win1_7.index t 1 * 256 + 1 * (j 1).val = _; omega
  show attnRow m c (headOf t) (entryOf t) (j 0) (j 1) = attnRow m c _ _ _ _
  congr 1 <;> apply Fin.ext
  · show t.val / 4 = ((((cfg1.win 7).blk t).view.emb j) 1).val / 256; omega
  · show t.val % 4 = ((((cfg1.win 7).blk t).view.emb j) 0).val / 2048; omega
  · show (j 0).val = ((((cfg1.win 7).blk t).view.emb j) 0).val % 2048; omega
  · show (j 1).val = ((((cfg1.win 7).blk t).view.emb j) 1).val % 256; omega

/-- The blocks of the result tile it. -/
theorem cover_attn (y : S8192x2048.Idx) :
    ∃ t : Fin cfg1.N, (cfg1.win 7).flush t = true ∧ y ∈ ((cfg1.win 7).blk t).view.set := by
  have h0 : (y 0).val < 8192 := (y 0).isLt
  have h1 : (y 1).val < 2048 := (y 1).isLt
  have ht : 4 * ((y 1).val / 256) + (y 0).val / 2048 < grid1.N :=
    lt_of_lt_of_eq (by omega : 4 * ((y 1).val / 256) + (y 0).val / 2048 < 32) N_1.symm
  refine ⟨⟨4 * ((y 1).val / 256) + (y 0).val / 2048, ht⟩, flush1_7 _, ?_⟩
  obtain ⟨p0, p1⟩ := (places1 ⟨4 * ((y 1).val / 256) + (y 0).val / 2048, ht⟩).2.2.2.2.2.2.2.1
  dsimp only at p0 p1
  show y ∈ ((View.whole main_v4_0).slice (win1_7.rect ⟨4 * ((y 1).val / 256) + (y 0).val / 2048, ht⟩)).set
  rw [View.set_slice_whole, Rect.mem_set_unit]
  intro a
  match a with
  | ⟨0, _⟩ => show win1_7.index _ 0 * 2048 ≤ (y 0).val ∧ (y 0).val < win1_7.index _ 0 * 2048 + 2048; rw [p0]; omega
  | ⟨1, _⟩ => show win1_7.index _ 1 * 256 ≤ (y 1).val ∧ (y 1).val < win1_7.index _ 1 * 256 + 256; rw [p1]; omega

/-- So the first array ends holding the attention's rows. -/
theorem final_attn : (dat1 (V2 m ρ) c).arrAt 7 cfg1.N = attnArr m c :=
  (dat1 (V2 m ρ) c).arrAt_eq_of_cover 7 (attnArr m c) (fun t _ => flushed_attn m c ρ t) cover_attn

/-- A point writes its slab of the cast weights. -/
theorem flushed_up (t : Fin cfg1.N) :
    (dat1 (V2 m ρ) c).flushed 8 t = ((cfg1.win 8).blk t).view.read (Elt Ideal) (upArr m c) := by
  obtain ⟨p0, p1⟩ := (places1 t).2.2.2.2.2.2.2.2
  show (cfg1.win 8).cut (grid1.coords t) ((dat1 (V2 m ρ) c).after 8 t) = _
  rw [after1_8]
  funext j
  refine (out_cast _ _ _ _ _ _ _ _).trans ?_
  refine (iblk1_6 m c ρ t _ (ValueIdx.ix3 0 ((((cfg1.win 8).blk t).view.emb j) 0) ((((cfg1.win 8).blk t).view.emb j) 1))
    rfl ?_ ?_).trans rfl
  · show win1_8.index t 0 * 64 + 1 * (j 0).val = 64 * t.val + (j 0).val; omega
  · show win1_8.index t 1 * 11264 + 1 * (j 1).val = (j 1).val; omega

/-- The slabs tile their array. -/
theorem cover_up (y : S2048x11264.Idx) :
    ∃ t : Fin cfg1.N, (cfg1.win 8).flush t = true ∧ y ∈ ((cfg1.win 8).blk t).view.set := by
  have h0 : (y 0).val < 2048 := (y 0).isLt
  have h1 : (y 1).val < 11264 := (y 1).isLt
  have ht : (y 0).val / 64 < grid1.N := lt_of_lt_of_eq (by omega : (y 0).val / 64 < 32) N_1.symm
  refine ⟨⟨(y 0).val / 64, ht⟩, flush1_8 _, ?_⟩
  obtain ⟨p0, p1⟩ := (places1 ⟨(y 0).val / 64, ht⟩).2.2.2.2.2.2.2.2
  dsimp only at p0 p1
  show y ∈ ((View.whole main_v4_1).slice (win1_8.rect ⟨(y 0).val / 64, ht⟩)).set
  rw [View.set_slice_whole, Rect.mem_set_unit]
  intro a
  match a with
  | ⟨0, _⟩ => show win1_8.index _ 0 * 64 ≤ (y 0).val ∧ (y 0).val < win1_8.index _ 0 * 64 + 64; rw [p0]; omega
  | ⟨1, _⟩ => show win1_8.index _ 1 * 11264 ≤ (y 1).val ∧ (y 1).val < win1_8.index _ 1 * 11264 + 11264; rw [p1]; omega

/-- So the second array ends holding the cast weights. -/
theorem final_up : (dat1 (V2 m ρ) c).arrAt 8 cfg1.N = upArr m c :=
  (dat1 (V2 m ρ) c).arrAt_eq_of_cover 8 (upArr m c) (fun t _ => flushed_up m c ρ t) cover_up

end Cert.DiffAttn

end
-- ==== Proof.KernelRun.lean ====
module

public import proofs.«01_k».proof.Proof.Arrays

/-!
# The kernel's run

The two calls and the reshapes between them, run one after another: the three results end at the arrays
`Tables` and `Arrays` state, the arguments as they were. The launch is the one the frame's theorem uses, read at
the results too.
-/

@[expose] public section

set_option maxRecDepth 16384

noncomputable section

namespace Cert.DiffAttn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The attention's result at the end. -/
theorem end_attn (c : Dev nD) : W3 m ρ c (Proc.devRef .tc main_v4_0) = attnArr m c :=
  (W3_arr m ρ c 7).trans (final_attn m c ρ)

/-- The cast up-projection at the end. -/
theorem end_up (c : Dev nD) : W3 m ρ c (Proc.devRef .tc main_v4_1) = upArr m c :=
  (W3_arr m ρ c 8).trans (final_up m c ρ)

/-- The cast projection, written by the first call, at the end. -/
theorem end_cast (c : Dev nD) : W3 m ρ c (Proc.devRef .tc main_v0_1) = castArr m c :=
  (W3_of_ne m ρ c main_v0_1 (by decide)).trans ((W2_of m ρ c main_v0_1 (by decide)).trans
    ((W1_arr m ρ c 3).trans (final_cast m c ρ)))

set_option backward.isDefEq.respectTransparency.types false in
/-- Every run ends with the three results at their arrays and the arguments unchanged. -/
theorem kernel_run : θ_run defs (onTc (τ := τ) (main (F := Ideal))) ⟨m, fun _ => 0, ρ⟩ (fun r => ∀ c : Dev nD,
      r.2.mem ((c.tc : Thread nD τ).loc main_v4_0) = attnArr m c
      ∧ r.2.mem ((c.tc : Thread nD τ).loc main_v0_1) = castArr m c
      ∧ r.2.mem ((c.tc : Thread nD τ).loc main_v4_1) = upArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v4_0 (by decide))).trans (end_attn m ρ c),
       (h c _ (mem_uc main_v0_1 (by decide))).trans (end_cast m ρ c),
       (h c _ (mem_uc main_v4_1 (by decide))).trans (end_up m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.DiffAttn

end
-- ==== Proof.RefScore.lean ====
module

public import proofs.«01_k».proof.Proof.Gen.ReferenceIdeal.Read
public import proofs.«01_k».proof.Proof.BiasTable
public import Idealize.ShloMosaic.Lib.StableHlo.Predicate

/-!
# The reference's masked scores

A score of the reference is the dot product of a query's half and a key's half, plus the bias of their distance;
for a key that comes later it is minus infinity. That is the score with the bias `biasOf`, which is minus infinity
there.
-/

@[expose] public section

set_option maxRecDepth 16384

noncomputable section

namespace Cert.DiffAttn

open Idealize.ShloMosaic
open Cert.ReferenceIdeal (S24x8192x256 S32x8 S1x4x128 S1x256 S2048x2048 S2048x2048x1 S2048x2048x8)
open Cert.ReferenceIdeal.Read

variable (x0 : Vec Ideal S24x8192x256 .bf16) (x1 : Vec Ideal S32x8 .f32)

/-- Row `n` of batch entry `b`, in column tile `g`. -/
def qkvAt (g : Fin 24) (b : Fin 4) (n : Fin 2048) (e : Fin 256) : EReal :=
  x0 (ix3 g ⟨2048 * b.val + n.val, by omega⟩ e)

/-- The queries of a head. -/
theorem ref_query (h : Fin 8) (b : Fin 4) (n : Fin 2048) (e : Fin 256) :
    val_main_v3 (F := Ideal) x0 (ix4 h b n e) = qkvAt x0 ⟨h.val, by omega⟩ b n e := by
  rw [val_main_v3_apply, val_main_v2_apply, val_main_v1_apply, val_main_v0_apply]
  refine congrArg x0 ?_
  funext a; apply Fin.ext
  match a with
  | ⟨0, _⟩ => show (((((0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) / 2097152 = h.val; omega
  | ⟨1, _⟩ => show (((((0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) / 256 % 8192 = 2048 * b.val + n.val; omega
  | ⟨2, _⟩ => show (((((0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) % 256 = e.val; omega

/-- The keys of a head. -/
theorem ref_key (h : Fin 8) (b : Fin 4) (n : Fin 2048) (e : Fin 256) :
    val_main_v6 (F := Ideal) x0 (ix4 h b n e) = qkvAt x0 ⟨8 + h.val, by omega⟩ b n e := by
  rw [val_main_v6_apply, val_main_v5_apply, val_main_v1_apply, val_main_v0_apply]
  refine congrArg x0 ?_
  funext a; apply Fin.ext
  match a with
  | ⟨0, _⟩ => show (((((1 + 0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) / 2097152 = 8 + h.val; omega
  | ⟨1, _⟩ => show (((((1 + 0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) / 256 % 8192 = 2048 * b.val + n.val; omega
  | ⟨2, _⟩ => show (((((1 + 0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) % 256 = e.val; omega

/-- The values of a head. -/
theorem ref_value (h : Fin 8) (b : Fin 4) (n : Fin 2048) (e : Fin 256) :
    val_main_v9 (F := Ideal) x0 (ix4 h b n e) = qkvAt x0 ⟨16 + h.val, by omega⟩ b n e := by
  rw [val_main_v9_apply, val_main_v8_apply, val_main_v1_apply, val_main_v0_apply]
  refine congrArg x0 ?_
  funext a; apply Fin.ext
  match a with
  | ⟨0, _⟩ => show (((((2 + 0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) / 2097152 = 16 + h.val; omega
  | ⟨1, _⟩ => show (((((2 + 0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) / 256 % 8192 = 2048 * b.val + n.val; omega
  | ⟨2, _⟩ => show (((((2 + 0) * 8 + (((h.val * 4 + b.val) * 2048 + n.val) * 256 + e.val) / 2097152 % 8) * 4 + (((h.val * 4 + b.val) * 2048 + n.val) * 256 + e.val) / 524288 % 4) * 2048 + (((h.val * 4 + b.val) * 2048 + n.val) * 256 + e.val) / 256 % 2048) * 256 + (((h.val * 4 + b.val) * 2048 + n.val) * 256 + e.val) % 256) % 256 = e.val; omega

/-- A column of the pair's half `half`. -/
def column (half : Fin 2) (x : Fin 128) : Fin 256 := ⟨128 * half.val + x.val, by omega⟩

/-- The queries of a head, by halves. -/
theorem ref_half_query (h : Fin 8) (b : Fin 4) (n : Fin 2048) (half : Fin 2) (x : Fin 128) :
    val_main_v4 (F := Ideal) x0 (ix5 h b n half x) = qkvAt x0 ⟨h.val, by omega⟩ b n (column half x) := by
  rw [val_main_v4_apply, ← ref_query]
  refine congrArg (val_main_v3 (F := Ideal) x0) ?_
  funext a; apply Fin.ext
  match a with
  | ⟨0, _⟩ => show ((((h.val * 4 + b.val) * 2048 + n.val) * 2 + half.val) * 128 + x.val) / 2097152 = h.val; omega
  | ⟨1, _⟩ => show ((((h.val * 4 + b.val) * 2048 + n.val) * 2 + half.val) * 128 + x.val) / 524288 % 4 = b.val; omega
  | ⟨2, _⟩ => show ((((h.val * 4 + b.val) * 2048 + n.val) * 2 + half.val) * 128 + x.val) / 256 % 2048 = n.val; omega
  | ⟨3, _⟩ => show ((((h.val * 4 + b.val) * 2048 + n.val) * 2 + half.val) * 128 + x.val) % 256 = 128 * half.val + x.val; omega

/-- The keys of a head, by halves. -/
theorem ref_half_key (h : Fin 8) (b : Fin 4) (n : Fin 2048) (half : Fin 2) (x : Fin 128) :
    val_main_v7 (F := Ideal) x0 (ix5 h b n half x) = qkvAt x0 ⟨8 + h.val, by omega⟩ b n (column half x) := by
  rw [val_main_v7_apply, ← ref_key]
  refine congrArg (val_main_v6 (F := Ideal) x0) ?_
  funext a; apply Fin.ext
  match a with
  | ⟨0, _⟩ => show ((((h.val * 4 + b.val) * 2048 + n.val) * 2 + half.val) * 128 + x.val) / 2097152 = h.val; omega
  | ⟨1, _⟩ => show ((((h.val * 4 + b.val) * 2048 + n.val) * 2 + half.val) * 128 + x.val) / 524288 % 4 = b.val; omega
  | ⟨2, _⟩ => show ((((h.val * 4 + b.val) * 2048 + n.val) * 2 + half.val) * 128 + x.val) / 256 % 2048 = n.val; omega
  | ⟨3, _⟩ => show ((((h.val * 4 + b.val) * 2048 + n.val) * 2 + half.val) * 128 + x.val) % 256 = 128 * half.val + x.val; omega

/-- The dot product of a query's and a key's half. -/
theorem ref_dot (h : Fin 8) (b : Fin 4) (half : Fin 2) (q k : Fin 2048) :
    val_main_v61 (F := Ideal) x0 (ix5 h b half q k)
      = ∑ x : Fin 128, qkvAt x0 ⟨h.val, by omega⟩ b q (column half x) * qkvAt x0 ⟨8 + h.val, by omega⟩ b k (column half x) := by
  rw [val_main_v61_apply]
  refine Finset.sum_congr rfl fun x _ => ?_
  refine congrArg₂ (· * ·) ?_ ?_
  · refine Eq.trans (congrArg _ ?_) (ref_half_query x0 h b q half x)
    exact ValueIdx.eq_ix5 _
  · refine Eq.trans (congrArg _ ?_) (ref_half_key x0 h b k half x)
    exact ValueIdx.eq_ix5 _

/-- The distance of two positions, as a word. -/
theorem ref_distance (q k : Fin 2048) :
    val_main_v32 (F := Ideal) (ix2 q k) = BitVec.ofNat 32 q.val - BitVec.ofNat 32 k.val := by
  rw [val_main_v32_apply, val_main_v30_apply, val_main_v31_apply, val_main_v28_apply, val_main_v29_apply,
    val_main_v27_apply, val_main_v27_apply]
  rfl

/-- The bucket of a distance. -/
theorem ref_bucket (q k : Fin 2048) :
    val_main_v52 (F := Ideal) (ix2 q k) = bucketOf (val_main_v32 (F := Ideal) (ix2 q k)) := by
  simp only [val_main_v52_apply, val_main_v51_apply, val_main_v50_apply, val_main_v49_apply, val_main_v48_apply,
    val_main_v47_apply, val_main_v46_apply, val_main_v45_apply, val_main_v44_apply, val_main_v43_apply,
    val_main_v42_apply, val_main_v41_apply, val_main_v40_apply, val_main_v39_apply, val_main_v38_apply,
    val_main_v37_apply, val_main_v36_apply, val_main_v35_apply, val_main_v34_apply, val_main_v33_apply]
  rfl

/-- The word of a distance, for a key that does not come later. -/
theorem word_le {q k : Fin 2048} (h : k.val ≤ q.val) :
    BitVec.ofNat 32 q.val - BitVec.ofNat 32 k.val = BitVec.ofNat 32 (q.val - k.val) := by
  apply BitVec.eq_of_toNat_eq
  have := q.isLt; have := k.isLt
  rw [BitVec.toNat_sub, BitVec.toNat_ofNat, BitVec.toNat_ofNat, BitVec.toNat_ofNat]
  omega

/-- The word of a distance is negative exactly for a key that comes later. -/
theorem word_sign (q k : Fin 2048) :
    (0#32).toInt ≤ (BitVec.ofNat 32 q.val - BitVec.ofNat 32 k.val).toInt ↔ k.val ≤ q.val := by
  have hq := q.isLt; have hk := k.isLt
  have z : (0#32).toInt = 0 := rfl
  rw [z]
  constructor
  · intro hh
    by_contra hc
    have hneg : (BitVec.ofNat 32 q.val - BitVec.ofNat 32 k.val).toInt < 0 := by
      rw [BitVec.toInt_eq_toNat_cond, BitVec.toNat_sub, BitVec.toNat_ofNat, BitVec.toNat_ofNat]
      omega
    omega
  · intro hh
    rw [word_le hh, BitVec.toInt_eq_toNat_cond, BitVec.toNat_ofNat]
    omega

/-- A bucket is one of the 32. -/
theorem bucket_le (q k : Fin 2048) : (bucketOf (BitVec.ofNat 32 q.val - BitVec.ofNat 32 k.val)).toNat ≤ 31 := by
  have := q.isLt; have := k.isLt
  by_cases h : k.val ≤ q.val
  · rw [word_le h]; exact bucketOf_le (by omega)
  · rw [bucketOf_neg]
    · decide
    · rw [BitVec.toInt_eq_toNat_cond, BitVec.toNat_sub, BitVec.toNat_ofNat, BitVec.toNat_ofNat]
      omega

/-- The row the gather looks up: the bucket itself, which is never negative. -/
theorem ref_row (q k : Fin 2048) :
    val_main_v57 (F := Ideal) (ix2 q k) = bucketOf (BitVec.ofNat 32 q.val - BitVec.ofNat 32 k.val) := by
  have hb := bucket_le q k
  rw [val_main_v57_apply, val_main_v54_apply, ref_bucket, ref_distance, val_main_v53_apply]
  have : IntOp.cmpi .slt (bucketOf (BitVec.ofNat 32 q.val - BitVec.ofNat 32 k.val))
      (val_main_c_9 (F := Ideal) (idx_main_v53 (ix2 q k))) = 0#1 := by
    show BitVec.ofBool (BitVec.slt _ 0#32) = 0#1
    rw [BitVec.slt, BitVec.toInt_eq_toNat_cond, if_pos (by omega)]
    rw [decide_eq_false (by simp)]; rfl
  rw [this]
  rfl

/-- The lookup of a row's entry for a head. -/
theorem gather_entry (idx : IVec S2048x2048x1 32) (q k : Fin 2048) (h : Fin 8) (r : Fin 32)
    (hr : (idx (ix3 q k 0)).toNat = r.val) :
    Host.gather Cert.ReferenceIdeal.gather_S32x8_S2048x2048x1_S2048x2048x8_2_0_n_n_0_2_18 x1 idx (ix3 q k h)
      = x1 (ix2 r h) := by
  unfold Host.gather
  refine congrArg x1 (funext fun a => Fin.ext ?_)
  have hrl := r.isLt
  match a with
  | ⟨0, _⟩ =>
    show GatherDims.start _ _ idx 0 + GatherDims.batchCoord _ _ 0 + GatherDims.offCoord _ _ 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S32x8.rank) ∈ Cert.ReferenceIdeal.gather_S32x8_S2048x2048x1_S2048x2048x8_2_0_n_n_0_2_18.startIndexMap
      from List.mem_singleton.mpr rfl)]
    have hsi : ∀ hl, GatherDims.siIdx Cert.ReferenceIdeal.gather_S32x8_S2048x2048x1_S2048x2048x8_2_0_n_n_0_2_18 (ix3 q k h)
        ⟨List.idxOf (0 : Fin 2) [0], hl⟩ = (ix3 q k 0 : S2048x2048x1.Idx) := by
      intro hl
      funext b; refine Fin.ext ?_
      match b with
      | ⟨0, _⟩ => rfl
      | ⟨1, _⟩ => rfl
      | ⟨2, _⟩ => rfl
    refine Eq.trans (congrArg (fun i => min (idx i).toInt.toNat 31) (hsi _)) ?_
    show min (idx (ix3 q k 0)).toInt.toNat 31 = r.val
    rw [BitVec.toInt_eq_toNat_cond, if_pos (by omega), hr]
    omega
  | ⟨1, _⟩ =>
    show GatherDims.start _ _ idx 1 + GatherDims.batchCoord _ _ 1 + GatherDims.offCoord _ _ 1 = h.val
    rw [GatherDims.batchCoord_eq_zero _ _ _ List.not_mem_nil]
    unfold GatherDims.start
    rw [dif_neg (by decide)]
    show 0 + 0 + GatherDims.offCoord _ _ 1 = h.val
    unfold GatherDims.offCoord
    rw [dif_pos (by rw [GatherDims.mem_sKept]; decide)]
    show 0 + 0 + h.val = h.val
    omega

/-- The learned biases of a head. -/
def biasCol (h : Fin 8) (r : Fin 32) : EReal := x1 (ix2 r h)

/-- The bias of two positions, before the mask. -/
theorem ref_bias (h : Fin 8) (b : Fin 4) (half : Fin 2) (q k : Fin 2048) :
    val_main_v63 (F := Ideal) x1 (ix5 h b half q k)
      = biasCol x1 h (Fin.ofNat 32 (bucketOf (BitVec.ofNat 32 q.val - BitVec.ofNat 32 k.val)).toNat) := by
  rw [val_main_v63_apply, val_main_v62_apply, val_main_v60_apply]
  unfold val_main_v59
  refine Eq.trans ?_ (gather_entry x1 (val_main_v58 (F := Ideal)) q k h _ ?_)
  · exact congrArg _ (ValueIdx.eq_ix3 _)
  · rw [val_main_v58_apply]
    have e : idx_main_v58 (ix3 q k 0) = ix2 q k := ValueIdx.eq_ix2 _
    rw [e, ref_row]
    have := bucket_le q k
    show _ = _ % 32
    omega

/-- The reference's masked score. -/
theorem ref_score (h : Fin 8) (b : Fin 4) (half : Fin 2) (q k : Fin 2048) :
    val_main_v67 (F := Ideal) x0 x1 (ix5 h b half q k)
      = (∑ x : Fin 128, qkvAt x0 ⟨h.val, by omega⟩ b q (column half x) * qkvAt x0 ⟨8 + h.val, by omega⟩ b k (column half x))
        + biasOf (biasCol x1 h) q.val k.val := by
  have hq := q.isLt; have hk := k.isLt
  rw [val_main_v67_apply, val_main_call1_v1_apply, val_main_v66_apply, val_main_v64_apply, ref_dot, ref_bias]
  have e : idx_main_call1_v1 (ix5 h b half q k) = ix2 q k := ValueIdx.eq_ix2 _
  rw [e, ref_distance]
  have c : IntOp.cmpi .sge (BitVec.ofNat 32 q.val - BitVec.ofNat 32 k.val) (val_main_v65 (F := Ideal) (ix2 q k))
      = BitVec.ofBool (decide (k.val ≤ q.val)) := by
    rw [val_main_v65_apply]
    show BitVec.ofBool (BitVec.sle 0#32 _) = _
    congr 1
    exact decide_eq_decide.2 (word_sign q k)
  rw [c]
  unfold biasOf
  by_cases hqk : k.val ≤ q.val
  · rw [if_pos hqk, decide_eq_true hqk, word_le hqk]; rfl
  · rw [if_neg hqk, decide_eq_false hqk, EReal.add_bot]
    show val_main_call1_v2 (F := Ideal) (ix5 h b half q k) = _
    rw [val_main_call1_v2_apply]
    show Ideal.ofBits .f32 0xFF800000#32 = ⊥
    simp [Ideal.ofBits, Ideal.ieee]

end Cert.DiffAttn

end
-- ==== Proof.RefRow.lean ====
module

public import proofs.«01_k».proof.Proof.RefScore
public import proofs.«01_k».proof.Proof.Softmax
public import proofs.«01_k».proof.Proof.Attend

/-!
# The reference's attention, row by row

The reference's softmax weights, their difference, the product with the values and the normalisation, read at one
head, batch entry, query and column.
-/

@[expose] public section

set_option maxRecDepth 16384

noncomputable section

namespace Cert.DiffAttn

open Idealize.ShloMosaic
open Cert.ReferenceIdeal (S24x8192x256 S32x8 S1x4x128 S1x256 S8x4x2x2048x2048 S8x4x2x2048 S8192x2048)
open Cert.ReferenceIdeal.Read

variable (x0 : Vec Ideal S24x8192x256 .bf16) (x1 : Vec Ideal S32x8 .f32) (x2 : Vec Ideal S1x4x128 .f32)
  (x3 : Vec Ideal S1x256 .f32)
variable (h : Fin 8) (b : Fin 4) (half : Fin 2) (q : Fin 2048)

/-- The masked scores of a query, half by half. -/
def refScores (k : Fin 2048) : EReal :=
  (∑ x : Fin 128, qkvAt x0 ⟨h.val, by omega⟩ b q (column half x) * qkvAt x0 ⟨8 + h.val, by omega⟩ b k (column half x))
    + biasOf (biasCol x1 h) q.val k.val

/-- The largest score, as the reference's reduction leaves it. -/
theorem ref_max : val_main_v70 (F := Ideal) x0 x1 (ix4 h b half q) = rowMax (refScores x0 x1 h b half q) := by
  have hr : S8x4x2x2048x2048.Reduces [4] S8x4x2x2048 := by decide
  have hinit : Ideal.ofBits .f32 0xFF800000#32 = (⊥ : EReal) := by simp [Ideal.ofBits, Ideal.ieee]
  have e : val_main_v68 (F := Ideal) x0 x1 (ix4 h b half q) = rowMax (refScores x0 x1 h b half q) := by
    unfold val_main_v68
    rw [Host.reduce_eq_fold_single FloatOps.maximumf _ _ _ hr]
    have hf : (val_main_v67 (F := Ideal) x0 x1 ∘ hr.lift (ix4 h b half q)) = refScores x0 x1 h b half q := by
      funext k
      refine Eq.trans (congrArg (val_main_v67 (F := Ideal) x0 x1) ?_) (ref_score x0 x1 h b half q k)
      funext a; apply Fin.ext
      match a with
      | ⟨0, _⟩ => rfl
      | ⟨1, _⟩ => rfl
      | ⟨2, _⟩ => rfl
      | ⟨3, _⟩ => rfl
      | ⟨4, _⟩ => rfl
    rw [hf]
    show Finset.fold max (Ideal.ofBits .f32 0xFF800000#32) _ _ = _
    rw [hinit]; rfl
  rw [val_main_v70_apply, e, val_main_v69_apply]
  show max (Ideal.ofBits .f32 0xFF800000#32) _ = _
  rw [hinit]
  exact max_eq_right bot_le

/-- A weight. -/
theorem ref_weight (k : Fin 2048) :
    val_main_v74 (F := Ideal) x0 x1 (ix5 h b half q k) = weight (refScores x0 x1 h b half q) k := by
  rw [val_main_v74_apply, val_main_v73_apply, ref_score, val_main_v72_apply, val_main_v71_apply]
  have e : idx_main_v71 (idx_main_v72 (ix5 h b half q k)) = ix4 h b half q := ValueIdx.eq_ix4 _
  rw [e, ref_max]
  rfl

/-- The weights' sum. -/
theorem ref_total :
    val_main_v75 (F := Ideal) x0 x1 (ix4 h b half q) = ∑ k, weight (refScores x0 x1 h b half q) k := by
  rw [val_main_v75_apply]
  have z : val_main_cst_15 (F := Ideal) (Shape.Idx.first Cert.ReferenceIdeal.Gen.h_S_) = (0 : EReal) := by
    show Ideal.ofBits .f32 0x00000000#32 = 0
    simp [Ideal.ofBits, Ideal.ieee]
  refine Eq.trans (congrArg₂ (· + ·) z (Finset.sum_congr rfl fun k _ => ?_)) (zero_add _)
  refine Eq.trans (congrArg _ ?_) (ref_weight x0 x1 h b half q k)
  exact ValueIdx.eq_ix5 _

/-- A weight, divided by the sum. -/
theorem ref_share (k : Fin 2048) :
    val_main_v78 (F := Ideal) x0 x1 (ix5 h b half q k)
      = Ideal.div (weight (refScores x0 x1 h b half q) k) (∑ j, weight (refScores x0 x1 h b half q) j) := by
  rw [val_main_v78_apply, ref_weight, val_main_v77_apply, val_main_v76_apply]
  have e : idx_main_v76 (idx_main_v77 (ix5 h b half q k)) = ix4 h b half q := ValueIdx.eq_ix4 _
  rw [e, ref_total]
  rfl

/-- The first half's share. -/
theorem ref_first (k : Fin 2048) :
    val_main_v80 (F := Ideal) x0 x1 (ix4 h b q k)
      = Ideal.div (weight (refScores x0 x1 h b 0 q) k) (∑ j, weight (refScores x0 x1 h b 0 q) j) := by
  rw [val_main_v80_apply, val_main_v79_apply, ← ref_share]
  refine congrArg (val_main_v78 (F := Ideal) x0 x1) ?_
  funext a; apply Fin.ext
  match a with
  | ⟨0, _⟩ => show (((h.val * 4 + b.val) * 2048 + q.val) * 2048 + k.val) / 16777216 = h.val; omega
  | ⟨1, _⟩ => show (((h.val * 4 + b.val) * 2048 + q.val) * 2048 + k.val) / 4194304 % 4 = b.val; omega
  | ⟨2, _⟩ => rfl
  | ⟨3, _⟩ => show (((h.val * 4 + b.val) * 2048 + q.val) * 2048 + k.val) / 2048 % 2048 = q.val; omega
  | ⟨4, _⟩ => show (((h.val * 4 + b.val) * 2048 + q.val) * 2048 + k.val) % 2048 = k.val; omega

/-- The second half's share. -/
theorem ref_second (k : Fin 2048) :
    val_main_v82 (F := Ideal) x0 x1 (ix4 h b q k)
      = Ideal.div (weight (refScores x0 x1 h b 1 q) k) (∑ j, weight (refScores x0 x1 h b 1 q) j) := by
  rw [val_main_v82_apply, val_main_v81_apply, ← ref_share]
  refine congrArg (val_main_v78 (F := Ideal) x0 x1) ?_
  funext a; apply Fin.ext
  match a with
  | ⟨0, _⟩ => show (((h.val * 4 + b.val) * 2048 + q.val) * 2048 + k.val) / 16777216 = h.val; omega
  | ⟨1, _⟩ => show (((h.val * 4 + b.val) * 2048 + q.val) * 2048 + k.val) / 4194304 % 4 = b.val; omega
  | ⟨2, _⟩ => rfl
  | ⟨3, _⟩ => show (((h.val * 4 + b.val) * 2048 + q.val) * 2048 + k.val) / 2048 % 2048 = q.val; omega
  | ⟨4, _⟩ => show (((h.val * 4 + b.val) * 2048 + q.val) * 2048 + k.val) % 2048 = k.val; omega

/-- The reference's lambda: two exponentials of dot products, and the initial value. -/
def refLam : EReal :=
  Ideal.exp (∑ x : Fin 128, x2 (ix3 0 0 x) * x2 (ix3 0 1 x)) - Ideal.exp (∑ x : Fin 128, x2 (ix3 0 2 x) * x2 (ix3 0 3 x))
    + Ideal.ofBits .f32 0x3E4CCCCD#32

/-- The difference of the shares. -/
theorem ref_diff (lam : EReal) (hl : ∀ i, val_main_v26 (F := Ideal) x2 i = lam) (k : Fin 2048) :
    val_main_v85 (F := Ideal) x0 x1 x2 (ix4 h b q k)
      = Ideal.div (weight (refScores x0 x1 h b 0 q) k) (∑ j, weight (refScores x0 x1 h b 0 q) j)
        - lam * Ideal.div (weight (refScores x0 x1 h b 1 q) k) (∑ j, weight (refScores x0 x1 h b 1 q) j) := by
  rw [val_main_v85_apply, val_main_v84_apply, val_main_v83_apply, hl, ref_first, ref_second]
  rfl

/-- The difference's product with the values. -/
def refOut (lam : EReal) (e : Fin 256) : EReal :=
  ∑ k : Fin 2048, qkvAt x0 ⟨16 + h.val, by omega⟩ b k e
    * (Ideal.div (weight (refScores x0 x1 h b 0 q) k) (∑ j, weight (refScores x0 x1 h b 0 q) j)
      - lam * Ideal.div (weight (refScores x0 x1 h b 1 q) k) (∑ j, weight (refScores x0 x1 h b 1 q) j))

theorem ref_out (lam : EReal) (hl : ∀ i, val_main_v26 (F := Ideal) x2 i = lam) (e : Fin 256) :
    val_main_v87 (F := Ideal) x0 x1 x2 (ix4 b q h e) = refOut x0 x1 h b q lam e := by
  rw [val_main_v87_apply, val_main_v86_apply]
  refine Finset.sum_congr rfl fun k _ => congrArg₂ (· * ·) ?_ ?_
  · refine Eq.trans (congrArg _ ?_) (ref_value x0 h b k e)
    exact ValueIdx.eq_ix4 _
  · refine Eq.trans (congrArg _ ?_) (ref_diff x0 x1 x2 h b q lam hl k)
    exact ValueIdx.eq_ix4 _

/-- The normalised row, scaled by the gains. -/
theorem ref_norm (lam : EReal) (hl : ∀ i, val_main_v26 (F := Ideal) x2 i = lam) (e : Fin 256) :
    val_main_v103 (F := Ideal) x0 x1 x2 x3 (ix4 b q h e)
      = normRow (refOut x0 x1 h b q lam) (x3 (ix2 0 e) * Ideal.ofBits .f32 0x3F4CCCCD#32) e := by
  rw [val_main_v103_apply, val_main_v101_apply, val_main_v97_apply, val_main_v102_apply, val_main_v100_apply,
    val_main_v99_apply, val_main_v98_apply, val_main_v96_apply, val_main_v95_apply, val_main_v94_apply,
    val_main_v93_apply, val_main_v92_apply, val_main_v91_apply, val_main_v90_apply, val_main_v89_apply, ref_out x0 x1 x2 h b q lam hl]
  have z : val_main_cst_16 (F := Ideal) (Shape.Idx.first Cert.ReferenceIdeal.Gen.h_S_) = (0 : EReal) := by
    show Ideal.ofBits .f32 0x00000000#32 = 0
    simp [Ideal.ofBits, Ideal.ieee]
  have s : ∀ k : Fin 256, val_main_v88 (F := Ideal) x0 x1 x2
      (idx_main_v89 (idx_main_v90 (idx_main_v96 (ix4 b q h e))) k)
        = refOut x0 x1 h b q lam k * refOut x0 x1 h b q lam k := by
    intro k
    have e' : idx_main_v89 (idx_main_v90 (idx_main_v96 (ix4 b q h e))) k = ix4 b q h k := ValueIdx.eq_ix4 _
    rw [e', val_main_v88_apply, ref_out x0 x1 x2 h b q lam hl]
    rfl
  rw [z, Finset.sum_congr rfl fun k _ => s k, zero_add]
  have g : idx_main_v98 (idx_main_v99 (idx_main_v100 (ix4 b q h e))) = ix2 0 e := by
    funext a; apply Fin.ext
    match a with
    | ⟨0, _⟩ => rfl
    | ⟨1, _⟩ => show e.val % 256 = e.val; omega
  rw [g]
  unfold normRow
  exact mul_assoc _ _ _

end Cert.DiffAttn

end
-- ==== Proof.SameRow.lean ====
module

public import proofs.«01_k».proof.Proof.RefRow
public import proofs.«01_k».proof.Proof.Arrays

/-!
# The kernel's row is the reference's

Both programs compute lambda by the same formula. From finite queries, keys, values, biases and lambda weights, a
row of the kernel, which keeps the keys up to the end of the query's tile and divides after the product with the
values, is the reference's row over all keys.
-/

@[expose] public section

set_option maxRecDepth 16384

noncomputable section

namespace Cert.DiffAttn

open Idealize.ShloMosaic
open Cert.ReferenceIdeal (S24x8192x256 S32x8 S1x4x128 S1x256 S4x128 S8192x2048)
open Cert.ReferenceIdeal.Read
open Cert.KernelIdeal.Gen (k1_pay2 k1_pay3)

/-- Every entry of an array is a real number. -/
def IsReal {s : Shape} (x : s.Idx → EReal) : Prop := ∀ i, ∃ r : ℝ, x i = r

/-- Lambda from a table of weights. -/
def lamBy (w : Fin 4 → Fin 128 → EReal) : EReal :=
  Ideal.exp (∑ x, w 0 x * w 1 x) - Ideal.exp (∑ x, w 2 x * w 3 x) + Ideal.ofBits .f32 0x3E4CCCCD#32

/-- The kernel's lambda. -/
theorem lamOf_eq (x4 : Vec Ideal S4x128 .f32) : lamOf x4 = lamBy (fun a x => x4 (ix2 a x)) := by
  unfold lamOf k1_pay2
  pointwise
  rfl

/-- The kernel's gain. -/
theorem gainOf_eq (x5 : Vec Ideal S1x256 .f32) (e : Fin 256) :
    gainOf x5 e = x5 (ix2 0 e) * Ideal.ofBits .f32 0x3F4CCCCD#32 := by
  unfold gainOf
  pointwise [k1_pay3]

variable (x2 : Vec Ideal S1x4x128 .f32)

/-- A row of lambda's weights in the reference. -/
theorem ref_lam_row (a : Fin 4) (x : Fin 128) : val_main_v10 (F := Ideal) x2 (ix2 a x) = x2 (ix3 0 a x) := by
  rw [val_main_v10_apply]
  refine congrArg x2 ?_
  funext i; apply Fin.ext
  match i with
  | ⟨0, _⟩ => rfl
  | ⟨1, _⟩ => show (a.val * 128 + x.val) / 128 % 4 = a.val; omega
  | ⟨2, _⟩ => show (a.val * 128 + x.val) % 128 = x.val; omega

/-- The reference's lambda. -/
theorem ref_lam (i) : val_main_v26 (F := Ideal) x2 i = lamBy (fun a x => x2 (ix3 0 a x)) := by
  have z : ∀ j, val_main_cst (F := Ideal) j = (0 : EReal) := fun j => by
    show Ideal.ofBits .f32 0x00000000#32 = 0
    simp [Ideal.ofBits, Ideal.ieee]
  have z' : ∀ j, val_main_cst_0 (F := Ideal) j = (0 : EReal) := fun j => by
    show Ideal.ofBits .f32 0x00000000#32 = 0
    simp [Ideal.ofBits, Ideal.ieee]
  have r : ∀ (a : Fin 4) (x : Fin 128) (j), j = (ix2 a x : S4x128.Idx) → val_main_v10 (F := Ideal) x2 j = x2 (ix3 0 a x) :=
    fun a x j h => h ▸ ref_lam_row x2 a x
  rw [val_main_v26_apply, val_main_v25_apply, val_main_v17_apply, val_main_v24_apply, val_main_v16_apply,
    val_main_v23_apply, z, z', zero_add, zero_add, sum_idx1, sum_idx1]
  have s1 : ∀ x : Fin 128, val_main_v15 (F := Ideal) x2 (ix1 x) = x2 (ix3 0 0 x) * x2 (ix3 0 1 x) := fun x => by
    rw [val_main_v15_apply, val_main_v12_apply, val_main_v11_apply, val_main_v14_apply, val_main_v13_apply]
    refine congrArg₂ (· * ·) (r 0 x _ ?_) (r 1 x _ ?_)
    all_goals
      funext a; apply Fin.ext
      match a with
      | ⟨0, _⟩ => rfl
      | ⟨1, _⟩ => show x.val % 128 = x.val; omega
  have s2 : ∀ x : Fin 128, val_main_v22 (F := Ideal) x2 (ix1 x) = x2 (ix3 0 2 x) * x2 (ix3 0 3 x) := fun x => by
    rw [val_main_v22_apply, val_main_v19_apply, val_main_v18_apply, val_main_v21_apply, val_main_v20_apply]
    refine congrArg₂ (· * ·) (r 2 x _ ?_) (r 3 x _ ?_)
    all_goals
      funext a; apply Fin.ext
      match a with
      | ⟨0, _⟩ => rfl
      | ⟨1, _⟩ => show x.val % 128 = x.val; omega
  rw [Finset.sum_congr rfl fun x _ => s1 x, Finset.sum_congr rfl fun x _ => s2 x]
  rfl

/-- A sum of products of reals is real. -/
theorem real_sum {ι : Type} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [← coe_sum]
  exact Finset.sum_congr rfl fun i _ => by rw [ha, hb, EReal.coe_mul]

/-- Lambda is real. -/
theorem lamBy_real (w : Fin 4 → Fin 128 → EReal) (hw : ∀ a x, ∃ r : ℝ, w a x = r) : ∃ r : ℝ, lamBy w = r := by
  obtain ⟨p, hp⟩ := real_sum (w 0) (w 1) (hw 0) (hw 1)
  obtain ⟨q, hq⟩ := real_sum (w 2) (w 3) (hw 2) (hw 3)
  have hc : ∃ c : ℝ, Ideal.ofBits .f32 0x3E4CCCCD#32 = (c : EReal) := by
    refine ⟨13421773 / 67108864, ?_⟩
    simp [Ideal.ofBits, Ideal.ieee, -EReal.coe_mul]; norm_num
  obtain ⟨c, hc⟩ := hc
  refine ⟨Real.exp p - Real.exp q + c, ?_⟩
  unfold lamBy
  rw [hp, hq, hc, EReal.coe_add, EReal.coe_sub]
  rfl

variable (x0 : Vec Ideal S24x8192x256 .bf16) (x1 : Vec Ideal S32x8 .f32) (x3 : Vec Ideal S1x256 .f32)
  (h : Fin 8) (b : Fin 4) (half : Fin 2) (q : Fin 2048)

/-- A finite score is never plus infinity. -/
theorem score_ne_top (h0 : IsReal x0) (h1 : IsReal x1) (k : Fin 2048) : refScores x0 x1 h b half q k ≠ ⊤ := by
  unfold refScores biasOf
  obtain ⟨r, hr⟩ := real_sum (fun x : Fin 128 => qkvAt x0 ⟨h.val, by omega⟩ b q (column half x))
    (fun x => qkvAt x0 ⟨8 + h.val, by omega⟩ b k (column half x)) (fun x => h0 _) (fun x => h0 _)
  rw [hr]
  split
  · obtain ⟨s, hs⟩ := h1 (ix2 (Fin.ofNat 32 (bucketOf (BitVec.ofNat 32 (q.val - k.val))).toNat) h)
    unfold biasCol
    rw [hs, ← EReal.coe_add]
    exact EReal.coe_ne_top _
  · rw [EReal.add_bot]; exact bot_ne_top

/-- A later key's score is minus infinity. -/
theorem score_later (k : Fin 2048) (hk : q.val < k.val) : refScores x0 x1 h b half q k = ⊥ := by
  unfold refScores biasOf
  rw [if_neg (by omega), EReal.add_bot]

/-- A query's score for its own position is finite. -/
theorem score_self (h0 : IsReal x0) (h1 : IsReal x1) : refScores x0 x1 h b half q q ≠ ⊥ := by
  unfold refScores biasOf
  obtain ⟨r, hr⟩ := real_sum (fun x : Fin 128 => qkvAt x0 ⟨h.val, by omega⟩ b q (column half x))
    (fun x => qkvAt x0 ⟨8 + h.val, by omega⟩ b q (column half x)) (fun x => h0 _) (fun x => h0 _)
  rw [hr, if_pos le_rfl]
  obtain ⟨s, hs⟩ := h1 (ix2 (Fin.ofNat 32 (bucketOf (BitVec.ofNat 32 (q.val - q.val))).toNat) h)
  unfold biasCol
  rw [hs, ← EReal.coe_add]
  exact EReal.coe_ne_bot _

/-- The kernel's difference of attentions over the first `n` keys is the reference's over all. -/
theorem diff_eq (h0 : IsReal x0) (h1 : IsReal x1) (lam : EReal) (hl : ∃ r : ℝ, lam = r) (n : ℕ) (hn : n ≤ 2048)
    (hq : q.val < n) (e : Fin 256) :
    attend (fun k : Fin n => refScores x0 x1 h b 0 q (Fin.castLE hn k))
        (fun k => qkvAt x0 ⟨16 + h.val, by omega⟩ b (Fin.castLE hn k) e)
      - lam * attend (fun k : Fin n => refScores x0 x1 h b 1 q (Fin.castLE hn k))
        (fun k => qkvAt x0 ⟨16 + h.val, by omega⟩ b (Fin.castLE hn k) e)
      = refOut x0 x1 h b q lam e := by
  obtain ⟨r, rfl⟩ := hl
  exact diff_row hn (refScores x0 x1 h b 0 q) (refScores x0 x1 h b 1 q)
    (fun k => qkvAt x0 ⟨16 + h.val, by omega⟩ b k e) r
    (score_ne_top x0 x1 h b 0 q h0 h1) (score_ne_top x0 x1 h b 1 q h0 h1)
    (fun k hk => score_later x0 x1 h b 0 q k (by omega)) (fun k hk => score_later x0 x1 h b 1 q k (by omega))
    ⟨q, score_self x0 x1 h b 0 q h0 h1⟩ ⟨q, score_self x0 x1 h b 1 q h0 h1⟩ (fun k => h0 _)

end Cert.DiffAttn

end
-- ==== Proof.SameArrays.lean ====
module

public import proofs.«01_k».proof.Proof.SameRow

/-!
# The two programs' results agree

The reference's three results, read from the kernel's launch memory, are the three arrays the kernel leaves.
-/

@[expose] public section

set_option maxRecDepth 16384

noncomputable section

namespace Cert.DiffAttn

open Idealize.ShloMosaic Idealize.ShloMosaic.TcCoe
open Cert.KernelIdeal (nD τ sig main_arg0 main_arg1 main_arg2 main_arg3 main_arg4 main_arg5)
open Cert.ReferenceIdeal (S24x8192x256 S32x8 S1x4x128 S1x256 S4x128 S8192x2048 S1x2048x6144 S2048x6144 S2x2048x11264 S2048x11264)
open Cert.ReferenceIdeal.Read

variable (m : (ℓ : Loc nD τ sig) → Buf (Elt Ideal) ℓ) (c : Dev nD)

/-- The launched projections. -/
def argQkv : Vec Ideal S24x8192x256 .bf16 := m ((c : Thread nD τ).loc main_arg0)
/-- The launched biases. -/
def argBias : Vec Ideal S32x8 .f32 := m ((c : Thread nD τ).loc main_arg1)
/-- The launched weights of lambda. -/
def argLam : Vec Ideal S1x4x128 .f32 := m ((c : Thread nD τ).loc main_arg2)
/-- The launched gains. -/
def argGain : Vec Ideal S1x256 .f32 := m ((c : Thread nD τ).loc main_arg3)
/-- The launched weights of the projection. -/
def argProj : Vec Ideal S1x2048x6144 .f32 := m ((c : Thread nD τ).loc main_arg4)
/-- The launched weights of the up-projection. -/
def argUp : Vec Ideal S2x2048x11264 .f32 := m ((c : Thread nD τ).loc main_arg5)

variable (h : Fin 8) (b : Fin 4) (q : Fin 2048) (e : Fin 256)

/-- The kernel's scores of the first halves. -/
theorem lower_scores (k : Fin 2048) :
    score (qkvBlock m c ⟨h.val, by omega⟩ b) (qkvBlock m c ⟨8 + h.val, by omega⟩ b) (headBias m c h) lower q k
      = refScores (argQkv m c) (argBias m c) h b 0 q k := by
  have hc : ∀ x, column 0 x = lower x := fun x => Fin.ext (by show 128 * 0 + x.val = x.val; omega)
  unfold refScores
  simp only [hc]
  rfl

/-- The kernel's scores of the second halves. -/
theorem upper_scores (k : Fin 2048) :
    score (qkvBlock m c ⟨h.val, by omega⟩ b) (qkvBlock m c ⟨8 + h.val, by omega⟩ b) (headBias m c h) upper q k
      = refScores (argQkv m c) (argBias m c) h b 1 q k := by
  have hc : ∀ x, column 1 x = upper x := fun x => Fin.ext (by show 128 * 1 + x.val = 128 + x.val; omega)
  unfold refScores
  simp only [hc]
  rfl

/-- From finite arguments the kernel's row is the reference's. -/
theorem row_eq (h0 : IsReal (argQkv m c)) (h1 : IsReal (argBias m c)) (h2 : IsReal (argLam m c)) :
    attnRow m c h b q e = val_main_v103 (F := Ideal) (argQkv m c) (argBias m c) (argLam m c) (argGain m c) (ix4 b q h e) := by
  rw [ref_norm (argQkv m c) (argBias m c) (argLam m c) (argGain m c) h b q _ (ref_lam (argLam m c)) e]
  have hl : lamOf (lamRows m c) = lamBy (fun a x => argLam m c (ix3 0 a x)) := lamOf_eq (lamRows m c)
  have hg : gainOf (gainRow m c) e = argGain m c (ix2 0 e) * Ideal.ofBits .f32 0x3F4CCCCD#32 := gainOf_eq (gainRow m c) e
  have hr := lamBy_real (fun a x => argLam m c (ix3 0 a x)) (fun a x => h2 _)
  unfold attnRow rowAt rowOver headRow
  rw [hl, hg]
  refine congrArg (fun d => normRow d (argGain m c (ix2 0 e) * Ideal.ofBits .f32 0x3F4CCCCD#32) e) (funext fun e' => ?_)
  have hq := q.isLt
  refine Eq.trans ?_ (diff_eq (argQkv m c) (argBias m c) h b q h0 h1 _ hr (256 * (q.val / 256 + 1)) (by omega) (by omega) e')
  simp only [lower_scores, upper_scores]
  rfl

/-- The attention's result array. -/
theorem attn_eq (h0 : IsReal (argQkv m c)) (h1 : IsReal (argBias m c)) (h2 : IsReal (argLam m c)) :
    (val_main_v105 (F := Ideal) (argQkv m c) (argBias m c) (argLam m c) (argGain m c) : Vec Ideal S8192x2048 .bf16)
      = (attnArr m c : Vec Ideal S8192x2048 .bf16) := by
  funext y
  have hr : (y 0).val < 8192 := (y 0).isLt
  have hl : (y 1).val < 2048 := (y 1).isLt
  rw [val_main_v105_apply, val_main_v104_apply]
  show val_main_v103 (F := Ideal) (argQkv m c) (argBias m c) (argLam m c) (argGain m c) _ = attnRow m c _ _ _ _
  rw [row_eq m c _ _ _ _ h0 h1 h2]
  refine congrArg _ ?_
  funext a; apply Fin.ext
  match a with
  | ⟨0, _⟩ => show ((y 0).val * 2048 + (y 1).val) / 4194304 = (y 0).val / 2048; omega
  | ⟨1, _⟩ => show ((y 0).val * 2048 + (y 1).val) / 2048 % 2048 = (y 0).val % 2048; omega
  | ⟨2, _⟩ => show ((y 0).val * 2048 + (y 1).val) / 256 % 8 = (y 1).val / 256; omega
  | ⟨3, _⟩ => show ((y 0).val * 2048 + (y 1).val) % 256 = (y 1).val % 256; omega

/-- The cast weights of the projection. -/
theorem proj_eq : (val_main_v107 (F := Ideal) (argProj m c) : Vec Ideal S2048x6144 .bf16) = (castArr m c : Vec Ideal S2048x6144 .bf16) := by
  funext y
  have hr : (y 0).val < 2048 := (y 0).isLt
  have hl : (y 1).val < 6144 := (y 1).isLt
  rw [val_main_v107_apply, val_main_v106_apply]
  show argProj m c _ = argProj m c (ix3 0 (y 0) (y 1))
  refine congrArg _ ?_
  funext a; apply Fin.ext
  match a with
  | ⟨0, _⟩ => rfl
  | ⟨1, _⟩ => show ((y 0).val * 6144 + (y 1).val) / 6144 % 2048 = (y 0).val; omega
  | ⟨2, _⟩ => show ((y 0).val * 6144 + (y 1).val) % 6144 = (y 1).val; omega

/-- The cast weights of the first layer's up-projection. -/
theorem up_eq : (val_main_v110 (F := Ideal) (argUp m c) : Vec Ideal S2048x11264 .bf16) = (upArr m c : Vec Ideal S2048x11264 .bf16) := by
  funext y
  have hr : (y 0).val < 2048 := (y 0).isLt
  have hl : (y 1).val < 11264 := (y 1).isLt
  rw [val_main_v110_apply, val_main_v109_apply, val_main_v108_apply]
  show argUp m c _ = argUp m c (ix3 0 (y 0) (y 1))
  refine congrArg _ ?_
  funext a; apply Fin.ext
  match a with
  | ⟨0, _⟩ => rfl
  | ⟨1, _⟩ => show ((y 0).val * 11264 + (y 1).val) / 11264 % 2048 = (y 0).val; omega
  | ⟨2, _⟩ => show ((y 0).val * 11264 + (y 1).val) % 11264 = (y 1).val; omega

end Cert.DiffAttn

end
-- ==== Proof.UpMath.lean ====
module

public import proofs.«01_k».proof.Proof.Gen.Kernel2Ideal
public import Idealize.ShloMosaic.Lib.Pointwise

/-!
# The up-projection's mathematics

A row's root-mean-square normalisation, its projection, the causal convolution over three rows of one sequence, and the
gated activation, all at an entry.
-/

@[expose] public section

noncomputable section

namespace Cert.Up

open Idealize.ShloMosaic
open Cert.Kernel2Ideal (S8192x2048 S2x2048 S2048x11264 S2x3x11264 S2x11264)

/-- A row, normalised and scaled, at a column. -/
def rowNorm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- The gated activation. -/
def gated (g v : EReal) : EReal :=
  Ideal.div g (Ideal.ofBits .f32 0x3F800000#32 + Ideal.exp (Ideal.ofBits .f32 0x00000000#32 - g)) * v

theorem bits_zero : Ideal.ofBits .f32 0x00000000#32 = 0 := by simp [Ideal.ofBits, Ideal.ieee]

theorem bits_one : Ideal.ofBits .f32 0x3F800000#32 = 1 := by
  simp [Ideal.ofBits, Ideal.ieee, -EReal.coe_mul]
  norm_num

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- The gate times its sigmoid, times the value, as the activation writes it. -/
theorem gated_eq (g v : EReal) :
    g * Ideal.div (Ideal.ofBits .f32 0x3F800000#32) (Ideal.ofBits .f32 0x3F800000#32 + Ideal.exp (-g)) * v = gated g v := by
  unfold gated
  rw [bits_zero, zero_sub]
  have hne : Ideal.ofBits .f32 0x3F800000#32 + Ideal.exp (-g) ≠ 0 := by
    rw [bits_one]
    refine ne_of_gt (lt_of_lt_of_le zero_lt_one ?_)
    exact le_add_of_nonneg_right (exp_nonneg _)
  unfold Ideal.div
  rw [if_neg hne, if_neg hne, bits_one, one_mul]

variable (h : S8192x2048.Idx → EReal) (g : S2x2048.Idx → EReal) (w : S2048x11264.Idx → EReal) (cw : S2x3x11264.Idx → EReal)
  (cb : S2x11264.Idx → EReal)

/-- A normalised row at a column. -/
def normAt (R : Fin 8192) (k : Fin 2048) : EReal :=
  rowNorm (fun j => h (ValueIdx.ix2 R j)) (fun j => g (ValueIdx.ix2 1 j)) k

/-- The projection of a row at a column. -/
def upAt (R : Fin 8192) (q : Fin 11264) : EReal := ∑ k : Fin 2048, normAt h g R k * w (ValueIdx.ix2 k q)

/-- The projection `d` rows before, or zero before the row's sequence. -/
def upBack (R : Fin 8192) (d : ℕ) (q : Fin 11264) : EReal :=
  if d ≤ R.val % 2048 then upAt h g w ⟨R.val - d, lt_of_le_of_lt (Nat.sub_le _ _) R.isLt⟩ q else 0

/-- The causal convolution over three rows. -/
def convAt (R : Fin 8192) (q : Fin 11264) : EReal :=
  cw (ValueIdx.ix3 1 0 q) * upBack h g w R 2 q + cw (ValueIdx.ix3 1 1 q) * upBack h g w R 1 q
    + cw (ValueIdx.ix3 1 2 q) * upBack h g w R 0 q + cb (ValueIdx.ix2 1 q)

/-- The activation. -/
def actAt (R : Fin 8192) (q : Fin 5632) : EReal :=
  gated (convAt h g w cw cb R ⟨q.val, by omega⟩) (convAt h g w cw cb R ⟨5632 + q.val, by omega⟩)

end Cert.Up

end
-- ==== Proof.UpPay.lean ====
module

public import proofs.«01_k».proof.Proof.UpMath
public import proofs.«01_k».proof.Proof.Gen.Kernel2Ideal.Frame
public import Idealize.ShloMosaic.Lib.Pointwise

/-!
# The up-projection's payloads

What the kernel's stores hold at an entry: normalised rows, columns of the projection, the convolution and the gated
activation, each from the blocks it reads.
-/

@[expose] public section

set_option maxRecDepth 16384

noncomputable section

namespace Cert.Up

open Idealize.ShloMosaic Idealize.ShloMosaic.TcCoe Idealize.SL.Sem Cert.Kernel2Ideal Cert.Kernel2Ideal.Gen

/-- Columns of the projection of a tile of 1040 rows. -/
def matCol (xn : Vec Ideal S1040x2048 .bf16) (w : Vec Ideal S1x2048x512 .bf16) : Vec Ideal S1040x512 .f32 :=
  fun y => ∑ k : Fin 2048, xn (ValueIdx.ix2 (y 0) k) * w (ValueIdx.ix3 0 k (y 1))

/-- The convolution of a tile, at row `r` of the 1024 and column `n`. -/
def convRow (u : Vec Ideal S1040x512 .f32) (cw : Vec Ideal S3x512 .f32) (cb : Vec Ideal S1x512 .f32) (r : Fin 1024) (n : Fin 512) : EReal :=
  cw (ValueIdx.ix2 0 n) * u (ValueIdx.ix2 ⟨14 + r.val, by omega⟩ n) + cw (ValueIdx.ix2 1 n) * u (ValueIdx.ix2 ⟨15 + r.val, by omega⟩ n)
    + cw (ValueIdx.ix2 2 n) * u (ValueIdx.ix2 ⟨16 + r.val, by omega⟩ n) + cb (ValueIdx.ix2 0 n)

/-- The activation of a tile from its gate and value columns. -/
def actTile (ug uv : Vec Ideal S1040x512 .f32) (cwg cwv : Vec Ideal S3x512 .f32) (cbg cbv : Vec Ideal S1x512 .f32) :
    Vec Ideal S1024x512 .bf16 :=
  fun y => gated (convRow ug cwg cbg (y 0) (y 1)) (convRow uv cwv cbv (y 0) (y 1))

/-- A cast slab of the weights. -/
def castSlab (x : Vec Ideal S1x64x2048 .f32) : Vec Ideal S64x2048 .bf16 := fun y => x (ValueIdx.ix3 0 (y 0) (y 1))

theorem pay_cast (x : Vec Ideal S1x64x2048 .f32) (r : Fin 64) (n : Fin 2048) : k0_pay1 x (ix2 r n) = x (ix3 0 r n) := by
  pointwise [k0_pay1]

theorem pay_zero (r : Fin 16) (n : Fin 2048) : k0_pay7 (F := Ideal) (ix2 r n) = 0 := by
  pointwise [k0_pay7]

theorem pay_norm_halo (g : Vec Ideal S1x2048 .f32) (x : Vec Ideal S16x2048 .f32) (r : Fin 16) (n : Fin 2048) :
    k0_pay8 g x (ix2 r n) = rowNorm (fun j => x (ix2 r j)) (fun j => g (ix2 0 j)) n := by
  pointwise [k0_pay8, rowNorm]

theorem pay_norm_a (g : Vec Ideal S1x2048 .f32) (x : Vec Ideal S256x2048 .f32) (r : Fin 256) (n : Fin 2048) :
    k0_pay11 (k0_pay10 g x) (ix2 r n) = rowNorm (fun j => x (ix2 r j)) (fun j => g (ix2 0 j)) n := by
  pointwise [k0_pay10, k0_pay11, rowNorm]

theorem pay_norm_b (g : Vec Ideal S1x2048 .f32) (x : Vec Ideal S256x2048 .f32) (r : Fin 256) (n : Fin 2048) :
    k0_pay12 g x (ix2 r n) = rowNorm (fun j => x (ix2 r j)) (fun j => g (ix2 0 j)) n := by
  pointwise [k0_pay12, rowNorm]

theorem pay_norm_c (g : Vec Ideal S1x2048 .f32) (x : Vec Ideal S256x2048 .f32) (r : Fin 256) (n : Fin 2048) :
    k0_pay16 (k0_pay14 g) x (k0_pay15 x) (ix2 r n) = rowNorm (fun j => x (ix2 r j)) (fun j => g (ix2 0 j)) n := by
  pointwise [k0_pay14, k0_pay15, k0_pay16, rowNorm]

theorem pay_norm_d (g : Vec Ideal S1x2048 .f32) (x : Vec Ideal S256x2048 .f32) (r : Fin 256) (n : Fin 2048) :
    k0_pay2 (k0_pay18 g x) (ix2 r n) = rowNorm (fun j => x (ix2 r j)) (fun j => g (ix2 0 j)) n := by
  pointwise [k0_pay18, k0_pay2, rowNorm]

theorem pay_up_a (w : Vec Ideal S1x2048x512 .bf16) (x : Vec Ideal S272x2048 .bf16) (r : Fin 272) (n : Fin 512) :
    k0_pay13 (k0_pay9 w) x (ix2 r n) = ∑ k : Fin 2048, x (ix2 r k) * w (ix3 0 k n) := by
  pointwise [k0_pay13, k0_pay9]

theorem pay_up_b (w : Vec Ideal S1x2048x512 .bf16) (x : Vec Ideal S256x2048 .bf16) (r : Fin 256) (n : Fin 512) :
    k0_pay17 (k0_pay9 w) x (ix2 r n) = ∑ k : Fin 2048, x (ix2 r k) * w (ix3 0 k n) := by
  pointwise [k0_pay17, k0_pay9]

theorem pay_up_c (w : Vec Ideal S1x2048x512 .bf16) (x : Vec Ideal S256x2048 .bf16) (r : Fin 256) (n : Fin 512) :
    k0_pay3 (k0_pay9 w) x (ix2 r n) = ∑ k : Fin 2048, x (ix2 r k) * w (ix3 0 k n) := by
  pointwise [k0_pay3, k0_pay9]

theorem pay_up_d (w : Vec Ideal S1x2048x512 .bf16) (x : Vec Ideal S256x2048 .bf16) (r : Fin 256) (n : Fin 512) :
    k0_pay4 (k0_pay9 w) x (ix2 r n) = ∑ k : Fin 2048, x (ix2 r k) * w (ix3 0 k n) := by
  pointwise [k0_pay4, k0_pay9]

theorem pay_next (w : Vec Ideal S1x2048x512 .bf16) (x : Vec Ideal S1040x2048 .bf16) (r : Fin 1040) (n : Fin 512) :
    k0_pay21 x w (ix2 r n) = ∑ k : Fin 2048, x (ix2 r k) * w (ix3 0 k n) := by
  pointwise [k0_pay21]

theorem pay_value (w : Vec Ideal S1x2048x512 .bf16) (x : Vec Ideal S1040x2048 .bf16) (r : Fin 1040) (n : Fin 512) :
    k0_pay19 x w (ix2 r n) = ∑ k : Fin 2048, x (ix2 r k) * w (ix3 0 k n) := by
  pointwise [k0_pay19]

theorem gated_bits (g v : EReal) : gated g v = Ideal.div g (1 + Ideal.exp (0 - g)) * v := by
  unfold gated
  rw [bits_one, bits_zero]

theorem pay_gate (u : Vec Ideal S1040x512 .f32) (cw : Vec Ideal S3x512 .f32) (cb : Vec Ideal S1x512 .f32) (r : Fin 1024) (n : Fin 512) :
    k0_pay20 u cw cb (ix2 r n) = convRow u cw cb r n := by
  pointwise [k0_pay20]
  rfl

theorem pay_act (u : Vec Ideal S1040x512 .f32) (cwg : Vec Ideal S3x512 .f32) (cbg : Vec Ideal S1x512 .f32)
    (xn : Vec Ideal S1040x2048 .bf16) (w : Vec Ideal S1x2048x512 .bf16) (cw : Vec Ideal S3x512 .f32)
    (cb : Vec Ideal S1x512 .f32) (r : Fin 1024) (n : Fin 512) :
    k0_pay5 (k0_pay19 xn w) (k0_pay20 u cwg cbg) (k0_pay22 cw) (k0_pay23 xn w cw) (k0_pay24 cw) (k0_pay25 xn w) cb (ix2 r n)
      = actTile u (matCol xn w) cwg cw cbg cb (ix2 r n) := by
  pointwise [k0_pay5, k0_pay22, k0_pay23, k0_pay24, k0_pay25, k0_pay19]
  rw [pay_gate, ← gated_bits]
  rfl

theorem pay_act_last (u : Vec Ideal S1040x512 .f32) (cwg : Vec Ideal S3x512 .f32) (cbg : Vec Ideal S1x512 .f32)
    (xn : Vec Ideal S1040x2048 .bf16) (w : Vec Ideal S1x2048x512 .bf16) (cw : Vec Ideal S3x512 .f32)
    (cb : Vec Ideal S1x512 .f32) (r : Fin 1024) (n : Fin 512) :
    k0_pay6 (k0_pay26 u cwg cbg) (k0_pay27 xn w cw) (k0_pay28 cb) (ix2 r n)
      = actTile u (matCol xn w) cwg cw cbg cb (ix2 r n) := by
  pointwise [k0_pay6, k0_pay26, k0_pay27, k0_pay28]
  rw [← gated_bits]
  rfl

/-- A row of a tile, normalised: the first sixteen rows are `hal`'s, the others the block's. -/
def normTile (hal : Vec Ideal S16x2048 .bf16) (x : Vec Ideal S1024x2048 .f32) (g : Vec Ideal S1x2048 .f32) : Vec Ideal S1040x2048 .bf16 :=
  fun y => if h : (y 0).val < 16 then hal (ValueIdx.ix2 ⟨(y 0).val, h⟩ (y 1))
    else rowNorm (fun j => x (ValueIdx.ix2 ⟨(y 0).val - 16, by have h1 : (y 0).val < 1040 := (y 0).isLt; omega⟩ j)) (fun j => g (ValueIdx.ix2 0 j)) (y 1)

/-- Sixteen rows of zeros. -/
def haloZero : Vec Ideal S16x2048 .bf16 := fun _ => 0

/-- Sixteen rows normalised. -/
def haloNorm (x : Vec Ideal S16x2048 .f32) (g : Vec Ideal S1x2048 .f32) : Vec Ideal S16x2048 .bf16 :=
  fun y => rowNorm (fun j => x (ValueIdx.ix2 (y 0) j)) (fun j => g (ValueIdx.ix2 0 j)) (y 1)

end Cert.Up

end
-- ==== Proof.UpBlock.lean ====
module

public import proofs.«01_k».proof.Proof.UpPay

/-!
# What a point of the up-projection's call leaves

At each of the four kinds of point: the tile of normalised rows, the next gate columns, the activation's block and the
cast slab.
-/

@[expose] public section

set_option maxRecDepth 16384

noncomputable section

namespace Cert.Up

open Idealize.ShloMosaic Idealize.ShloMosaic.TcCoe Idealize.SL.Sem Cert.Kernel2Ideal Cert.Kernel2Ideal.Gen

/-- A load of 256 of the block's rows. -/
theorem load_slab (o : ℕ) (m : Memref sig .tc .vmem S1024x2048 .f32) (hm : m.IsWhole) (x : Vec Ideal S1024x2048 .f32)
    (inb : ∀ a, ![o, 0] a + S256x2048.size a ≤ S1024x2048.size a)
    (inb' : ∀ a, ![0, 0] a + S256x2048.size a ≤ S256x2048.size a)
    (h0 : ∀ a, (Rect.unit (s := S1024x2048) ![o, 0] S256x2048.size inb).stride a = 1) :
    View.readAt (Elt Ideal) m.view ((Rect.unit (s := S1024x2048) ![o, 0] S256x2048.size inb).withinL
      (Rect.unit (s := S256x2048) ![0, 0] S256x2048.size inb').toLoadRect h0) (hm.unread x)
      = fun j : S256x2048.Idx => x ((Rect.unit (s := S1024x2048) ![o, 0] S256x2048.size inb).emb j) := by
  funext j
  rw [View.readAt_apply, hm.read_unread]
  refine congrArg x ?_
  funext a; apply Fin.ext
  match a with
  | ⟨0, _⟩ => show o + 0 + 1 * (j (0 : Fin 2)).val = o + 1 * (j (0 : Fin 2)).val; omega
  | ⟨1, _⟩ => show 0 + 0 + 1 * (j (1 : Fin 2)).val = 0 + 1 * (j (1 : Fin 2)).val; omega

/-- A whole load of a window's block. -/
theorem load_whole {s : Shape} {e : EltTy} (m : Memref sig .tc .vmem s e) (hm : m.IsWhole) (x : Vec Ideal s e)
    {off : Fin s.rank → ℕ} (h : off = fun _ => 0) (inb : ∀ a, off a + s.size a ≤ s.size a) :
    View.readAt (Elt Ideal) m.view (Rect.unit off s.size inb).toLoadRect (hm.unread x) = x := by
  rw [View.readAt_eq_ld, hm.read_unread]
  exact View.ld_unit_zero h inb x

/-- Every piece of a list is a part of one array. -/
def PartsOf {s : Shape} {e : EltTy} (T : Vec Ideal s e) (L : List (View.Piece (Elt Ideal) s e)) : Prop :=
  ∀ p ∈ L, ∀ x : p.1.shape.Idx, p.2 x = T (p.1.emb x)

theorem parts_nil {s : Shape} {e : EltTy} (T : Vec Ideal s e) : PartsOf T [] := fun p hp => absurd hp (by simp)

theorem parts_cons {s : Shape} {e : EltTy} (T : Vec Ideal s e) (r : Rect s) (w : r.shape.Idx → Elt Ideal e)
    (L : List (View.Piece (Elt Ideal) s e)) (h : ∀ x, w x = T (r.emb x)) (hL : PartsOf T L) : PartsOf T (⟨r, w⟩ :: L) := by
  intro p hp x
  rcases List.mem_cons.mp hp with rfl | hp
  · exact h x
  · exact hL p hp x

/-- A covered load of parts of one array is that array's. -/
theorem read_parts {s : Shape} {e : EltTy} (v : View sig .tc .vmem s e) (T : Vec Ideal s e)
    (L : List (View.Piece (Elt Ideal) s e)) (B : LoadRect s) (hL : PartsOf T L)
    (hc : ∀ j : B.shape.Idx, ∃ p ∈ L, B.idx j ∈ p.1.set) : v.readCov L B = fun j => T (B.idx j) := by
  rw [View.readCov_eq_canon v L B hc]
  funext j
  exact View.canon_apply_of_pieces T L hL _ (hc j)

/-- The kernel's zero halo. -/
theorem zero_halo : ∀ (r : Fin 16) (n : Fin 2048), k0_pay7 (F := Ideal) (ix2 r n) = haloZero (ix2 r n) := by
  intro r n
  rw [pay_zero]
  rfl

section parts

variable (hal : Vec Ideal S16x2048 .bf16) (x : Vec Ideal S1024x2048 .f32) (g : Vec Ideal S1x2048 .f32)

/-- A normalised row of a slab is a part of the tile. -/
theorem slab_part (o o' : ℕ) (ho : o' = o + 16) (inb : ∀ a, ![o, 0] a + S256x2048.size a ≤ S1024x2048.size a)
    (inb' : ∀ a, ![o', 0] a + S256x2048.size a ≤ S1040x2048.size a) (j : S256x2048.Idx) :
    rowNorm (fun k => x ((Rect.unit (s := S1024x2048) ![o, 0] S256x2048.size inb).emb (ix2 (j 0) k))) (fun k => g (ix2 0 k)) (j 1)
      = normTile hal x g ((Rect.unit (s := S1040x2048) ![o', 0] S256x2048.size inb').emb j) := by
  subst ho
  have hn : ¬ ((Rect.unit (s := S1040x2048) ![o + 16, 0] S256x2048.size inb').emb j 0).val < 16 := by
    show ¬ (o + 16) + 1 * (j 0).val < 16
    omega
  unfold normTile
  rw [dif_neg hn]
  have e : ∀ k : Fin 2048, (Rect.unit (s := S1024x2048) ![o, 0] S256x2048.size inb).emb (ix2 (j 0) k)
      = ValueIdx.ix2 ⟨((Rect.unit (s := S1040x2048) ![o + 16, 0] S256x2048.size inb').emb j 0).val - 16, by
        have h1 : ((Rect.unit (s := S1040x2048) ![o + 16, 0] S256x2048.size inb').emb j 0).val < 1040 := Fin.isLt _
        omega⟩ k := by
    intro k
    funext a; apply Fin.ext
    match a with
    | ⟨0, _⟩ => show o + 1 * (j 0).val = (o + 16) + 1 * (j 0).val - 16; omega
    | ⟨1, _⟩ => show 0 + 1 * k.val = k.val; omega
  have e1 : (Rect.unit (s := S1040x2048) ![o + 16, 0] S256x2048.size inb').emb j 1 = j 1 := by
    apply Fin.ext
    show 0 + 1 * (j 1).val = (j 1).val
    omega
  rw [e1]
  simp only [e]
  rfl

theorem part_a (inb) (inb') (j : S256x2048.Idx) :
    k0_pay11 (k0_pay10 g (fun j : S256x2048.Idx => x ((Rect.unit (s := S1024x2048) ![0, 0] S256x2048.size inb).emb j))) j
      = normTile hal x g ((Rect.unit (s := S1040x2048) ![16, 0] S256x2048.size inb').emb j) :=
  (congrArg _ (ValueIdx.eq_ix2 j)).trans ((pay_norm_a _ _ (j 0) (j 1)).trans (slab_part hal x g 0 16 rfl inb inb' j))

theorem part_b (inb) (inb') (j : S256x2048.Idx) :
    k0_pay12 g (fun j : S256x2048.Idx => x ((Rect.unit (s := S1024x2048) ![256, 0] S256x2048.size inb).emb j)) j
      = normTile hal x g ((Rect.unit (s := S1040x2048) ![272, 0] S256x2048.size inb').emb j) :=
  (congrArg _ (ValueIdx.eq_ix2 j)).trans ((pay_norm_b _ _ (j 0) (j 1)).trans (slab_part hal x g 256 272 rfl inb inb' j))

theorem part_c (inb) (inb') (j : S256x2048.Idx) :
    k0_pay16 (k0_pay14 g) (fun j : S256x2048.Idx => x ((Rect.unit (s := S1024x2048) ![512, 0] S256x2048.size inb).emb j))
        (k0_pay15 (fun j : S256x2048.Idx => x ((Rect.unit (s := S1024x2048) ![512, 0] S256x2048.size inb).emb j))) j
      = normTile hal x g ((Rect.unit (s := S1040x2048) ![528, 0] S256x2048.size inb').emb j) :=
  (congrArg _ (ValueIdx.eq_ix2 j)).trans ((pay_norm_c _ _ (j 0) (j 1)).trans (slab_part hal x g 512 528 rfl inb inb' j))

theorem part_d (inb) (inb') (j : S256x2048.Idx) :
    k0_pay2 (k0_pay18 g (fun j : S256x2048.Idx => x ((Rect.unit (s := S1024x2048) ![768, 0] S256x2048.size inb).emb j))) j
      = normTile hal x g ((Rect.unit (s := S1040x2048) ![784, 0] S256x2048.size inb').emb j) :=
  (congrArg _ (ValueIdx.eq_ix2 j)).trans ((pay_norm_d _ _ (j 0) (j 1)).trans (slab_part hal x g 768 784 rfl inb inb' j))

/-- The first sixteen rows are a part of the tile. -/
theorem part_halo (w : Vec Ideal S16x2048 .bf16) (hw : ∀ r n, w (ix2 r n) = hal (ix2 r n)) (inb') (j : S16x2048.Idx) :
    w j = normTile hal x g ((Rect.unit (s := S1040x2048) ![0, 0] S16x2048.size inb').emb j) := by
  have hn : ((Rect.unit (s := S1040x2048) ![0, 0] S16x2048.size inb').emb j 0).val < 16 := by
    show 0 + 1 * (j 0).val < 16
    have h1 : (j 0).val < 16 := (j 0).isLt
    omega
  unfold normTile
  rw [dif_pos hn]
  refine (congrArg w (ValueIdx.eq_ix2 j)).trans ((hw (j 0) (j 1)).trans (congrArg hal ?_))
  funext a; apply Fin.ext
  match a with
  | ⟨0, _⟩ => show (j 0).val = 0 + 1 * (j 0).val; omega
  | ⟨1, _⟩ => show (j 1).val = 0 + 1 * (j 1).val; omega

variable (T : Vec Ideal S1040x2048 .bf16) (w : Vec Ideal S1x2048x512 .bf16)

/-- A sum over a slab's row is a part of the projected tile. -/
theorem col_part {n : ℕ} (sz : Fin 2 → ℕ) (hsz : sz = ![n, 2048]) (o : ℕ)
    (inb : ∀ a, ![o, 0] a + ![n, 2048] a ≤ S1040x2048.size a)
    (inb' : ∀ a, ![o, 0] a + ![n, 512] a ≤ S1040x512.size a) (j : (Rect.unit (s := S1040x512) ![o, 0] ![n, 512] inb').shape.Idx) :
    ∑ k : Fin 2048, T ((Rect.unit (s := S1040x2048) ![o, 0] ![n, 2048] inb).emb (ix2 (j 0) k)) * w (ix3 0 k (j 1))
      = matCol T w ((Rect.unit (s := S1040x512) ![o, 0] ![n, 512] inb').emb j) := by
  unfold matCol
  refine Finset.sum_congr rfl fun k _ => congrArg₂ (· * ·) (congrArg T ?_) (congrArg w ?_)
  · funext a; apply Fin.ext
    match a with
    | ⟨0, _⟩ => rfl
    | ⟨1, _⟩ => show 0 + 1 * k.val = k.val; omega
  · funext a; apply Fin.ext
    match a with
    | ⟨0, _⟩ => rfl
    | ⟨1, _⟩ => rfl
    | ⟨2, _⟩ => show (j 1).val = 0 + 1 * (j 1).val; omega

end parts

section first

variable (T : Vec Ideal S1040x2048 .bf16) (w : Vec Ideal S1x2048x512 .bf16)
  (P0 : Vec Ideal S16x2048 .bf16) (P1 P2 P3 P4 : Vec Ideal S256x2048 .bf16)

/-- The tile's pieces after two slabs. -/
def pieces3 : List (View.Piece (Elt Ideal) S1040x2048 .bf16) :=
  [⟨Rect.unit (s := S1040x2048) ![272, 0] S256x2048.size inb_S1040x2048_S256x2048_272_0, P2⟩,
    ⟨Rect.unit (s := S1040x2048) ![16, 0] S256x2048.size inb_S1040x2048_S256x2048_16_0, P1⟩,
    ⟨Rect.unit (s := S1040x2048) ![0, 0] S16x2048.size inb_S1040x2048_S16x2048_0_0, P0⟩]

/-- After three slabs. -/
def pieces4 : List (View.Piece (Elt Ideal) S1040x2048 .bf16) :=
  ⟨Rect.unit (s := S1040x2048) ![528, 0] S256x2048.size inb_S1040x2048_S256x2048_528_0, P3⟩ :: pieces3 P0 P1 P2

/-- After four slabs. -/
def pieces5 : List (View.Piece (Elt Ideal) S1040x2048 .bf16) :=
  ⟨Rect.unit (s := S1040x2048) ![784, 0] S256x2048.size inb_S1040x2048_S256x2048_784_0, P4⟩ :: pieces4 P0 P1 P2 P3

variable (h0 : ∀ j, P0 j = T ((Rect.unit (s := S1040x2048) ![0, 0] S16x2048.size inb_S1040x2048_S16x2048_0_0).emb j))
  (h1 : ∀ j, P1 j = T ((Rect.unit (s := S1040x2048) ![16, 0] S256x2048.size inb_S1040x2048_S256x2048_16_0).emb j))
  (h2 : ∀ j, P2 j = T ((Rect.unit (s := S1040x2048) ![272, 0] S256x2048.size inb_S1040x2048_S256x2048_272_0).emb j))
  (h3 : ∀ j, P3 j = T ((Rect.unit (s := S1040x2048) ![528, 0] S256x2048.size inb_S1040x2048_S256x2048_528_0).emb j))
  (h4 : ∀ j, P4 j = T ((Rect.unit (s := S1040x2048) ![784, 0] S256x2048.size inb_S1040x2048_S256x2048_784_0).emb j))

include h0 h1 h2 in
theorem parts3 : PartsOf T (pieces3 P0 P1 P2) :=
  parts_cons T _ _ _ h2 (parts_cons T _ _ _ h1 (parts_cons T _ _ _ h0 (parts_nil T)))

include h0 h1 h2 h3 in
theorem parts4 : PartsOf T (pieces4 P0 P1 P2 P3) := parts_cons T _ _ _ h3 (parts3 T P0 P1 P2 h0 h1 h2)

include h0 h1 h2 h3 h4 in
theorem parts5 : PartsOf T (pieces5 P0 P1 P2 P3 P4) := parts_cons T _ _ _ h4 (parts4 T P0 P1 P2 P3 h0 h1 h2 h3)

/-- A row lies in a run of rows. -/
theorem row_mem (o n : ℕ) (inb : ∀ a, ![o, 0] a + ![n, 2048] a ≤ S1040x2048.size a) (y : S1040x2048.Idx)
    (ha : o ≤ (y 0).val) (hb : (y 0).val < o + n) : y ∈ (Rect.unit (s := S1040x2048) ![o, 0] ![n, 2048] inb).set := by
  refine Rect.mem_set_unit.mpr fun a => ?_
  match a with
  | ⟨0, _⟩ => exact ⟨ha, hb⟩
  | ⟨1, _⟩ => exact ⟨Nat.zero_le _, lt_of_lt_of_le (y 1).isLt (show (2048 : ℕ) ≤ 0 + 2048 by omega)⟩

theorem cover3 (y : S1040x2048.Idx) (hy : (y 0).val < 528) : ∃ p ∈ pieces3 P0 P1 P2, y ∈ p.1.set := by
  by_cases ha : (y 0).val < 16
  · exact ⟨_, List.mem_cons_of_mem _ (List.mem_cons_of_mem _ List.mem_cons_self), row_mem 0 16 inb_S1040x2048_S16x2048_0_0 y (Nat.zero_le _) (by omega)⟩
  by_cases hb : (y 0).val < 272
  · exact ⟨_, List.mem_cons_of_mem _ List.mem_cons_self, row_mem 16 256 inb_S1040x2048_S256x2048_16_0 y (by omega) (by omega)⟩
  · exact ⟨_, List.mem_cons_self, row_mem 272 256 inb_S1040x2048_S256x2048_272_0 y (by omega) (by omega)⟩

theorem cover4 (y : S1040x2048.Idx) (hy : (y 0).val < 784) : ∃ p ∈ pieces4 P0 P1 P2 P3, y ∈ p.1.set := by
  by_cases ha : (y 0).val < 528
  · obtain ⟨p, hp, h⟩ := cover3 P0 P1 P2 y ha
    exact ⟨p, List.mem_cons_of_mem _ hp, h⟩
  · exact ⟨_, List.mem_cons_self, row_mem 528 256 inb_S1040x2048_S256x2048_528_0 y (by omega) (by omega)⟩

theorem cover5 (y : S1040x2048.Idx) : ∃ p ∈ pieces5 P0 P1 P2 P3 P4, y ∈ p.1.set := by
  by_cases ha : (y 0).val < 784
  · obtain ⟨p, hp, h⟩ := cover4 P0 P1 P2 P3 y ha
    exact ⟨p, List.mem_cons_of_mem _ hp, h⟩
  · exact ⟨_, List.mem_cons_self, row_mem 784 256 inb_S1040x2048_S256x2048_784_0 y (by omega) (by have := (y 0).isLt; exact this)⟩

variable (v : View sig .tc .vmem S1040x2048 .bf16)

include h0 h1 h2 h3 h4 in
/-- The whole tile, read back. -/
theorem read_tile :
    v.readCov (pieces5 P0 P1 P2 P3 P4) (Rect.unit (s := S1040x2048) ![0, 0] S1040x2048.size inb_S1040x2048_S1040x2048_0_0).toLoadRect = T := by
  rw [read_parts v T _ _ (parts5 T P0 P1 P2 P3 P4 h0 h1 h2 h3 h4) (fun j => cover5 P0 P1 P2 P3 P4 _)]
  exact View.ld_unit_zero (by decide) _ T

include h0 h1 h2 in
theorem col_a (j : S272x512.Idx) :
    k0_pay13 (k0_pay9 w) (v.readCov (pieces3 P0 P1 P2) (Rect.unit (s := S1040x2048) ![0, 0] S272x2048.size inb_S1040x2048_S272x2048_0_0).toLoadRect) j
      = matCol T w ((Rect.unit (s := S1040x512) ![0, 0] S272x512.size inb_S1040x512_S272x512_0_0).emb j) := by
  rw [read_parts v T _ _ (parts3 T P0 P1 P2 h0 h1 h2) (fun j => cover3 P0 P1 P2 _ (by
    show 0 + 1 * (j (0 : Fin 2)).val < 528
    have : (j (0 : Fin 2)).val < 272 := (j (0 : Fin 2)).isLt
    omega))]
  exact (congrArg _ (ValueIdx.eq_ix2 j)).trans ((pay_up_a _ _ (j 0) (j 1)).trans (col_part T w _ rfl 0 _ inb_S1040x512_S272x512_0_0 j))

include h0 h1 h2 h3 in
theorem col_b (j : S256x512.Idx) :
    k0_pay17 (k0_pay9 w) (v.readCov (pieces4 P0 P1 P2 P3) (Rect.unit (s := S1040x2048) ![272, 0] S256x2048.size inb_S1040x2048_S256x2048_272_0).toLoadRect) j
      = matCol T w ((Rect.unit (s := S1040x512) ![272, 0] S256x512.size inb_S1040x512_S256x512_272_0).emb j) := by
  rw [read_parts v T _ _ (parts4 T P0 P1 P2 P3 h0 h1 h2 h3) (fun j => cover4 P0 P1 P2 P3 _ (by
    show 272 + 1 * (j (0 : Fin 2)).val < 784
    have : (j (0 : Fin 2)).val < 256 := (j (0 : Fin 2)).isLt
    omega))]
  exact (congrArg _ (ValueIdx.eq_ix2 j)).trans ((pay_up_b _ _ (j 0) (j 1)).trans (col_part T w _ rfl 272 _ inb_S1040x512_S256x512_272_0 j))

include h0 h1 h2 h3 h4 in
theorem col_c (j : S256x512.Idx) :
    k0_pay3 (k0_pay9 w) (v.readCov (pieces5 P0 P1 P2 P3 P4) (Rect.unit (s := S1040x2048) ![528, 0] S256x2048.size inb_S1040x2048_S256x2048_528_0).toLoadRect) j
      = matCol T w ((Rect.unit (s := S1040x512) ![528, 0] S256x512.size inb_S1040x512_S256x512_528_0).emb j) := by
  rw [read_parts v T _ _ (parts5 T P0 P1 P2 P3 P4 h0 h1 h2 h3 h4) (fun j => cover5 P0 P1 P2 P3 P4 _)]
  exact (congrArg _ (ValueIdx.eq_ix2 j)).trans ((pay_up_c _ _ (j 0) (j 1)).trans (col_part T w _ rfl 528 _ inb_S1040x512_S256x512_528_0 j))

include h0 h1 h2 h3 h4 in
theorem col_d (j : S256x512.Idx) :
    k0_pay4 (k0_pay9 w) (v.readCov (pieces5 P0 P1 P2 P3 P4) (Rect.unit (s := S1040x2048) ![784, 0] S256x2048.size inb_S1040x2048_S256x2048_784_0).toLoadRect) j
      = matCol T w ((Rect.unit (s := S1040x512) ![784, 0] S256x512.size inb_S1040x512_S256x512_784_0).emb j) := by
  rw [read_parts v T _ _ (parts5 T P0 P1 P2 P3 P4 h0 h1 h2 h3 h4) (fun j => cover5 P0 P1 P2 P3 P4 _)]
  exact (congrArg _ (ValueIdx.eq_ix2 j)).trans ((pay_up_d _ _ (j 0) (j 1)).trans (col_part T w _ rfl 784 _ inb_S1040x512_S256x512_784_0 j))

/-- The first gate columns' pieces. -/
def gatePieces : List (View.Piece (Elt Ideal) S1040x512 .f32) :=
  [⟨Rect.unit (s := S1040x512) ![784, 0] S256x512.size inb_S1040x512_S256x512_784_0, k0_pay4 (k0_pay9 w)
      (v.readCov (pieces5 P0 P1 P2 P3 P4) (Rect.unit (s := S1040x2048) ![784, 0] S256x2048.size inb_S1040x2048_S256x2048_784_0).toLoadRect)⟩,
    ⟨Rect.unit (s := S1040x512) ![528, 0] S256x512.size inb_S1040x512_S256x512_528_0, k0_pay3 (k0_pay9 w)
      (v.readCov (pieces5 P0 P1 P2 P3 P4) (Rect.unit (s := S1040x2048) ![528, 0] S256x2048.size inb_S1040x2048_S256x2048_528_0).toLoadRect)⟩,
    ⟨Rect.unit (s := S1040x512) ![272, 0] S256x512.size inb_S1040x512_S256x512_272_0, k0_pay17 (k0_pay9 w)
      (v.readCov (pieces4 P0 P1 P2 P3) (Rect.unit (s := S1040x2048) ![272, 0] S256x2048.size inb_S1040x2048_S256x2048_272_0).toLoadRect)⟩,
    ⟨Rect.unit (s := S1040x512) ![0, 0] S272x512.size inb_S1040x512_S272x512_0_0, k0_pay13 (k0_pay9 w)
      (v.readCov (pieces3 P0 P1 P2) (Rect.unit (s := S1040x2048) ![0, 0] S272x2048.size inb_S1040x2048_S272x2048_0_0).toLoadRect)⟩]

theorem col_mem (o n : ℕ) (inb : ∀ a, ![o, 0] a + ![n, 512] a ≤ S1040x512.size a) (y : S1040x512.Idx)
    (ha : o ≤ (y 0).val) (hb : (y 0).val < o + n) : y ∈ (Rect.unit (s := S1040x512) ![o, 0] ![n, 512] inb).set := by
  refine Rect.mem_set_unit.mpr fun a => ?_
  match a with
  | ⟨0, _⟩ => exact ⟨ha, hb⟩
  | ⟨1, _⟩ => exact ⟨Nat.zero_le _, lt_of_lt_of_le (y 1).isLt (show (512 : ℕ) ≤ 0 + 512 by omega)⟩

include h0 h1 h2 h3 h4 in
theorem parts_gate : PartsOf (matCol T w) (gatePieces w P0 P1 P2 P3 P4 v) :=
  parts_cons _ _ _ _ (col_d T w P0 P1 P2 P3 P4 h0 h1 h2 h3 h4 v)
    (parts_cons _ _ _ _ (col_c T w P0 P1 P2 P3 P4 h0 h1 h2 h3 h4 v)
    (parts_cons _ _ _ _ (col_b T w P0 P1 P2 P3 h0 h1 h2 h3 v)
    (parts_cons _ _ _ _ (col_a T w P0 P1 P2 h0 h1 h2 v) (parts_nil _))))

include h0 h1 h2 h3 h4 in
/-- The first gate columns, read back. -/
theorem read_gate (u : View sig .tc .vmem S1040x512 .f32) :
    u.readCov (gatePieces w P0 P1 P2 P3 P4 v) (Rect.unit (s := S1040x512) ![0, 0] S1040x512.size inb_S1040x512_S1040x512_0_0).toLoadRect
      = matCol T w := by
  rw [read_parts u (matCol T w) _ _ (parts_gate T w P0 P1 P2 P3 P4 h0 h1 h2 h3 h4 v) (fun j => ?_)]
  · exact View.ld_unit_zero (by decide) _ (matCol T w)
  · generalize (Rect.unit (s := S1040x512) ![0, 0] S1040x512.size inb_S1040x512_S1040x512_0_0).toLoadRect.idx j = y
    by_cases ha : (y 0).val < 272
    · exact ⟨_, List.mem_cons_of_mem _ (List.mem_cons_of_mem _ (List.mem_cons_of_mem _ List.mem_cons_self)),
        col_mem 0 272 inb_S1040x512_S272x512_0_0 y (Nat.zero_le _) (by omega)⟩
    by_cases hb : (y 0).val < 528
    · exact ⟨_, List.mem_cons_of_mem _ (List.mem_cons_of_mem _ List.mem_cons_self), col_mem 272 256 inb_S1040x512_S256x512_272_0 y (by omega) (by omega)⟩
    by_cases hd : (y 0).val < 784
    · exact ⟨_, List.mem_cons_of_mem _ List.mem_cons_self, col_mem 528 256 inb_S1040x512_S256x512_528_0 y (by omega) (by omega)⟩
    · exact ⟨_, List.mem_cons_self, col_mem 784 256 inb_S1040x512_S256x512_784_0 y (by omega) (by have := (y 0).isLt; exact this)⟩

include h0 h1 h2 h3 h4 in
/-- The activation at a block's first point. -/
theorem act_first (u : View sig .tc .vmem S1040x512 .f32) (wv : Vec Ideal S1x2048x512 .bf16) (cwg cwv : Vec Ideal S3x512 .f32)
    (cbg cbv : Vec Ideal S1x512 .f32) (j : S1024x512.Idx) :
    k0_pay5
      (k0_pay19 (v.readCov (pieces5 P0 P1 P2 P3 P4) (Rect.unit (s := S1040x2048) ![0, 0] S1040x2048.size inb_S1040x2048_S1040x2048_0_0).toLoadRect) wv)
      (k0_pay20 (u.readCov (gatePieces w P0 P1 P2 P3 P4 v) (Rect.unit (s := S1040x512) ![0, 0] S1040x512.size inb_S1040x512_S1040x512_0_0).toLoadRect) cwg cbg)
      (k0_pay22 cwv)
      (k0_pay23 (v.readCov (pieces5 P0 P1 P2 P3 P4) (Rect.unit (s := S1040x2048) ![0, 0] S1040x2048.size inb_S1040x2048_S1040x2048_0_0).toLoadRect) wv cwv)
      (k0_pay24 cwv)
      (k0_pay25 (v.readCov (pieces5 P0 P1 P2 P3 P4) (Rect.unit (s := S1040x2048) ![0, 0] S1040x2048.size inb_S1040x2048_S1040x2048_0_0).toLoadRect) wv)
      cbv j = actTile (matCol T w) (matCol T wv) cwg cwv cbg cbv j := by
  rw [read_tile T P0 P1 P2 P3 P4 h0 h1 h2 h3 h4 v, read_gate T w P0 P1 P2 P3 P4 h0 h1 h2 h3 h4 v u]
  exact (congrArg _ (ValueIdx.eq_ix2 j)).trans ((pay_act _ _ _ _ _ _ _ (j 0) (j 1)).trans (congrArg _ (ValueIdx.eq_ix2 j).symm))

include h0 h1 h2 h3 h4 in
/-- The next gate columns at a block's first point. -/
theorem next_first (wn : Vec Ideal S1x2048x512 .bf16) (j : S1040x512.Idx) :
    k0_pay21 (v.readCov (pieces5 P0 P1 P2 P3 P4) (Rect.unit (s := S1040x2048) ![0, 0] S1040x2048.size inb_S1040x2048_S1040x2048_0_0).toLoadRect) wn j
      = matCol T wn j := by
  rw [read_tile T P0 P1 P2 P3 P4 h0 h1 h2 h3 h4 v]
  exact (congrArg _ (ValueIdx.eq_ix2 j)).trans (pay_next _ _ (j 0) (j 1))

end first

variable (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x2048x512 .bf16) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x64x2048 .f32) (harg12 : arg12.IsWhole) (arg13 : Memref sig .tc .vmem S1024x512 .bf16) (harg13 : arg13.IsWhole) (arg14 : Memref sig .tc .vmem S64x2048 .bf16) (harg14 : arg14.IsWhole) (arg15 : Memref sig .tc .vmem S1040x2048 .bf16) (harg15 : arg15.IsWhole) (arg16 : Memref sig .tc .vmem S1040x512 .f32) (harg16 : arg16.IsWhole)
    (x0 : Vec Ideal S1024x2048 .f32) (x1 : Vec Ideal S16x2048 .f32) (x2 : Vec Ideal S1x2048 .f32) (x3 : Vec Ideal S1x2048x512 .bf16) (x4 : Vec Ideal S1x2048x512 .bf16) (x5 : Vec Ideal S1x2048x512 .bf16) (x6 : Vec Ideal S3x512 .f32) (x7 : Vec Ideal S3x512 .f32) (x8 : Vec Ideal S1x512 .f32) (x9 : Vec Ideal S1x512 .f32) (x10 : Vec Ideal S1x64x2048 .f32)
    (xs0 : Vec Ideal S1040x2048 .bf16) (xs1 : Vec Ideal S1040x512 .f32)

theorem cast_B (hc0 : ¬cond0_0 i) (hc3 : cond0_3 i) (hc4 : ¬cond0_4 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1 = castSlab x10 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1)]
  unfold kernelRun0_B
  dsimp only
  sl_unfold_words
  rw [View.canon_unit_zero (by decide)]
  funext j
  rw [load_whole _ _ _ (by decide)]
  exact (congrArg _ (ValueIdx.eq_ix2 j)).trans (pay_cast _ (j 0) (j 1))

theorem act_B (hc0 : ¬cond0_0 i) (hc3 : cond0_3 i) (hc4 : ¬cond0_4 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1 = actTile xs1 (matCol xs0 x5) x6 x7 x8 x9 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1)]
  unfold kernelRun0_B
  dsimp only
  sl_unfold_words
  rw [View.canon_unit_zero (by decide)]
  funext j
  rw [load_whole arg15 harg15 xs0 (by decide), load_whole arg16 harg16 xs1 (by decide), load_whole arg7 harg7 x5 (by decide),
    load_whole arg8 harg8 x6 (by decide), load_whole arg9 harg9 x7 (by decide), load_whole arg10 harg10 x8 (by decide),
    load_whole arg11 harg11 x9 (by decide)]
  exact (congrArg _ (ValueIdx.eq_ix2 j)).trans ((pay_act _ _ _ _ _ _ _ (j 0) (j 1)).trans (congrArg _ (ValueIdx.eq_ix2 j).symm))

theorem cast_C (hc0 : ¬cond0_0 i) (hc3 : ¬cond0_3 i) (hc4 : cond0_4 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1 = castSlab x10 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1)]
  unfold kernelRun0_C
  dsimp only
  sl_unfold_words
  rw [View.canon_unit_zero (by decide)]
  funext j
  rw [load_whole _ _ _ (by decide)]
  exact (congrArg _ (ValueIdx.eq_ix2 j)).trans (pay_cast _ (j 0) (j 1))

theorem act_C (hc0 : ¬cond0_0 i) (hc3 : ¬cond0_3 i) (hc4 : cond0_4 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1 = actTile xs1 (matCol xs0 x5) x6 x7 x8 x9 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1)]
  unfold kernelRun0_C
  dsimp only
  sl_unfold_words
  rw [View.canon_unit_zero (by decide)]
  funext j
  rw [load_whole arg15 harg15 xs0 (by decide), load_whole arg16 harg16 xs1 (by decide), load_whole arg7 harg7 x5 (by decide),
    load_whole arg8 harg8 x6 (by decide), load_whole arg9 harg9 x7 (by decide), load_whole arg10 harg10 x8 (by decide),
    load_whole arg11 harg11 x9 (by decide)]
  exact (congrArg _ (ValueIdx.eq_ix2 j)).trans ((pay_act_last _ _ _ _ _ _ _ (j 0) (j 1)).trans (congrArg _ (ValueIdx.eq_ix2 j).symm))

theorem next_B (hc0 : ¬cond0_0 i) (hc3 : cond0_3 i) (hc4 : ¬cond0_4 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1 = matCol xs0 x4 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc3 hc4 x0 x1 x2 x3 x4 x5 x6 x7 x8 x9 x10 xs0 xs1)]
  unfold kernelRun0_B
  dsimp only
  sl_unfold_words
  rw [View.canon_unit_zero (by decide)]
  funext j
  rw [load_whole arg15 harg15 xs0 (by decide), load_whole arg6 harg6 x4 (by decide)]
  exact (congrArg _ (ValueIdx.eq_ix2 j)).trans (pay_next _ _ (j 0) (j 1))

theorem cast_A (hc0 : cond0_0 i) (hc1 : cond0_1 i) (hc2 : ¬cond0_2 i) (hc3 : cond0_3 i) (hc4 : ¬cond0_4 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = castSlab x10 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_A
  dsimp only
  sl_unfold_words
  rw [View.canon_unit_zero (by decide)]
  funext j
  rw [load_whole _ _ _ (by decide)]
  exact (congrArg _ (ValueIdx.eq_ix2 j)).trans (pay_cast _ (j 0) (j 1))

theorem tile_A (hc0 : cond0_0 i) (hc1 : cond0_1 i) (hc2 : ¬cond0_2 i) (hc3 : cond0_3 i) (hc4 : ¬cond0_4 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = normTile haloZero x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_A
  dsimp only
  sl_unfold_words
  rw [load_slab 0, load_slab 256, load_slab 512, load_slab 768, load_whole arg4 harg4 x2 (by decide)]
  funext y
  exact View.canon_apply_of_pieces (normTile haloZero x0 x2) _ (parts5 (normTile haloZero x0 x2) _ _ _ _ _ (part_halo haloZero x0 x2 (k0_pay7 (F := Ideal)) zero_halo _) (part_a haloZero x0 x2 _ _)
    (part_b haloZero x0 x2 _ _) (part_c haloZero x0 x2 _ _) (part_d haloZero x0 x2 _ _)) y (cover5 _ _ _ _ _ y)

theorem next_A (hc0 : cond0_0 i) (hc1 : cond0_1 i) (hc2 : ¬cond0_2 i) (hc3 : cond0_3 i) (hc4 : ¬cond0_4 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = matCol (normTile haloZero x0 x2) x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_A
  dsimp only
  sl_unfold_words
  rw [View.canon_cons_unit_zero (by decide)]
  rw [load_slab 0, load_slab 256, load_slab 512, load_slab 768, load_whole arg4 harg4 x2 (by decide)]
  rw [load_whole arg6 harg6 x4 (by decide)]
  funext j
  exact next_first (normTile haloZero x0 x2) _ _ _ _ _ (part_halo haloZero x0 x2 (k0_pay7 (F := Ideal)) zero_halo _) (part_a haloZero x0 x2 _ _)
    (part_b haloZero x0 x2 _ _) (part_c haloZero x0 x2 _ _) (part_d haloZero x0 x2 _ _) arg15.view x4 j

theorem act_A (hc0 : cond0_0 i) (hc1 : cond0_1 i) (hc2 : ¬cond0_2 i) (hc3 : cond0_3 i) (hc4 : ¬cond0_4 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = actTile (matCol (normTile haloZero x0 x2) x3) (matCol (normTile haloZero x0 x2) x5) x6 x7 x8 x9 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_A
  dsimp only
  sl_unfold_words
  rw [View.canon_unit_zero (by decide)]
  rw [load_slab 0, load_slab 256, load_slab 512, load_slab 768, load_whole arg4 harg4 x2 (by decide)]
  rw [load_whole arg5 harg5 x3 (by decide), load_whole arg7 harg7 x5 (by decide), load_whole arg8 harg8 x6 (by decide),
    load_whole arg9 harg9 x7 (by decide), load_whole arg10 harg10 x8 (by decide), load_whole arg11 harg11 x9 (by decide)]
  funext j
  exact act_first (normTile haloZero x0 x2) x3 _ _ _ _ _ (part_halo haloZero x0 x2 (k0_pay7 (F := Ideal)) zero_halo _) (part_a haloZero x0 x2 _ _)
    (part_b haloZero x0 x2 _ _) (part_c haloZero x0 x2 _ _) (part_d haloZero x0 x2 _ _) arg15.view arg16.view x5 x6 x7 x8 x9 j

theorem cast_D (hc0 : cond0_0 i) (hc1 : ¬cond0_1 i) (hc2 : cond0_2 i) (hc3 : cond0_3 i) (hc4 : ¬cond0_4 i) :
    out0_D_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = castSlab x10 := by
  unfold out0_D_12
  rw [View.read_writes_eq_canon _ _ _ (cover0_D_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_D
  dsimp only
  sl_unfold_words
  rw [View.canon_unit_zero (by decide)]
  funext j
  rw [load_whole _ _ _ (by decide)]
  exact (congrArg _ (ValueIdx.eq_ix2 j)).trans (pay_cast _ (j 0) (j 1))

theorem tile_D (hc0 : cond0_0 i) (hc1 : ¬cond0_1 i) (hc2 : cond0_2 i) (hc3 : cond0_3 i) (hc4 : ¬cond0_4 i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = normTile (haloNorm x1 x2) x0 x2 := by
  unfold sout0_D_0
  rw [View.read_writes_eq_canon _ _ _ (scover0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_D
  dsimp only
  sl_unfold_words
  rw [load_slab 0, load_slab 256, load_slab 512, load_slab 768, load_whole arg4 harg4 x2 (by decide)]
  rw [load_whole arg3 harg3 x1 (by decide)]
  funext y
  exact View.canon_apply_of_pieces (normTile (haloNorm x1 x2) x0 x2) _ (parts5 (normTile (haloNorm x1 x2) x0 x2) _ _ _ _ _ (part_halo (haloNorm x1 x2) x0 x2 (k0_pay8 x2 x1) (fun r n => pay_norm_halo x2 x1 r n) _) (part_a (haloNorm x1 x2) x0 x2 _ _)
    (part_b (haloNorm x1 x2) x0 x2 _ _) (part_c (haloNorm x1 x2) x0 x2 _ _) (part_d (haloNorm x1 x2) x0 x2 _ _)) y (cover5 _ _ _ _ _ y)

theorem next_D (hc0 : cond0_0 i) (hc1 : ¬cond0_1 i) (hc2 : cond0_2 i) (hc3 : cond0_3 i) (hc4 : ¬cond0_4 i) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = matCol (normTile (haloNorm x1 x2) x0 x2) x4 := by
  unfold sout0_D_1
  rw [View.read_writes_eq_canon _ _ _ (scover0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_D
  dsimp only
  sl_unfold_words
  rw [View.canon_cons_unit_zero (by decide)]
  rw [load_slab 0, load_slab 256, load_slab 512, load_slab 768, load_whole arg4 harg4 x2 (by decide)]
  rw [load_whole arg3 harg3 x1 (by decide)]
  rw [load_whole arg6 harg6 x4 (by decide)]
  funext j
  exact next_first (normTile (haloNorm x1 x2) x0 x2) _ _ _ _ _ (part_halo (haloNorm x1 x2) x0 x2 (k0_pay8 x2 x1) (fun r n => pay_norm_halo x2 x1 r n) _) (part_a (haloNorm x1 x2) x0 x2 _ _)
    (part_b (haloNorm x1 x2) x0 x2 _ _) (part_c (haloNorm x1 x2) x0 x2 _ _) (part_d (haloNorm x1 x2) x0 x2 _ _) arg15.view x4 j

theorem act_D (hc0 : cond0_0 i) (hc1 : ¬cond0_1 i) (hc2 : cond0_2 i) (hc3 : cond0_3 i) (hc4 : ¬cond0_4 i) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10 = actTile (matCol (normTile (haloNorm x1 x2) x0 x2) x3) (matCol (normTile (haloNorm x1 x2) x0 x2) x5) x6 x7 x8 x9 := by
  unfold out0_D_11
  rw [View.read_writes_eq_canon _ _ _ (cover0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 x8 x9 x10)]
  unfold kernelRun0_D
  dsimp only
  sl_unfold_words
  rw [View.canon_unit_zero (by decide)]
  rw [load_slab 0, load_slab 256, load_slab 512, load_slab 768, load_whole arg4 harg4 x2 (by decide)]
  rw [load_whole arg3 harg3 x1 (by decide)]
  rw [load_whole arg5 harg5 x3 (by decide), load_whole arg7 harg7 x5 (by decide), load_whole arg8 harg8 x6 (by decide),
    load_whole arg9 harg9 x7 (by decide), load_whole arg10 harg10 x8 (by decide), load_whole arg11 harg11 x9 (by decide)]
  funext j
  exact act_first (normTile (haloNorm x1 x2) x0 x2) x3 _ _ _ _ _ (part_halo (haloNorm x1 x2) x0 x2 (k0_pay8 x2 x1) (fun r n => pay_norm_halo x2 x1 r n) _) (part_a (haloNorm x1 x2) x0 x2 _ _)
    (part_b (haloNorm x1 x2) x0 x2 _ _) (part_c (haloNorm x1 x2) x0 x2 _ _) (part_d (haloNorm x1 x2) x0 x2 _ _) arg15.view arg16.view x5 x6 x7 x8 x9 j

end Cert.Up

end
-- ==== Proof.UpHost.lean ====
module

public import proofs.«01_k».proof.Proof.UpPay

/-!
# What the up-projection's windows hold

The host operations before the call only pick a layer's rows and rearrange them, so at an entry each window's block is
an entry of an argument.
-/

@[expose] public section

set_option maxRecDepth 16384

noncomputable section

namespace Cert.Up

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (c : Dev nD)

/-- The residual rows, as launched. -/
def resArg : Vec Ideal S8192x2048 .f32 := m ((c : Thread nD τ).loc main_arg0)
/-- The gains, as launched. -/
def gainArg : Vec Ideal S2x2048 .f32 := m ((c : Thread nD τ).loc main_arg1)
/-- The up-projection's weight, as launched. -/
def upArg : Vec Ideal S2048x11264 .bf16 := m ((c : Thread nD τ).loc main_arg2)
/-- The convolution's weights, as launched. -/
def convArg : Vec Ideal S2x3x11264 .f32 := m ((c : Thread nD τ).loc main_arg3)
/-- The convolution's biases, as launched. -/
def biasArg : Vec Ideal S2x11264 .f32 := m ((c : Thread nD τ).loc main_arg4)
/-- The down-projection's weights, as launched. -/
def castArg : Vec Ideal S2x5632x2048 .f32 := m ((c : Thread nD τ).loc main_arg5)

/-- The gain's window array. -/
def gainV : Vec Ideal S1x2048 .f32 := V m c main_v7
/-- The weight's window array. -/
def upV : Vec Ideal S1x2048x11264 .bf16 := V m c main_v2
/-- The convolution weights' window array. -/
def convV : Vec Ideal S3x11264 .f32 := V m c main_v4
/-- The gate biases' window array. -/
def biasV : Vec Ideal S1x11264 .f32 := V m c main_v8
/-- The value biases' window array. -/
def biasV' : Vec Ideal S1x11264 .f32 := V m c main_v9

theorem gainV_apply (k : Fin 2048) : gainV m c (ix2 0 k) = gainArg m c (ix2 1 k) := by
  have e : gainV m c = shapeCast S1x2048 (shapeCast S2048 (extractStridedSlice S1x2048 ![1, 0] (gainArg m c)
      slices_S2x2048_S1x2048_1_0) shapeCasts_S1x2048_S2048) shapeCasts_S2048_S1x2048 := by
    unfold gainV
    show StableHlo.after hostOps0 (fun b => m (c, b)) main_v7 = _
    simp only [hostOps0]
    after_results_simp <;> rfl
  rw [e]
  pointwise

theorem upV_apply (k : Fin 2048) (q : Fin 11264) : upV m c (ix3 0 k q) = upArg m c (ix2 k q) := by
  have e : upV m c = broadcastInDim S1x2048x11264 ![1, 2] bcast_S2048x11264_S1x2048x11264_1_2 (upArg m c) := by
    unfold upV
    show StableHlo.after hostOps0 (fun b => m (c, b)) main_v2 = _
    simp only [hostOps0]
    after_results_simp <;> rfl
  rw [e]
  pointwise

theorem convV_apply (a : Fin 3) (q : Fin 11264) : convV m c (ix2 a q) = convArg m c (ix3 1 a q) := by
  have e : convV m c = shapeCast S3x11264 (extractStridedSlice S1x3x11264 ![1, 0, 0] (convArg m c)
      slices_S2x3x11264_S1x3x11264_1_0_0) shapeCasts_S1x3x11264_S3x11264 := by
    unfold convV
    show StableHlo.after hostOps0 (fun b => m (c, b)) main_v4 = _
    simp only [hostOps0]
    after_results_simp <;> rfl
  rw [e]
  pointwise

theorem biasV_apply (q : Fin 11264) : biasV m c (ix2 0 q) = biasArg m c (ix2 1 q) := by
  have e : biasV m c = shapeCast S1x11264 (shapeCast S11264 (extractStridedSlice S1x11264 ![1, 0] (biasArg m c)
      slices_S2x11264_S1x11264_1_0) shapeCasts_S1x11264_S11264) shapeCasts_S11264_S1x11264 := by
    unfold biasV
    show StableHlo.after hostOps0 (fun b => m (c, b)) main_v8 = _
    simp only [hostOps0]
    after_results_simp <;> rfl
  rw [e]
  pointwise

theorem biasV'_apply (q : Fin 11264) : biasV' m c (ix2 0 q) = biasArg m c (ix2 1 q) := by
  have e : biasV' m c = shapeCast S1x11264 (shapeCast S11264 (extractStridedSlice S1x11264 ![1, 0] (biasArg m c)
      slices_S2x11264_S1x11264_1_0) shapeCasts_S1x11264_S11264) shapeCasts_S11264_S1x11264 := by
    unfold biasV'
    show StableHlo.after hostOps0 (fun b => m (c, b)) main_v9 = _
    simp only [hostOps0]
    after_results_simp <;> rfl
  rw [e]
  pointwise

/-- Where the windows' blocks lie at a point. -/
theorem places : ∀ t : Fin grid0.N,
    (win0_0.index t 0 = t.val / 11 ∧ win0_0.index t 1 = 0)
    ∧ (win0_1.index t 0 = t.val / 11 * 64 - 1 ∧ win0_1.index t 1 = 0)
    ∧ (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0 ∧ win0_4.index t 2 = min (t.val % 11 + 1) 10)
    ∧ (win0_5.index t 0 = 0 ∧ win0_5.index t 1 = 0 ∧ win0_5.index t 2 = t.val % 11 + 11) := by decide +kernel

theorem places' : ∀ t : Fin grid0.N,
    (win0_6.index t 0 = 0 ∧ win0_6.index t 1 = t.val % 11)
    ∧ (win0_7.index t 0 = 0 ∧ win0_7.index t 1 = t.val % 11 + 11)
    ∧ (win0_8.index t 0 = 0 ∧ win0_8.index t 1 = t.val % 11)
    ∧ (win0_9.index t 0 = 0 ∧ win0_9.index t 1 = t.val % 11 + 11)
    ∧ (win0_10.index t 0 = 1 ∧ win0_10.index t 1 = t.val ∧ win0_10.index t 2 = 0)
    ∧ (win0_11.index t 0 = t.val / 11 ∧ win0_11.index t 1 = t.val % 11)
    ∧ (win0_12.index t 0 = t.val ∧ win0_12.index t 1 = 0) := by decide +kernel

/-- A block of the weight's columns. -/
def wBlk (b : ℕ) : Vec Ideal S1x2048x512 .bf16 :=
  fun y => upArg m c (ValueIdx.ix2 (y 1) ⟨(b * 512 + (y 2).val) % 11264, Nat.mod_lt _ (by decide)⟩)

/-- A block of the convolution weights' columns. -/
def cwBlk (b : ℕ) : Vec Ideal S3x512 .f32 :=
  fun y => convArg m c (ValueIdx.ix3 1 (y 0) ⟨(b * 512 + (y 1).val) % 11264, Nat.mod_lt _ (by decide)⟩)

/-- A block of the biases. -/
def cbBlk (b : ℕ) : Vec Ideal S1x512 .f32 :=
  fun y => biasArg m c (ValueIdx.ix2 1 ⟨(b * 512 + (y 1).val) % 11264, Nat.mod_lt _ (by decide)⟩)

/-- The gain as a row. -/
def gainRow : Vec Ideal S1x2048 .f32 := fun y => gainArg m c (ValueIdx.ix2 1 (y 1))

theorem lt_eleven (t : Fin cfg0.N) : t.val < 88 := lt_of_lt_of_eq t.isLt (by decide)

theorem blk2 (t : Fin cfg0.N) : (iblk m c 2 t : Vec Ideal S1x2048 .f32) = gainRow m c := by
  obtain ⟨-, -, ⟨a0, a1⟩, -⟩ := places t
  funext y
  show gainV m c (((cfg0.win 2).blk t).view.emb y) = _
  refine (congrArg (gainV m c) ?_).trans (gainV_apply m c (y 1))
  funext x; apply Fin.ext
  have h0 : (y 0).val < 1 := (y 0).isLt
  match x with
  | ⟨0, _⟩ => show win0_2.index t 0 * 1 + 1 * (y 0).val = 0; omega
  | ⟨1, _⟩ => show win0_2.index t 1 * 2048 + 1 * (y 1).val = (y 1).val; omega

theorem blk3 (t : Fin cfg0.N) : (iblk m c 3 t : Vec Ideal S1x2048x512 .bf16) = wBlk m c 0 := by
  obtain ⟨-, -, -, ⟨a0, a1, a2⟩, -⟩ := places t
  funext y
  have h0 : (y 0).val < 1 := (y 0).isLt
  have h2 : (y 2).val < 512 := (y 2).isLt
  show upV m c (((cfg0.win 3).blk t).view.emb y) = _
  refine (congrArg (upV m c) ?_).trans (upV_apply m c (y 1) ⟨(0 * 512 + (y 2).val) % 11264, Nat.mod_lt _ (by decide)⟩)
  funext x; apply Fin.ext
  match x with
  | ⟨0, _⟩ => show win0_3.index t 0 * 1 + 1 * (y 0).val = 0; omega
  | ⟨1, _⟩ => show win0_3.index t 1 * 2048 + 1 * (y 1).val = (y 1).val; omega
  | ⟨2, _⟩ => show win0_3.index t 2 * 512 + 1 * (y 2).val = (0 * 512 + (y 2).val) % 11264; omega

theorem blk4 (t : Fin cfg0.N) (ht : t.val % 11 ≤ 9) : (iblk m c 4 t : Vec Ideal S1x2048x512 .bf16) = wBlk m c (t.val % 11 + 1) := by
  obtain ⟨-, -, -, -, ⟨a0, a1, a2⟩, -⟩ := places t
  funext y
  have h0 : (y 0).val < 1 := (y 0).isLt
  have h2 : (y 2).val < 512 := (y 2).isLt
  show upV m c (((cfg0.win 4).blk t).view.emb y) = _
  refine (congrArg (upV m c) ?_).trans (upV_apply m c (y 1) ⟨((t.val % 11 + 1) * 512 + (y 2).val) % 11264, Nat.mod_lt _ (by decide)⟩)
  funext x; apply Fin.ext
  match x with
  | ⟨0, _⟩ => show win0_4.index t 0 * 1 + 1 * (y 0).val = 0; omega
  | ⟨1, _⟩ => show win0_4.index t 1 * 2048 + 1 * (y 1).val = (y 1).val; omega
  | ⟨2, _⟩ => show win0_4.index t 2 * 512 + 1 * (y 2).val = ((t.val % 11 + 1) * 512 + (y 2).val) % 11264; omega

theorem blk5 (t : Fin cfg0.N) : (iblk m c 5 t : Vec Ideal S1x2048x512 .bf16) = wBlk m c (t.val % 11 + 11) := by
  obtain ⟨-, -, -, -, -, ⟨a0, a1, a2⟩⟩ := places t
  funext y
  have h0 : (y 0).val < 1 := (y 0).isLt
  have h2 : (y 2).val < 512 := (y 2).isLt
  show upV m c (((cfg0.win 5).blk t).view.emb y) = _
  refine (congrArg (upV m c) ?_).trans (upV_apply m c (y 1) ⟨((t.val % 11 + 11) * 512 + (y 2).val) % 11264, Nat.mod_lt _ (by decide)⟩)
  funext x; apply Fin.ext
  match x with
  | ⟨0, _⟩ => show win0_5.index t 0 * 1 + 1 * (y 0).val = 0; omega
  | ⟨1, _⟩ => show win0_5.index t 1 * 2048 + 1 * (y 1).val = (y 1).val; omega
  | ⟨2, _⟩ => show win0_5.index t 2 * 512 + 1 * (y 2).val = ((t.val % 11 + 11) * 512 + (y 2).val) % 11264; omega

theorem blk6 (t : Fin cfg0.N) : (iblk m c 6 t : Vec Ideal S3x512 .f32) = cwBlk m c (t.val % 11) := by
  obtain ⟨⟨a0, a1⟩, -⟩ := places' t
  funext y
  have h1 : (y 1).val < 512 := (y 1).isLt
  show convV m c (((cfg0.win 6).blk t).view.emb y) = _
  refine (congrArg (convV m c) ?_).trans (convV_apply m c (y 0) ⟨(t.val % 11 * 512 + (y 1).val) % 11264, Nat.mod_lt _ (by decide)⟩)
  funext x; apply Fin.ext
  match x with
  | ⟨0, _⟩ => show win0_6.index t 0 * 3 + 1 * (y 0).val = (y 0).val; omega
  | ⟨1, _⟩ => show win0_6.index t 1 * 512 + 1 * (y 1).val = (t.val % 11 * 512 + (y 1).val) % 11264; omega

theorem blk7 (t : Fin cfg0.N) : (iblk m c 7 t : Vec Ideal S3x512 .f32) = cwBlk m c (t.val % 11 + 11) := by
  obtain ⟨-, ⟨a0, a1⟩, -⟩ := places' t
  funext y
  have h1 : (y 1).val < 512 := (y 1).isLt
  show convV m c (((cfg0.win 7).blk t).view.emb y) = _
  refine (congrArg (convV m c) ?_).trans (convV_apply m c (y 0) ⟨((t.val % 11 + 11) * 512 + (y 1).val) % 11264, Nat.mod_lt _ (by decide)⟩)
  funext x; apply Fin.ext
  match x with
  | ⟨0, _⟩ => show win0_7.index t 0 * 3 + 1 * (y 0).val = (y 0).val; omega
  | ⟨1, _⟩ => show win0_7.index t 1 * 512 + 1 * (y 1).val = ((t.val % 11 + 11) * 512 + (y 1).val) % 11264; omega

theorem blk8 (t : Fin cfg0.N) : (iblk m c 8 t : Vec Ideal S1x512 .f32) = cbBlk m c (t.val % 11) := by
  obtain ⟨-, -, ⟨a0, a1⟩, -⟩ := places' t
  funext y
  have h0 : (y 0).val < 1 := (y 0).isLt
  have h1 : (y 1).val < 512 := (y 1).isLt
  show biasV m c (((cfg0.win 8).blk t).view.emb y) = _
  refine (congrArg (biasV m c) ?_).trans (biasV_apply m c ⟨(t.val % 11 * 512 + (y 1).val) % 11264, Nat.mod_lt _ (by decide)⟩)
  funext x; apply Fin.ext
  match x with
  | ⟨0, _⟩ => show win0_8.index t 0 * 1 + 1 * (y 0).val = 0; omega
  | ⟨1, _⟩ => show win0_8.index t 1 * 512 + 1 * (y 1).val = (t.val % 11 * 512 + (y 1).val) % 11264; omega

theorem blk9 (t : Fin cfg0.N) : (iblk m c 9 t : Vec Ideal S1x512 .f32) = cbBlk m c (t.val % 11 + 11) := by
  obtain ⟨-, -, -, ⟨a0, a1⟩, -⟩ := places' t
  funext y
  have h0 : (y 0).val < 1 := (y 0).isLt
  have h1 : (y 1).val < 512 := (y 1).isLt
  show biasV' m c (((cfg0.win 9).blk t).view.emb y) = _
  refine (congrArg (biasV' m c) ?_).trans (biasV'_apply m c ⟨((t.val % 11 + 11) * 512 + (y 1).val) % 11264, Nat.mod_lt _ (by decide)⟩)
  funext x; apply Fin.ext
  match x with
  | ⟨0, _⟩ => show win0_9.index t 0 * 1 + 1 * (y 0).val = 0; omega
  | ⟨1, _⟩ => show win0_9.index t 1 * 512 + 1 * (y 1).val = ((t.val % 11 + 11) * 512 + (y 1).val) % 11264; omega

/-- The tile of normalised rows of row block `i`: sixteen rows before the block, then the block; the sixteen are zero at
a sequence's start. -/
def tileAt (i : ℕ) : Vec Ideal S1040x2048 .bf16 :=
  fun y => if (y 0).val < 16 ∧ i % 2 = 0 then 0
    else normAt (resArg m c) (gainArg m c) ⟨(i * 1024 + (y 0).val - 16) % 8192, Nat.mod_lt _ (by decide)⟩ (y 1)

/-- The rows' window at a point. -/
theorem blk0 (t : Fin cfg0.N) (r : Fin 1024) (k : Fin 2048) : (iblk m c 0 t : Vec Ideal S1024x2048 .f32) (ValueIdx.ix2 r k)
    = resArg m c (ValueIdx.ix2 ⟨(t.val / 11 * 1024 + r.val) % 8192, Nat.mod_lt _ (by decide)⟩ k) := by
  have ht := lt_eleven t
  obtain ⟨⟨a0, a1⟩, -⟩ := places t
  have e : (V m c main_arg0 : Vec Ideal S8192x2048 .f32) = resArg m c := V_main_arg0 m c
  refine (show _ = (V m c main_arg0 : Vec Ideal S8192x2048 .f32) (((cfg0.win 0).blk t).view.emb (ValueIdx.ix2 r k)) from rfl).trans ?_
  rw [e]
  refine congrArg (resArg m c) ?_
  funext x; apply Fin.ext
  match x with
  | ⟨0, _⟩ => show win0_0.index t 0 * 1024 + 1 * r.val = (t.val / 11 * 1024 + r.val) % 8192; omega
  | ⟨1, _⟩ => show win0_0.index t 1 * 2048 + 1 * k.val = k.val; omega

/-- The halo's window at a point of an odd row block. -/
theorem blk1 (t : Fin cfg0.N) (hi : t.val / 11 % 2 = 1) (r : Fin 16) (k : Fin 2048) :
    (iblk m c 1 t : Vec Ideal S16x2048 .f32) (ValueIdx.ix2 r k)
    = resArg m c (ValueIdx.ix2 ⟨(t.val / 11 * 1024 + r.val - 16) % 8192, Nat.mod_lt _ (by decide)⟩ k) := by
  have ht := lt_eleven t
  obtain ⟨-, ⟨a0, a1⟩, -⟩ := places t
  have e : (V m c main_arg0 : Vec Ideal S8192x2048 .f32) = resArg m c := V_main_arg0 m c
  refine (show _ = (V m c main_arg0 : Vec Ideal S8192x2048 .f32) (((cfg0.win 1).blk t).view.emb (ValueIdx.ix2 r k)) from rfl).trans ?_
  rw [e]
  refine congrArg (resArg m c) ?_
  funext x; apply Fin.ext
  match x with
  | ⟨0, _⟩ => show win0_1.index t 0 * 16 + 1 * r.val = (t.val / 11 * 1024 + r.val - 16) % 8192; omega
  | ⟨1, _⟩ => show win0_1.index t 1 * 2048 + 1 * k.val = k.val; omega

/-- The cast slab's window at a point. -/
theorem blk10 (t : Fin cfg0.N) (r : Fin 64) (k : Fin 2048) : (iblk m c 10 t : Vec Ideal S1x64x2048 .f32) (ValueIdx.ix3 0 r k)
    = castArg m c (ValueIdx.ix3 1 ⟨(t.val * 64 + r.val) % 5632, Nat.mod_lt _ (by decide)⟩ k) := by
  have ht := lt_eleven t
  obtain ⟨-, -, -, -, ⟨a0, a1, a2⟩, -⟩ := places' t
  have e : (V m c main_arg5 : Vec Ideal S2x5632x2048 .f32) = castArg m c := V_main_arg5 m c
  refine (show _ = (V m c main_arg5 : Vec Ideal S2x5632x2048 .f32) (((cfg0.win 10).blk t).view.emb (ValueIdx.ix3 0 r k)) from rfl).trans ?_
  rw [e]
  refine congrArg (castArg m c) ?_
  funext x; apply Fin.ext
  match x with
  | ⟨0, _⟩ => show win0_10.index t 0 * 1 + 1 * 0 = 1; omega
  | ⟨1, _⟩ => show win0_10.index t 1 * 64 + 1 * r.val = (t.val * 64 + r.val) % 5632; omega
  | ⟨2, _⟩ => show win0_10.index t 2 * 2048 + 1 * k.val = k.val; omega

/-- The tile at the first point of an even row block. -/
theorem tile_even (t : Fin cfg0.N) (hi : t.val / 11 % 2 = 0) :
    normTile haloZero (iblk m c 0 t) (iblk m c 2 t) = tileAt m c (t.val / 11) := by
  funext y
  unfold normTile tileAt
  by_cases h : (y 0).val < 16
  · rw [dif_pos h, if_pos ⟨h, hi⟩]
    rfl
  · rw [dif_neg h, if_neg (fun hh => h hh.1), blk2]
    unfold normAt
    refine congrArg (fun f => rowNorm f _ _) ?_
    funext j
    refine (blk0 m c t _ j).trans (congrArg (fun R => resArg m c (ValueIdx.ix2 R j)) (Fin.ext ?_))
    show (t.val / 11 * 1024 + ((y 0).val - 16)) % 8192 = (t.val / 11 * 1024 + (y 0).val - 16) % 8192
    rw [Nat.add_sub_assoc (by omega)]

/-- The tile at the first point of an odd row block. -/
theorem tile_odd (t : Fin cfg0.N) (hi : t.val / 11 % 2 = 1) :
    normTile (haloNorm (iblk m c 1 t) (iblk m c 2 t)) (iblk m c 0 t) (iblk m c 2 t) = tileAt m c (t.val / 11) := by
  funext y
  unfold normTile tileAt haloNorm
  by_cases h : (y 0).val < 16
  · rw [dif_pos h, if_neg (fun hh => by omega), blk2]
    unfold normAt
    refine congrArg (fun f => rowNorm f _ _) ?_
    funext j
    exact blk1 m c t hi ⟨(y 0).val, h⟩ j
  · rw [dif_neg h, if_neg (fun hh => h hh.1), blk2]
    unfold normAt
    refine congrArg (fun f => rowNorm f _ _) ?_
    funext j
    refine (blk0 m c t _ j).trans (congrArg (fun R => resArg m c (ValueIdx.ix2 R j)) (Fin.ext ?_))
    show (t.val / 11 * 1024 + ((y 0).val - 16)) % 8192 = (t.val / 11 * 1024 + (y 0).val - 16) % 8192
    rw [Nat.add_sub_assoc (by omega)]

end Cert.Up

end
-- ==== Proof.UpArrays.lean ====
module

public import proofs.«01_k».proof.Proof.UpBlock
public import proofs.«01_k».proof.Proof.UpHost

/-!
# The up-projection call's result arrays

Along the grid the tile of normalised rows stays the row block's, and the gate columns a point leaves are the next
point's; so the two result arrays are, entry by entry, the activation and the cast weights.
-/

@[expose] public section

set_option maxRecDepth 16384

noncomputable section

namespace Cert.Up

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (c : Dev nD)

/-- What the carried buffers hold after a point. -/
def Carried (t : Fin cfg0.N) : Prop :=
  (outsAt0 m c t.val t.isLt).2.2.1 = tileAt m c (t.val / 11)
    ∧ (t.val % 11 ≤ 9 → (outsAt0 m c t.val t.isLt).2.2.2 = matCol (tileAt m c (t.val / 11)) (wBlk m c (t.val % 11 + 1)))

theorem tile_even_at (t : Fin cfg0.N) (h : t.val % 11 = 0) (hi : t.val / 11 % 2 = 0) :
    (outsAt0 m c t.val t.isLt).2.2.1 = tileAt m c (t.val / 11) := by
  rw [outsAt0_A m c t h (by omega) (by omega) (by omega) (by omega)]
  dsimp only
  rw [tile_A, tile_even m c t hi]

theorem tile_odd_at (t : Fin cfg0.N) (h : t.val % 11 = 0) (hi : t.val / 11 % 2 = 1) :
    (outsAt0 m c t.val t.isLt).2.2.1 = tileAt m c (t.val / 11) := by
  rw [outsAt0_D m c t h (by omega) (by omega) (by omega) (by omega)]
  dsimp only
  rw [tile_D, tile_odd m c t hi]

theorem next_even_at (t : Fin cfg0.N) (h : t.val % 11 = 0) (hi : t.val / 11 % 2 = 0) :
    (outsAt0 m c t.val t.isLt).2.2.2 = matCol (tileAt m c (t.val / 11)) (wBlk m c (t.val % 11 + 1)) := by
  rw [outsAt0_A m c t h (by omega) (by omega) (by omega) (by omega)]
  dsimp only
  rw [next_A, tile_even m c t hi, blk4 m c t (by omega)]

theorem next_odd_at (t : Fin cfg0.N) (h : t.val % 11 = 0) (hi : t.val / 11 % 2 = 1) :
    (outsAt0 m c t.val t.isLt).2.2.2 = matCol (tileAt m c (t.val / 11)) (wBlk m c (t.val % 11 + 1)) := by
  rw [outsAt0_D m c t h (by omega) (by omega) (by omega) (by omega)]
  dsimp only
  rw [next_D, tile_odd m c t hi, blk4 m c t (by omega)]

theorem carried_first (t : Fin cfg0.N) (h : t.val % 11 = 0) : Carried m c t := by
  by_cases hi : t.val / 11 % 2 = 0
  · exact ⟨tile_even_at m c t h hi, fun _ => next_even_at m c t h hi⟩
  · exact ⟨tile_odd_at m c t h (by omega), fun _ => next_odd_at m c t h (by omega)⟩

theorem carried_next (t : Fin cfg0.N) (h : ¬ t.val % 11 = 0) (hp : Carried m c ⟨t.val - 1, lt_of_le_of_lt (Nat.sub_le _ _) t.isLt⟩) :
    Carried m c t := by
  obtain ⟨p0, p1⟩ := hp
  dsimp only at p0 p1
  have e : (t.val - 1) / 11 = t.val / 11 := by omega
  rw [e] at p0
  unfold Carried
  by_cases h3 : t.val % 11 ≤ 9
  · rw [outsAt0_B m c t h h3 (by omega)]
    dsimp only
    refine ⟨?_, fun _ => ?_⟩
    · unfold sout0_B_0
      exact p0
    · rw [next_B, p0, blk4 m c t h3]
  · rw [outsAt0_C m c t h h3 (by omega)]
    dsimp only
    refine ⟨?_, fun h3' => absurd h3' h3⟩
    unfold sout0_C_0
    exact p0

theorem carried (n : ℕ) : ∀ hn : n < cfg0.N, Carried m c ⟨n, hn⟩ := by
  induction n with
  | zero => exact fun hn => carried_first m c ⟨0, hn⟩ rfl
  | succ n ih =>
    intro hn
    by_cases h : (n + 1) % 11 = 0
    · exact carried_first m c ⟨n + 1, hn⟩ h
    · exact carried_next m c ⟨n + 1, hn⟩ h (ih _)

/-- A point's block of the activation. -/
theorem act_at (t : Fin cfg0.N) : (outsAt0 m c t.val t.isLt).1
    = actTile (matCol (tileAt m c (t.val / 11)) (wBlk m c (t.val % 11))) (matCol (tileAt m c (t.val / 11)) (wBlk m c (t.val % 11 + 11)))
      (cwBlk m c (t.val % 11)) (cwBlk m c (t.val % 11 + 11)) (cbBlk m c (t.val % 11)) (cbBlk m c (t.val % 11 + 11)) := by
  by_cases h : t.val % 11 = 0
  · by_cases hi : t.val / 11 % 2 = 0
    · rw [outsAt0_A m c t h (by omega) (by omega) (by omega) (by omega)]
      dsimp only
      rw [act_A]
      rw [tile_even m c t hi, blk3, blk5, blk6, blk7, blk8, blk9]
      simp only [h]
    · rw [outsAt0_D m c t h (by omega) (by omega) (by omega) (by omega)]
      dsimp only
      rw [act_D]
      rw [tile_odd m c t (by omega), blk3, blk5, blk6, blk7, blk8, blk9]
      simp only [h]
  · obtain ⟨p0, p1⟩ := carried m c (t.val - 1) (lt_of_le_of_lt (Nat.sub_le _ _) t.isLt)
    dsimp only at p0 p1
    have e : (t.val - 1) / 11 = t.val / 11 := by omega
    have e' : (t.val - 1) % 11 + 1 = t.val % 11 := by omega
    have p2 := p1 (by omega)
    rw [e] at p0 p2
    rw [e'] at p2
    by_cases h3 : t.val % 11 ≤ 9
    · rw [outsAt0_B m c t h h3 (by omega)]
      dsimp only
      rw [act_B]
      rw [p0, p2, blk5, blk6, blk7, blk8, blk9]
    · rw [outsAt0_C m c t h h3 (by omega)]
      dsimp only
      rw [act_C]
      rw [p0, p2, blk5, blk6, blk7, blk8, blk9]

/-- A point's cast slab. -/
theorem cast_at (t : Fin cfg0.N) : (outsAt0 m c t.val t.isLt).2.1 = castSlab (iblk m c 10 t) := by
  by_cases h : t.val % 11 = 0
  · by_cases hi : t.val / 11 % 2 = 0
    · rw [outsAt0_A m c t h (by omega) (by omega) (by omega) (by omega)]
      dsimp only
      rw [cast_A]
    · rw [outsAt0_D m c t h (by omega) (by omega) (by omega) (by omega)]
      dsimp only
      rw [cast_D]
  · by_cases h3 : t.val % 11 ≤ 9
    · rw [outsAt0_B m c t h h3 (by omega)]
      dsimp only
      rw [cast_B]
    · rw [outsAt0_C m c t h h3 (by omega)]
      dsimp only
      rw [cast_C]

/-- The projected tile at a row, as the projection some rows before. -/
theorem col_back (i e d : ℕ) (he : e + d = 16) (hd : d ≤ 2) (hi : i < 8) (b : ℕ) (hb : b < 22) (r : Fin 1024) (n : Fin 512) :
    matCol (tileAt m c i) (wBlk m c b) (ValueIdx.ix2 ⟨e + r.val, by omega⟩ n)
      = upBack (resArg m c) (gainArg m c) (upArg m c) ⟨i * 1024 + r.val, by omega⟩ d ⟨b * 512 + n.val, by omega⟩ := by
  unfold matCol upBack upAt wBlk
  have hq : (⟨(b * 512 + n.val) % 11264, Nat.mod_lt _ (by decide)⟩ : Fin 11264) = ⟨b * 512 + n.val, by omega⟩ :=
    Fin.ext (Nat.mod_eq_of_lt (by omega))
  by_cases hz : e + r.val < 16 ∧ i % 2 = 0
  · rw [if_neg (by dsimp only; omega)]
    refine Finset.sum_eq_zero fun k _ => ?_
    have e0 : tileAt m c i (ValueIdx.ix2 ⟨e + r.val, by omega⟩ k) = 0 := if_pos hz
    exact (congrArg (· * _) e0).trans (zero_mul _)
  · rw [if_pos (by dsimp only; omega)]
    refine Finset.sum_congr rfl fun k _ => ?_
    refine congrArg₂ (· * ·) ?_ (congrArg (fun q => upArg m c (ValueIdx.ix2 k q)) hq)
    refine (if_neg hz).trans (congrArg (fun R => normAt (resArg m c) (gainArg m c) R k) (Fin.ext ?_))
    show (i * 1024 + (e + r.val) - 16) % 8192 = i * 1024 + r.val - d
    omega

/-- The tile's convolution at a row. -/
theorem conv_at (i : ℕ) (hi : i < 8) (b : ℕ) (hb : b < 22) (r : Fin 1024) (n : Fin 512) :
    convRow (matCol (tileAt m c i) (wBlk m c b)) (cwBlk m c b) (cbBlk m c b) r n
      = convAt (resArg m c) (gainArg m c) (upArg m c) (convArg m c) (biasArg m c) ⟨i * 1024 + r.val, by omega⟩
        ⟨b * 512 + n.val, by omega⟩ := by
  have hq : (⟨(b * 512 + n.val) % 11264, Nat.mod_lt _ (by decide)⟩ : Fin 11264) = ⟨b * 512 + n.val, by omega⟩ :=
    Fin.ext (Nat.mod_eq_of_lt (by omega))
  unfold convRow convAt
  rw [col_back m c i 14 2 rfl (by omega) hi b hb r n, col_back m c i 15 1 rfl (by omega) hi b hb r n,
    col_back m c i 16 0 rfl (by omega) hi b hb r n]
  refine congrArg₂ (· + ·) (congrArg₂ (· + ·) (congrArg₂ (· + ·) (congrArg (· * _) ?_) (congrArg (· * _) ?_)) (congrArg (· * _) ?_)) ?_
  · exact congrArg (fun q => convArg m c (ValueIdx.ix3 1 0 q)) hq
  · exact congrArg (fun q => convArg m c (ValueIdx.ix3 1 1 q)) hq
  · exact congrArg (fun q => convArg m c (ValueIdx.ix3 1 2 q)) hq
  · exact congrArg (fun q => biasArg m c (ValueIdx.ix2 1 q)) hq

/-- The activation array. -/
def actArr : Buf (Elt Ideal) ((c : Thread nD τ).loc main_v10_0) :=
  (fun y => actAt (resArg m c) (gainArg m c) (upArg m c) (convArg m c) (biasArg m c) (y 0) (y 1) : Vec Ideal S8192x5632 .bf16)

/-- The cast weights' array. -/
def castArr : Buf (Elt Ideal) ((c : Thread nD τ).loc main_v10_1) :=
  (fun y => castArg m c (ValueIdx.ix3 1 (y 0) (y 1)) : Vec Ideal S5632x2048 .bf16)

/-- A point writes its block of the activation array. -/
theorem flushed_act (t : Fin cfg0.N) :
    (dats m 0 c).flushed 11 t = ((cfg0.win 11).blk t).view.read (Elt Ideal) (actArr m c) := by
  have ht := lt_eleven t
  obtain ⟨-, -, -, -, -, ⟨a0, a1⟩, -⟩ := places' t
  have e : (dats m 0 c).flushed 11 t = (cfg0.win 11).cut (grid0.coords t) ((outsAt0 m c t.val t.isLt).1) := by
    show (cfg0.win 11).cut (grid0.coords t) ((dats m 0 c).after 11 t) = _
    rw [after0_11]
  rw [e, act_at]
  funext j
  show actTile _ _ _ _ _ _ j = actArr m c (((cfg0.win 11).blk t).view.emb j)
  have h0 : (j 0).val < 1024 := (j 0).isLt
  have h1 : (j 1).val < 512 := (j 1).isLt
  unfold actTile actArr actAt
  refine congrArg₂ gated ((conv_at m c (t.val / 11) (by omega) (t.val % 11) (by omega) (j 0) (j 1)).trans ?_)
    ((conv_at m c (t.val / 11) (by omega) (t.val % 11 + 11) (by omega) (j 0) (j 1)).trans ?_)
  · refine congrArg₂ (convAt _ _ _ _ _) (Fin.ext ?_) (Fin.ext ?_)
    · show t.val / 11 * 1024 + (j 0).val = win0_11.index t 0 * 1024 + 1 * (j 0).val; omega
    · show t.val % 11 * 512 + (j 1).val = win0_11.index t 1 * 512 + 1 * (j 1).val; omega
  · refine congrArg₂ (convAt _ _ _ _ _) (Fin.ext ?_) (Fin.ext ?_)
    · show t.val / 11 * 1024 + (j 0).val = win0_11.index t 0 * 1024 + 1 * (j 0).val; omega
    · show (t.val % 11 + 11) * 512 + (j 1).val = 5632 + (win0_11.index t 1 * 512 + 1 * (j 1).val); omega

/-- A point writes its slab of the cast weights. -/
theorem flushed_cast (t : Fin cfg0.N) :
    (dats m 0 c).flushed 12 t = ((cfg0.win 12).blk t).view.read (Elt Ideal) (castArr m c) := by
  have ht := lt_eleven t
  obtain ⟨-, -, -, -, -, -, ⟨a0, a1⟩⟩ := places' t
  have e : (dats m 0 c).flushed 12 t = (cfg0.win 12).cut (grid0.coords t) ((outsAt0 m c t.val t.isLt).2.1) := by
    show (cfg0.win 12).cut (grid0.coords t) ((dats m 0 c).after 12 t) = _
    rw [after0_12]
  rw [e, cast_at]
  funext j
  show castSlab _ j = castArr m c (((cfg0.win 12).blk t).view.emb j)
  have h0 : (j 0).val < 64 := (j 0).isLt
  unfold castSlab castArr
  refine (blk10 m c t (j 0) (j 1)).trans (congrArg₂ (fun R k => castArg m c (ValueIdx.ix3 1 R k)) (Fin.ext ?_) (Fin.ext ?_))
  · show (t.val * 64 + (j 0).val) % 5632 = win0_12.index t 0 * 64 + 1 * (j 0).val; omega
  · show (j 1).val = win0_12.index t 1 * 2048 + 1 * (j 1).val; omega

/-- Every entry of the activation array is written. -/
theorem cover_act (y : S8192x5632.Idx) :
    ∃ t : Fin cfg0.N, (cfg0.win 11).flush t = true ∧ y ∈ ((cfg0.win 11).blk t).view.set := by
  have h0 : (y 0).val < 8192 := (y 0).isLt
  have h1 : (y 1).val < 5632 := (y 1).isLt
  have ht : (y 0).val / 1024 * 11 + (y 1).val / 512 < grid0.N :=
    lt_of_lt_of_eq (by omega : (y 0).val / 1024 * 11 + (y 1).val / 512 < 88) (by decide)
  refine ⟨⟨(y 0).val / 1024 * 11 + (y 1).val / 512, ht⟩, flush0_11 _, ?_⟩
  obtain ⟨-, -, -, -, -, ⟨p0, p1⟩, -⟩ := places' ⟨(y 0).val / 1024 * 11 + (y 1).val / 512, ht⟩
  show y ∈ ((View.whole main_v10_0).slice (win0_11.rect ⟨(y 0).val / 1024 * 11 + (y 1).val / 512, ht⟩)).set
  rw [View.set_slice_whole, Rect.mem_set_unit]
  intro a
  match a with
  | ⟨0, _⟩ => show win0_11.index _ 0 * 1024 ≤ (y 0).val ∧ (y 0).val < win0_11.index _ 0 * 1024 + 1024; rw [p0]; dsimp only; omega
  | ⟨1, _⟩ => show win0_11.index _ 1 * 512 ≤ (y 1).val ∧ (y 1).val < win0_11.index _ 1 * 512 + 512; rw [p1]; dsimp only; omega

/-- Every entry of the cast weights is written. -/
theorem cover_cast (y : S5632x2048.Idx) :
    ∃ t : Fin cfg0.N, (cfg0.win 12).flush t = true ∧ y ∈ ((cfg0.win 12).blk t).view.set := by
  have h0 : (y 0).val < 5632 := (y 0).isLt
  have h1 : (y 1).val < 2048 := (y 1).isLt
  have ht : (y 0).val / 64 < grid0.N := lt_of_lt_of_eq (by omega : (y 0).val / 64 < 88) (by decide)
  refine ⟨⟨(y 0).val / 64, ht⟩, flush0_12 _, ?_⟩
  obtain ⟨-, -, -, -, -, -, ⟨p0, p1⟩⟩ := places' ⟨(y 0).val / 64, ht⟩
  show y ∈ ((View.whole main_v10_1).slice (win0_12.rect ⟨(y 0).val / 64, ht⟩)).set
  rw [View.set_slice_whole, Rect.mem_set_unit]
  intro a
  match a with
  | ⟨0, _⟩ => show win0_12.index _ 0 * 64 ≤ (y 0).val ∧ (y 0).val < win0_12.index _ 0 * 64 + 64; rw [p0]; dsimp only; omega
  | ⟨1, _⟩ => show win0_12.index _ 1 * 2048 ≤ (y 1).val ∧ (y 1).val < win0_12.index _ 1 * 2048 + 2048; rw [p1]; omega

/-- So the activation ends as stated. -/
theorem final_act : (dats m 0 c).arrAt 11 cfg0.N = actArr m c :=
  (dats m 0 c).arrAt_eq_of_cover 11 (actArr m c) (fun t _ => flushed_act m c t) cover_act

/-- So the cast weights end as stated. -/
theorem final_cast : (dats m 0 c).arrAt 12 cfg0.N = castArr m c :=
  (dats m 0 c).arrAt_eq_of_cover 12 (castArr m c) (fun t _ => flushed_cast m c t) cover_cast

end Cert.Up

end
-- ==== Proof.UpRef.lean ====
module

public import proofs.«01_k».proof.Proof.UpMath
public import proofs.«01_k».proof.Proof.Gen.Reference2Ideal.Run
public import proofs.«01_k».proof.Proof.Gen.Reference2Ideal.Read
public import Idealize.ShloMosaic.Lib.KernelVsHost

/-!
# The reference of the up-projection's call

Its activation at an entry is the mathematics' activation there.
-/

@[expose] public section

set_option maxRecDepth 16384

noncomputable section

namespace Cert.Up

open Idealize.ShloMosaic
open Cert.Reference2Ideal (S8192x2048 S2x2048 S2048x11264 S2x3x11264 S2x11264 S2x5632x2048 S4x2048x11264 S4x2048x5632)
open Cert.Reference2Ideal.Read

variable (x0 : Vec Ideal S8192x2048 .f32) (x1 : Vec Ideal S2x2048 .f32) (x2 : Vec Ideal S2048x11264 .bf16)
  (x3 : Vec Ideal S2x3x11264 .f32) (x4 : Vec Ideal S2x11264 .f32)

/-- The reference's normalised rows. -/
theorem ref_norm (R : Fin 8192) (k : Fin 2048) : val_main_v14 (F := Ideal) x0 x1 (ValueIdx.ix2 R k) = normAt x0 x1 R k := by
  rw [val_main_v14_apply, val_main_v11_apply, val_main_v10_apply, val_main_v9_apply, val_main_v8_apply, val_main_v7_apply,
    val_main_cst_1_apply, val_main_v6_apply, val_main_v5_apply, val_main_cst_0_apply, val_main_v4_apply, val_main_v3_apply,
    val_main_cst_apply, val_main_v13_apply, val_main_v12_apply, val_main_v1_apply, val_main_v0_apply]
  unfold normAt rowNorm
  simp only [Ideal.hostUnary_rsqrt_def, Ideal.hostDivf_def]
  refine congrArg₂ (· * ·) (congrArg₂ (· * ·) rfl (congrArg Ideal.rsqrt (congrArg₂ (· + ·) (congrArg₂ Ideal.div ?_ rfl) rfl))) (congrArg x1 ?_)
  · show Ideal.ofBits .f32 0x00000000#32 + _ = _
    rw [bits_zero, zero_add]
    refine Finset.sum_congr rfl fun j _ => ?_
    rw [val_main_v2_apply]
    have e : idx_main_v3 (idx_main_v4 (idx_main_v10 (ValueIdx.ix2 R k))) j = ValueIdx.ix2 R j := by
      funext a; match a with
      | ⟨0, _⟩ => rfl
      | ⟨1, _⟩ => rfl
    rw [e]
    rfl
  · funext a; apply Fin.ext
    match a with
    | ⟨0, _⟩ => rfl
    | ⟨1, _⟩ => show k.val % 2048 = k.val; omega

/-- The reference's projection. -/
theorem ref_up (b : Fin 4) (s : Fin 2048) (q : Fin 11264) :
    val_main_v17 (F := Ideal) x0 x1 x2 (ValueIdx.ix3 b s q) = upAt x0 x1 x2 ⟨b.val * 2048 + s.val, by omega⟩ q := by
  rw [val_main_v17_apply]
  unfold upAt
  refine Finset.sum_congr rfl fun k _ => ?_
  rw [val_main_v15_apply, val_main_v16_apply]
  refine congrArg₂ (· * ·) (Eq.trans (congrArg (val_main_v14 (F := Ideal) x0 x1) ?_) (ref_norm x0 x1 ⟨b.val * 2048 + s.val, by omega⟩ k))
    (congrArg x2 ?_)
  · funext a; apply Fin.ext
    match a with
    | ⟨0, _⟩ => show ((b.val * 2048 + s.val) * 2048 + k.val) / 2048 = b.val * 2048 + s.val; omega
    | ⟨1, _⟩ => show ((b.val * 2048 + s.val) * 2048 + k.val) % 2048 = k.val; omega
  · funext a; match a with
    | ⟨0, _⟩ => rfl
    | ⟨1, _⟩ => rfl

/-- The padding's value. -/
theorem pad_value (i : Cert.Reference2Ideal.S_.Idx) : val_main_call0_v0 (F := Ideal) i = 0 := by
  rw [val_main_call0_v0_apply, val_main_c_apply]
  show ((((0#32 : BitVec 32).toInt : ℝ)) : EReal) = 0
  simp

/-- The padded projection `d` rows before a row. -/
theorem ref_back (b : Fin 4) (s : Fin 2048) (q : Fin 11264) (d : ℕ) (hd : d ≤ 2) (i : Cert.Reference2Ideal.S4x2050x11264.Idx)
    (h0 : (i 0).val = b.val) (h1 : (i 1).val = s.val + 2 - d) (h2 : (i 2).val = q.val) :
    val_main_v18 (F := Ideal) x0 x1 x2 i = upBack x0 x1 x2 ⟨b.val * 2048 + s.val, by omega⟩ d q := by
  have hm : (b.val * 2048 + s.val) % 2048 = s.val := by omega
  unfold val_main_v18 upBack
  by_cases hs : d ≤ s.val
  · rw [if_pos (by rw [hm]; exact hs)]
    refine (pad_apply_of_inside _ _ _ _ _ _ _ i (ValueIdx.ix3 b ⟨s.val - d, by omega⟩ q) (fun a => ?_)).trans
      ((ref_up x0 x1 x2 b ⟨s.val - d, by omega⟩ q).trans ?_)
    · match a with
      | ⟨0, _⟩ => show (i 0).val = 0 + b.val * (0 + 1); omega
      | ⟨1, _⟩ => show (i 1).val = 2 + (s.val - d) * (0 + 1); omega
      | ⟨2, _⟩ => show (i 2).val = 0 + q.val * (0 + 1); omega
    · refine congrArg (fun R => upAt x0 x1 x2 R q) (Fin.ext ?_)
      show b.val * 2048 + (s.val - d) = b.val * 2048 + s.val - d
      omega
  · rw [if_neg (by rw [hm]; exact hs)]
    refine (pad_apply_of_not_inside _ _ _ _ _ _ _ i (⟨1, by decide⟩ : Fin 3) ?_).trans (pad_value _)
    rintro ⟨hh, -⟩
    have : 2 ≤ (i 1).val := hh
    omega

/-- The reference's convolution. -/
theorem ref_conv (b : Fin 4) (s : Fin 2048) (q : Fin 11264) :
    val_main_v45 (F := Ideal) x0 x1 x2 x3 x4 (ValueIdx.ix3 b s q) = convAt x0 x1 x2 x3 x4 ⟨b.val * 2048 + s.val, by omega⟩ q := by
  rw [val_main_v45_apply, val_main_v40_apply, val_main_v33_apply, val_main_v26_apply, val_main_v32_apply, val_main_v39_apply,
    val_main_v44_apply, val_main_v43_apply, val_main_v42_apply, val_main_v41_apply,
    val_main_v38_apply, val_main_v37_apply, val_main_v35_apply, val_main_v34_apply,
    val_main_v31_apply, val_main_v30_apply, val_main_v28_apply, val_main_v27_apply,
    val_main_v25_apply, val_main_v24_apply, val_main_v22_apply, val_main_v21_apply,
    val_main_v20_apply, val_main_v20_apply, val_main_v20_apply, val_main_v19_apply, val_main_v19_apply, val_main_v19_apply,
    val_main_v23_apply, val_main_v29_apply, val_main_v36_apply]
  unfold convAt
  refine congrArg₂ (· + ·) (congrArg₂ (· + ·) (congrArg₂ (· + ·)
    (congrArg₂ (· * ·) (congrArg x3 ?_) (ref_back x0 x1 x2 b s q 2 (by norm_num) _ rfl ?_ rfl))
    (congrArg₂ (· * ·) (congrArg x3 ?_) (ref_back x0 x1 x2 b s q 1 (by norm_num) _ rfl ?_ rfl)))
    (congrArg₂ (· * ·) (congrArg x3 ?_) (ref_back x0 x1 x2 b s q 0 (by norm_num) _ rfl ?_ rfl))) (congrArg x4 ?_)
  · funext a; apply Fin.ext
    match a with
    | ⟨0, _⟩ => rfl
    | ⟨1, _⟩ => show (0 * 11264 + q.val % 11264) / 11264 % 3 = 0; omega
    | ⟨2, _⟩ => show (0 * 11264 + q.val % 11264) % 11264 = q.val; omega
  · show s.val = s.val + 2 - 2; omega
  · funext a; apply Fin.ext
    match a with
    | ⟨0, _⟩ => rfl
    | ⟨1, _⟩ => show ((1 + 0) * 11264 + q.val % 11264) / 11264 % 3 = 1; omega
    | ⟨2, _⟩ => show ((1 + 0) * 11264 + q.val % 11264) % 11264 = q.val; omega
  · show 1 + s.val = s.val + 2 - 1; omega
  · funext a; apply Fin.ext
    match a with
    | ⟨0, _⟩ => rfl
    | ⟨1, _⟩ => show ((2 + 0) * 11264 + q.val % 11264) / 11264 % 3 = 2; omega
    | ⟨2, _⟩ => show ((2 + 0) * 11264 + q.val % 11264) % 11264 = q.val; omega
  · show 2 + s.val = s.val + 2 - 0; omega
  · funext a; apply Fin.ext
    match a with
    | ⟨0, _⟩ => rfl
    | ⟨1, _⟩ => show q.val % 11264 = q.val; omega

/-- The reference's activation. -/
theorem ref_act (R : Fin 8192) (q : Fin 5632) :
    val_main_v51 (F := Ideal) x0 x1 x2 x3 x4 (ValueIdx.ix2 R q) = actAt x0 x1 x2 x3 x4 R q := by
  have hb : R.val / 2048 < 4 := by omega
  have hR : (⟨(⟨R.val / 2048, hb⟩ : Fin 4).val * 2048 + (⟨R.val % 2048, Nat.mod_lt _ (by decide)⟩ : Fin 2048).val, by
      show R.val / 2048 * 2048 + R.val % 2048 < 8192; omega⟩ : Fin 8192) = R :=
    Fin.ext (show R.val / 2048 * 2048 + R.val % 2048 = R.val by omega)
  have e : idx_main_v50 (ValueIdx.ix2 R q) = ValueIdx.ix3 (⟨R.val / 2048, hb⟩ : Fin 4) (⟨R.val % 2048, Nat.mod_lt _ (by decide)⟩ : Fin 2048) q := by
    funext a; apply Fin.ext
    match a with
    | ⟨0, _⟩ => show (R.val * 5632 + q.val) / 11534336 = R.val / 2048; omega
    | ⟨1, _⟩ => show (R.val * 5632 + q.val) / 5632 % 2048 = R.val % 2048; omega
    | ⟨2, _⟩ => show (R.val * 5632 + q.val) % 5632 = q.val; omega
  have eg : val_main_v46 (F := Ideal) x0 x1 x2 x3 x4 (ValueIdx.ix3 (⟨R.val / 2048, hb⟩ : Fin 4) (⟨R.val % 2048, Nat.mod_lt _ (by decide)⟩ : Fin 2048) q)
      = convAt x0 x1 x2 x3 x4 R ⟨q.val, by omega⟩ := by
    rw [val_main_v46_apply]
    have i : idx_main_v46 (ValueIdx.ix3 (⟨R.val / 2048, hb⟩ : Fin 4) (⟨R.val % 2048, Nat.mod_lt _ (by decide)⟩ : Fin 2048) q)
        = ValueIdx.ix3 (⟨R.val / 2048, hb⟩ : Fin 4) (⟨R.val % 2048, Nat.mod_lt _ (by decide)⟩ : Fin 2048) (⟨q.val, by omega⟩ : Fin 11264) := by
      funext a; match a with
      | ⟨0, _⟩ => rfl
      | ⟨1, _⟩ => rfl
      | ⟨2, _⟩ => rfl
    rw [i, ref_conv, hR]
  have ev : val_main_v47 (F := Ideal) x0 x1 x2 x3 x4 (ValueIdx.ix3 (⟨R.val / 2048, hb⟩ : Fin 4) (⟨R.val % 2048, Nat.mod_lt _ (by decide)⟩ : Fin 2048) q)
      = convAt x0 x1 x2 x3 x4 R ⟨5632 + q.val, by omega⟩ := by
    rw [val_main_v47_apply]
    have i : idx_main_v47 (ValueIdx.ix3 (⟨R.val / 2048, hb⟩ : Fin 4) (⟨R.val % 2048, Nat.mod_lt _ (by decide)⟩ : Fin 2048) q)
        = ValueIdx.ix3 (⟨R.val / 2048, hb⟩ : Fin 4) (⟨R.val % 2048, Nat.mod_lt _ (by decide)⟩ : Fin 2048) (⟨5632 + q.val, by omega⟩ : Fin 11264) := by
      funext a; match a with
      | ⟨0, _⟩ => rfl
      | ⟨1, _⟩ => rfl
      | ⟨2, _⟩ => rfl
    rw [i, ref_conv, hR]
  rw [val_main_v51_apply, val_main_v50_apply, e, val_main_v49_apply, val_main_v48_apply, val_main_call1_v5_apply,
    val_main_call1_v4_apply, val_main_call1_cst_0_apply, val_main_call1_v3_apply, val_main_call1_v2_apply, val_main_call1_cst_apply,
    val_main_call1_v1_apply, val_main_call1_v0_apply, ev, eg]
  exact gated_eq _ _

/-- The reference's cast weight. -/
theorem ref_down (x5 : Vec Ideal S2x5632x2048 .f32) (r : Fin 5632) (n : Fin 2048) :
    val_main_v54 (F := Ideal) x5 (ValueIdx.ix2 r n) = x5 (ValueIdx.ix3 1 r n) := by
  rw [val_main_v54_apply, val_main_v53_apply, val_main_v52_apply]
  refine congrArg x5 ?_
  funext a; apply Fin.ext
  match a with
  | ⟨0, _⟩ => rfl
  | ⟨1, _⟩ => show (r.val * 2048 + n.val) / 2048 % 5632 = r.val; omega
  | ⟨2, _⟩ => show (r.val * 2048 + n.val) % 2048 = n.val; omega

end Cert.Up

end
-- ==== Proof.Up.lean ====
module

public import proofs.«01_k».proof.Defs
public import proofs.«01_k».proof.Proof.UpArrays
public import proofs.«01_k».proof.Proof.UpRef
public import Idealize.ShloMosaic.Lib.Claim

/-!
# The up-projection's call

The kernel and the reference leave the same activation and the same cast weights.
-/

@[expose] public section

set_option maxRecDepth 16384

noncomputable section

namespace Cert.Up

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (c : Dev nD)

/-- The kernel's run: its two result arrays, and its arguments unchanged. -/
theorem run_up (g : Dev nD → PrngReg) :
    θ_run (defs (F := Ideal)) (onTc (τ := τ) (main (F := Ideal))) ⟨m, fun _ => 0, g⟩ fun r => ∀ c : Dev nD,
      r.2.mem ((c : Thread nD τ).loc main_v10_0) = actArr m c
      ∧ r.2.mem ((c : Thread nD τ).loc main_v10_1) = castArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun r h c => ⟨((h c).1 11).trans (final_act m c), ((h c).1 12).trans (final_cast m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 10).trans (((dats m 0 c).arrAt_in 10 rfl _).trans ((A_eq m c 10).trans (V_main_arg5 m c)))⟩)
    (run_main m g)

/-- The reference's activation of the same arguments is the same array. -/
theorem act_eq : Cert.Reference2Ideal.Read.val_main_v51 (F := Ideal) (resArg m c) (gainArg m c) (upArg m c) (convArg m c) (biasArg m c)
    = actArr m c := by
  funext y
  exact (congrArg _ (ValueIdx.eq_ix2 y)).trans (ref_act _ _ _ _ _ (y 0) (y 1))

/-- The reference's cast weights of the same argument are the same array. -/
theorem cast_eq : Cert.Reference2Ideal.Read.val_main_v54 (F := Ideal) (castArg m c) = castArr m c := by
  funext y
  exact (congrArg _ (ValueIdx.eq_ix2 y)).trans (ref_down _ (y 0) (y 1))

/-- The two programs leave the same results. -/
theorem same_up : Cert.algebraic_Kernel2Ideal_Reference2Ideal (hKernel2Ideal := Cert.Kernel2Ideal.Gen.facts)
    (hReference2Ideal := Cert.Reference2Ideal.Gen.facts) := by
  intro m g m' g' _ hargs
  refine ⟨fun c => actArr m c, fun c => castArr m c, run_up m g, ?_⟩
  refine (θ_run _ _ _).mono (fun r h c => ?_) (Cert.Reference2Ideal.Value.run m' g')
  obtain ⟨r0, r1, hr⟩ := h c
  obtain ⟨e0, e1, e2, e3, e4, e5⟩ := hargs c
  refine ⟨r0.trans ?_, r1.trans ?_, hr⟩
  · refine (Cert.Reference2Ideal.Read.val_main_v51_eq m' c).trans ?_
    rw [e0, e1, e2, e3, e4]
    exact act_eq m c
  · rw [e5]
    exact (Cert.Reference2Ideal.Read.val_main_v54_eq _).trans (cast_eq m c)

/-- The reference leaves its arguments unchanged; it has no semaphores. -/
theorem reference_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread _ _).loc Cert.Reference2Ideal.main_arg0) = m ((c.tc : Thread _ _).loc Cert.Reference2Ideal.main_arg0)
        ∧ r.2.mem ((c.tc : Thread _ _).loc Cert.Reference2Ideal.main_arg1) = m ((c.tc : Thread _ _).loc Cert.Reference2Ideal.main_arg1)
        ∧ r.2.mem ((c.tc : Thread _ _).loc Cert.Reference2Ideal.main_arg2) = m ((c.tc : Thread _ _).loc Cert.Reference2Ideal.main_arg2)
        ∧ r.2.mem ((c.tc : Thread _ _).loc Cert.Reference2Ideal.main_arg3) = m ((c.tc : Thread _ _).loc Cert.Reference2Ideal.main_arg3)
        ∧ r.2.mem ((c.tc : Thread _ _).loc Cert.Reference2Ideal.main_arg4) = m ((c.tc : Thread _ _).loc Cert.Reference2Ideal.main_arg4)
        ∧ r.2.mem ((c.tc : Thread _ _).loc Cert.Reference2Ideal.main_arg5) = m ((c.tc : Thread _ _).loc Cert.Reference2Ideal.main_arg5))
        ∧ r.2.sem = fun _ => 0) :=
  (θ_run _ _ _).mono (fun r h => ⟨fun c => (h c).2.2, sem_eq_zero_of_no_sems (by decide) r.2⟩)
    (Cert.Reference2Ideal.Value.run m ρ)

end Cert.Up

end
-- ==== Proof.Down.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Claim

/-!
# The down-projection's call

A point of the grid takes 512 rows of activations, in two halves, and adds their product with the whole weight to the
residual's rows. So the result array is, entry by entry, the residual plus the sum over the 5632 hidden columns, and
that is what the reference computes.
-/

@[expose] public section

set_option maxRecDepth 16384

noncomputable section

namespace Cert.Down

open Idealize.ShloMosaic Idealize.ShloMosaic.TcCoe Idealize.SL.Sem Cert.Kernel3Ideal Cert.Kernel3Ideal.Gen
open Idealize.ShloMosaic.Pipeline (Dat)

/-- A block of the result from its blocks of activations, weight and residual. -/
def downBlock (a : Vec Ideal S512x5632 .bf16) (w : Vec Ideal S5632x2048 .bf16) (h : Vec Ideal S512x2048 .f32) :
    Vec Ideal S512x2048 .f32 :=
  fun y => h y + ∑ k : Fin 5632, a (ValueIdx.ix2 (y 0) k) * w (ValueIdx.ix2 k (y 1))

/-- The first half's payload at an entry. -/
theorem half_one (h : Vec Ideal S256x2048 .f32) (a : Vec Ideal S256x5632 .bf16) (w : Vec Ideal S5632x2048 .bf16)
    (r : Fin 256) (n : Fin 2048) :
    k0_pay1 h a w (ix2 r n) = h (ix2 r n) + ∑ k : Fin 5632, a (ix2 r k) * w (ix2 k n) := by
  pointwise [k0_pay1]

/-- The second half's payload at an entry. -/
theorem half_two (h : Vec Ideal S256x2048 .f32) (a : Vec Ideal S256x5632 .bf16) (w : Vec Ideal S5632x2048 .bf16)
    (r : Fin 256) (n : Fin 2048) :
    k0_pay2 h a w (ix2 r n) = h (ix2 r n) + ∑ k : Fin 5632, a (ix2 r k) * w (ix2 k n) := by
  pointwise [k0_pay2]

/-- The two halves make up the block. -/
theorem out_block (a : Vec Ideal S512x5632 .bf16) (w : Vec Ideal S5632x2048 .bf16) (h : Vec Ideal S512x2048 .f32) :
    out0_3 a w h = downBlock a w h := by
  funext y
  unfold out0_3
  refine View.canon_apply_of_pieces (downBlock a w h) _ (fun p hp j => ?_) y (cover0_3 _ _ y)
  simp only [List.mem_cons, List.mem_nil_iff, or_false] at hp
  rcases hp with rfl | rfl
  · dsimp only
    refine (congrArg _ (ValueIdx.eq_ix2 j)).trans ((half_two _ _ _ (j 0) (j 1)).trans ?_)
    unfold downBlock
    refine congrArg₂ (· + ·) (congrArg h ?_) (Finset.sum_congr rfl fun k _ => congrArg₂ (· * ·) (congrArg a ?_) (congrArg w ?_))
    · exact congrArg r0_3.emb (ValueIdx.eq_ix2 j).symm
    · funext x; apply Fin.ext
      match x with
      | ⟨0, _⟩ => rfl
      | ⟨1, _⟩ => show 0 + 1 * k.val = k.val; omega
    · funext x; apply Fin.ext
      match x with
      | ⟨0, _⟩ => show 0 + 1 * k.val = k.val; omega
      | ⟨1, _⟩ => rfl
  · dsimp only
    refine (congrArg _ (ValueIdx.eq_ix2 j)).trans ((half_one _ _ _ (j 0) (j 1)).trans ?_)
    unfold downBlock
    refine congrArg₂ (· + ·) (congrArg h ?_) (Finset.sum_congr rfl fun k _ => congrArg₂ (· * ·) (congrArg a ?_) (congrArg w ?_))
    · exact congrArg r0_0.emb (ValueIdx.eq_ix2 j).symm
    · funext x; apply Fin.ext
      match x with
      | ⟨0, _⟩ => rfl
      | ⟨1, _⟩ => show 0 + 1 * k.val = k.val; omega
    · funext x; apply Fin.ext
      match x with
      | ⟨0, _⟩ => show 0 + 1 * k.val = k.val; omega
      | ⟨1, _⟩ => rfl

variable (m : (ℓ : Loc nD τ sig) → Buf (Elt Ideal) ℓ) (c : Dev nD)

/-- The activations, as launched. -/
def actArg : Vec Ideal S8192x5632 .bf16 := m ((c : Thread nD τ).loc main_arg0)
/-- The weight, as launched. -/
def wArg : Vec Ideal S5632x2048 .bf16 := m ((c : Thread nD τ).loc main_arg1)
/-- The residual, as launched. -/
def resArg : Vec Ideal S8192x2048 .f32 := m ((c : Thread nD τ).loc main_arg2)

/-- The result array. -/
def downArr : Buf (Elt Ideal) ((c : Thread nD τ).loc main_v0) :=
  (fun y => resArg m c y + ∑ k : Fin 5632, actArg m c (ValueIdx.ix2 (y 0) k) * wArg m c (ValueIdx.ix2 k (y 1)) :
    Vec Ideal S8192x2048 .f32)

/-- Where the windows' blocks lie at a point. -/
theorem places : ∀ t : Fin grid0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0) := by decide +kernel

/-- A point writes its block of the result array. -/
theorem flushed_down (t : Fin cfg0.N) :
    (dats m 0 c).flushed 3 t = ((cfg0.win 3).blk t).view.read (Elt Ideal) (downArr m c) := by
  obtain ⟨⟨a0, a1⟩, ⟨b0, b1⟩, ⟨c0, c1⟩, ⟨d0, d1⟩⟩ := places t
  rw [Value.flushed3, out_block]
  funext j
  show downBlock _ _ _ j = downArr m c (((cfg0.win 3).blk t).view.emb j)
  unfold downBlock downArr
  refine congrArg₂ (· + ·) (congrArg (resArg m c) ?_) (Finset.sum_congr rfl fun k _ =>
    congrArg₂ (· * ·) (congrArg (actArg m c) ?_) (congrArg (wArg m c) ?_))
  · funext x; apply Fin.ext
    match x with
    | ⟨0, _⟩ => show win0_2.index t 0 * 512 + 1 * (j 0).val = win0_3.index t 0 * 512 + 1 * (j 0).val; omega
    | ⟨1, _⟩ => show win0_2.index t 1 * 2048 + 1 * (j 1).val = win0_3.index t 1 * 2048 + 1 * (j 1).val; omega
  · funext x; apply Fin.ext
    match x with
    | ⟨0, _⟩ => show win0_0.index t 0 * 512 + 1 * (j 0).val = win0_3.index t 0 * 512 + 1 * (j 0).val; omega
    | ⟨1, _⟩ => show win0_0.index t 1 * 5632 + 1 * k.val = k.val; omega
  · funext x; apply Fin.ext
    match x with
    | ⟨0, _⟩ => show win0_1.index t 0 * 5632 + 1 * k.val = k.val; omega
    | ⟨1, _⟩ => show win0_1.index t 1 * 2048 + 1 * (j 1).val = win0_3.index t 1 * 2048 + 1 * (j 1).val; omega

/-- The blocks tile the result array. -/
theorem cover_down (y : S8192x2048.Idx) :
    ∃ t : Fin cfg0.N, (cfg0.win 3).flush t = true ∧ y ∈ ((cfg0.win 3).blk t).view.set := by
  have h0 : (y 0).val < 8192 := (y 0).isLt
  have h1 : (y 1).val < 2048 := (y 1).isLt
  have ht : (y 0).val / 512 < grid0.N := lt_of_lt_of_eq (by omega : (y 0).val / 512 < 16) (by decide)
  refine ⟨⟨(y 0).val / 512, ht⟩, flush0_3 _, ?_⟩
  obtain ⟨-, -, -, ⟨p0, p1⟩⟩ := places ⟨(y 0).val / 512, ht⟩
  show y ∈ ((View.whole main_v0).slice (win0_3.rect ⟨(y 0).val / 512, ht⟩)).set
  rw [View.set_slice_whole, Rect.mem_set_unit]
  intro a
  match a with
  | ⟨0, _⟩ => show win0_3.index _ 0 * 512 ≤ (y 0).val ∧ (y 0).val < win0_3.index _ 0 * 512 + 512; rw [p0]; dsimp only; omega
  | ⟨1, _⟩ => show win0_3.index _ 1 * 2048 ≤ (y 1).val ∧ (y 1).val < win0_3.index _ 1 * 2048 + 2048; rw [p1]; omega

/-- So it ends as stated. -/
theorem final_down : (dats m 0 c).arrAt 3 cfg0.N = downArr m c :=
  (dats m 0 c).arrAt_eq_of_cover 3 (downArr m c) (fun t _ => flushed_down m c t) cover_down

open Cert.Reference3Ideal.Read in
/-- The reference's result of the same arguments is the same array. -/
theorem down_eq : val_main_v3 (F := Ideal) (actArg m c) (wArg m c) (resArg m c) = downArr m c := by
  funext y
  rw [val_main_v3_apply, val_main_v2_apply]
  unfold downArr
  refine congrArg₂ (· + ·) rfl (Finset.sum_congr rfl fun k _ => ?_)
  rw [val_main_v0_apply, val_main_v1_apply]
  refine congrArg₂ (· * ·) (congrArg (actArg m c) ?_) (congrArg (wArg m c) ?_)
  · funext x; match x with
    | ⟨0, _⟩ => rfl
    | ⟨1, _⟩ => rfl
  · funext x; match x with
    | ⟨0, _⟩ => rfl
    | ⟨1, _⟩ => rfl

open Idealize.ShloMosaic.StableHlo in
/-- The two programs leave the same result. -/
theorem same_down : Cert.algebraic_Kernel3Ideal_Reference3Ideal (hKernel3Ideal := Cert.Kernel3Ideal.Gen.facts)
    (hReference3Ideal := Cert.Reference3Ideal.Gen.facts) := by
  intro m g m' g' _ hargs
  refine ⟨fun c => downArr m c, (θ_run _ _ _).mono (fun r h c => ?_) (Value.run_blocks m g), ?_⟩
  · obtain ⟨r0, hr⟩ := h c
    exact ⟨r0.trans (final_down m c), hr⟩
  refine (θ_run _ _ _).mono (fun r h c => ?_) (Cert.Reference3Ideal.Value.run m' g')
  obtain ⟨r0, hr⟩ := h c
  obtain ⟨e0, e1, e2⟩ := hargs c
  refine ⟨r0.trans ?_, hr⟩
  rw [e0, e1, e2]
  exact (Cert.Reference3Ideal.Read.val_main_v3_eq _ _ _).trans (down_eq m c)

/-- The reference leaves its arguments unchanged; it has no semaphores. -/
theorem reference_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
        r.2.mem ((c.tc : Thread _ _).loc Cert.Reference3Ideal.main_arg0) = m ((c.tc : Thread _ _).loc Cert.Reference3Ideal.main_arg0)
        ∧ r.2.mem ((c.tc : Thread _ _).loc Cert.Reference3Ideal.main_arg1) = m ((c.tc : Thread _ _).loc Cert.Reference3Ideal.main_arg1)
        ∧ r.2.mem ((c.tc : Thread _ _).loc Cert.Reference3Ideal.main_arg2) = m ((c.tc : Thread _ _).loc Cert.Reference3Ideal.main_arg2))
        ∧ r.2.sem = fun _ => 0) :=
  (θ_run _ _ _).mono (fun r h => ⟨fun c => (h c).2, sem_eq_zero_of_no_sems (by decide) r.2⟩)
    (Cert.Reference3Ideal.Value.run m ρ)

end Cert.Down

end
-- ==== Proof.QkvMath.lean ====
module

public import proofs.«01_k».proof.Proof.UpMath
public import proofs.«01_k».proof.Proof.Gen.Kernel4Ideal

/-!
# The first projection's mathematics

A normalised row's projection onto the query, key and value columns, and the norm of each group of 128 query or key
columns, at an entry.
-/

@[expose] public section

set_option maxRecDepth 16384

noncomputable section

namespace Cert.Qkv

open Idealize.ShloMosaic
open Cert.Kernel4Ideal (S8192x2048 S2x2048 S2048x6144 S1x128)

/-- A projection's entry over the mean square of its group of 128 columns, times a gain; ungrouped columns are not divided. -/
def headEntry (on : Prop) [Decidable on] (p : Fin 128 → EReal) (y g : EReal) : EReal :=
  y * (if on then Ideal.rsqrt (Ideal.div (∑ k : Fin 128, p k * p k) (Ideal.ofBits .f32 0x43000000#32) + Ideal.ofBits .f32 0x358637BD#32)
    else Ideal.ofBits .f32 0x3F800000#32) * g

variable (x0 : Vec Ideal S8192x2048 .f32) (x1 : Vec Ideal S2x2048 .f32) (x2 : Vec Ideal S2048x6144 .bf16)
  (x3 x4 : Vec Ideal S1x128 .f32)

/-- A row, normalised with the first gain. -/
def normAt (R : Fin 8192) (k : Fin 2048) : EReal :=
  Cert.Up.rowNorm (fun j => x0 (ValueIdx.ix2 R j)) (fun j => x1 (ValueIdx.ix2 0 j)) k

/-- A row's projection at a column. -/
def projAt (R : Fin 8192) (q : Fin 6144) : EReal := ∑ k : Fin 2048, normAt x0 x1 R k * x2 (ValueIdx.ix2 k q)

/-- The gain of a column: the queries' times the attention's scale, the keys', and one. -/
def gainAt (q : Fin 6144) : EReal :=
  if q.val < 2048 then x3 (ValueIdx.ix2 0 ⟨q.val % 128, Nat.mod_lt _ (by decide)⟩) * Ideal.ofBits .f32 0x3DB504F3#32
  else if q.val < 4096 then x4 (ValueIdx.ix2 0 ⟨q.val % 128, Nat.mod_lt _ (by decide)⟩) else Ideal.ofBits .f32 0x3F800000#32

/-- Column `k` of the group of a column. -/
def groupCol (q : Fin 6144) (k : Fin 128) : Fin 6144 := ⟨q.val / 128 * 128 + k.val, by omega⟩

/-- A query's, key's or value's entry. -/
def qkvAt (R : Fin 8192) (q : Fin 6144) : EReal :=
  headEntry (q.val < 4096) (fun k => projAt x0 x1 x2 R (groupCol q k)) (projAt x0 x1 x2 R q) (gainAt x3 x4 q)

end Cert.Qkv

end
-- ==== Proof.QkvPay.lean ====
module

public import proofs.«01_k».proof.Proof.QkvMath
public import proofs.«01_k».proof.Proof.Gen.Kernel4Ideal.Frame
public import Idealize.ShloMosaic.Lib.Pointwise

/-!
# The first projection's payloads

What the kernel's stores hold at an entry: normalised rows, and a group of 128 columns of their projection over its norm.
-/

@[expose] public section

set_option maxRecDepth 16384

noncomputable section

namespace Cert.Qkv

open Idealize.ShloMosaic Idealize.ShloMosaic.TcCoe Idealize.SL.Sem Cert.Kernel4Ideal Cert.Kernel4Ideal.Gen

/-- A slab's projection. -/
def accum (w : Vec Ideal S1x2048x1024 .bf16) (x : Vec Ideal S256x2048 .bf16) : FVec Ideal S256x1024 .f32 :=
  matmul (φ₁ := .bf16) (φ₂ := .bf16) dot_S256x2048_S2048x1024_S256x1024_1_0_0_1_n_n none x (shapeCast S2048x1024 w shapeCasts_S1x2048x1024_S2048x1024)
    (constant S256x1024 .f32 0x00000000#32)

theorem accum_apply (w : Vec Ideal S1x2048x1024 .bf16) (x : Vec Ideal S256x2048 .bf16) (r : Fin 256) (n : Fin 1024) :
    accum w x (ix2 r n) = ∑ k : Fin 2048, x (ix2 r k) * w (ix3 0 k n) := by
  pointwise [accum]

/-- A slab's normalised rows. -/
def slabNorm (g : Vec Ideal S1x2048 .f32) (x : Vec Ideal S256x2048 .f32) : FVec Ideal S256x2048 .bf16 := k0_pay4 g x

theorem slabNorm_apply (g : Vec Ideal S1x2048 .f32) (x : Vec Ideal S256x2048 .f32) (r : Fin 256) (n : Fin 2048) :
    slabNorm g x (ix2 r n) = Cert.Up.rowNorm (fun j => x (ix2 r j)) (fun j => g (ix2 0 j)) n := by
  pointwise [slabNorm, k0_pay4, Cert.Up.rowNorm]

/-- A group of 128 columns of a slab. -/
def group (o : ℕ) (h : S256x1024.Slices ![0, o] S256x128) (a : FVec Ideal S256x1024 .f32) : FVec Ideal S256x128 .f32 :=
  extractStridedSlice S256x128 ![0, o] a h

/-- The reciprocal root of a group's mean squares, or one. -/
def groupScale (f : BitVec 1) (y : FVec Ideal S256x128 .f32) : FVec Ideal S256x1 .f32 :=
  Scalar.select f (rsqrt (addf (divf (shapeCast S256x1 (multiReduction .add [1] S256 (mulf y y) 0x00000000#32 reduces_S256x128_S256 (.inl rfl) rfl)
      shapeCasts_S256_S256x1) (broadcast S256x1 (Scalar.ofBits .f32 0x43000000#32))) (broadcast S256x1 (Scalar.ofBits .f32 0x358637BD#32))))
    (broadcast S256x1 (Scalar.ofBits .f32 0x3F800000#32))

/-- What a store holds. -/
def headUnit (f : BitVec 1) (y : FVec Ideal S256x128 .f32) (g : Vec Ideal S1x128 .f32) : FVec Ideal S1x256x128 .bf16 :=
  shapeCast S1x256x128 (truncf .bf16 (mulf (mulf y (broadcastTo S256x128 (groupScale f y) broadcasts_S256x1_S256x128))
    (broadcastTo S256x128 (shapeCast S1x128 g shapeCasts_S1x128_S1x128) broadcasts_S1x128_S256x128)) bitsLt_bf16_f32)
    shapeCasts_S256x128_S1x256x128

theorem headUnit_apply (f : BitVec 1) (y : FVec Ideal S256x128 .f32) (g : Vec Ideal S1x128 .f32) (r : Fin 256) (n : Fin 128) :
    headUnit f y g (ix3 0 r n) = headEntry (f = 1#1) (fun k => y (ix2 r k)) (y (ix2 r n)) (g (ix2 0 n)) := by
  pointwise [headUnit, groupScale, headEntry]
  rfl

theorem group_apply (o : ℕ) (ho : o + 128 ≤ 1024) (h) (a : FVec Ideal S256x1024 .f32) (r : Fin 256) (n : Fin 128) :
    group o h a (ix2 r n) = a (ix2 r ⟨o + n.val, by omega⟩) := by
  pointwise [group]

end Cert.Qkv

end
-- ==== Proof.QkvBlock.lean ====
module

public import proofs.«01_k».proof.Proof.QkvPay

/-!
# What a point of the first projection's call leaves

At a row block's first point, and at the others: the tile of normalised rows and the block of heads.
-/

@[expose] public section

set_option maxRecDepth 16384

noncomputable section

namespace Cert.Qkv

open Idealize.ShloMosaic Idealize.ShloMosaic.TcCoe Idealize.SL.Sem Cert.Kernel4Ideal Cert.Kernel4Ideal.Gen

/-- The tile of normalised rows. -/
def normTile (x : Vec Ideal S1024x2048 .f32) (g : Vec Ideal S1x2048 .f32) : Vec Ideal S1024x2048 .bf16 :=
  fun y => Cert.Up.rowNorm (fun j => x (ValueIdx.ix2 (y 0) j)) (fun j => g (ValueIdx.ix2 0 j)) (y 1)

/-- The tile's projection at an entry. -/
def matAt (T : Vec Ideal S1024x2048 .bf16) (w : Vec Ideal S1x2048x1024 .bf16) (r : Fin 1024) (n : Fin 1024) : EReal :=
  ∑ k : Fin 2048, T (ValueIdx.ix2 r k) * w (ValueIdx.ix3 0 k n)

/-- Column `n` of head `a`. -/
def headCol (a : Fin 4) (n : Fin 256) : Fin 1024 := ⟨a.val * 256 + n.val, by omega⟩

/-- Column `k` of the group of a column. -/
def tileCol (q : Fin 1024) (k : Fin 128) : Fin 1024 := ⟨q.val / 128 * 128 + k.val, by omega⟩

/-- A block of heads. -/
def headBlock (T : Vec Ideal S1024x2048 .bf16) (w : Vec Ideal S1x2048x1024 .bf16) (g : Vec Ideal S1x1024 .f32) (f : BitVec 1) :
    Vec Ideal S4x1024x256 .bf16 :=
  fun y => headEntry (f = 1#1) (fun k => matAt T w (y 1) (tileCol (headCol (y 0) (y 2)) k)) (matAt T w (y 1) (headCol (y 0) (y 2)))
    (g (ValueIdx.ix2 0 (headCol (y 0) (y 2))))

/-- Every piece of a list is a part of one array. -/
def PartsOf {s : Shape} {e : EltTy} (T : Vec Ideal s e) (L : List (View.Piece (Elt Ideal) s e)) : Prop :=
  ∀ p ∈ L, ∀ x : p.1.shape.Idx, p.2 x = T (p.1.emb x)

theorem parts_nil {s : Shape} {e : EltTy} (T : Vec Ideal s e) : PartsOf T [] := fun p hp => absurd hp (by simp)

theorem parts_cons {s : Shape} {e : EltTy} (T : Vec Ideal s e) (r : Rect s) (w : r.shape.Idx → Elt Ideal e)
    (L : List (View.Piece (Elt Ideal) s e)) (h : ∀ x, w x = T (r.emb x)) (hL : PartsOf T L) : PartsOf T (⟨r, w⟩ :: L) := by
  intro p hp x
  rcases List.mem_cons.mp hp with rfl | hp
  · exact h x
  · exact hL p hp x

/-- A load of 256 of the block's rows. -/
theorem load_slab (o : ℕ) (m : Memref sig .tc .vmem S1024x2048 .f32) (hm : m.IsWhole) (x : Vec Ideal S1024x2048 .f32)
    (inb : ∀ a, ![o, 0] a + S256x2048.size a ≤ S1024x2048.size a)
    (inb' : ∀ a, ![0, 0] a + S256x2048.size a ≤ S256x2048.size a)
    (h0 : ∀ a, (Rect.unit (s := S1024x2048) ![o, 0] S256x2048.size inb).stride a = 1) :
    View.readAt (Elt Ideal) m.view ((Rect.unit (s := S1024x2048) ![o, 0] S256x2048.size inb).withinL
      (Rect.unit (s := S256x2048) ![0, 0] S256x2048.size inb').toLoadRect h0) (hm.unread x)
      = fun j : S256x2048.Idx => x ((Rect.unit (s := S1024x2048) ![o, 0] S256x2048.size inb).emb j) := by
  funext j
  rw [View.readAt_apply, hm.read_unread]
  refine congrArg x ?_
  funext a; apply Fin.ext
  match a with
  | ⟨0, _⟩ => show o + 0 + 1 * (j (0 : Fin 2)).val = o + 1 * (j (0 : Fin 2)).val; omega
  | ⟨1, _⟩ => show 0 + 0 + 1 * (j (1 : Fin 2)).val = 0 + 1 * (j (1 : Fin 2)).val; omega

/-- A whole load of a window's block. -/
theorem load_whole {s : Shape} {e : EltTy} (m : Memref sig .tc .vmem s e) (hm : m.IsWhole) (x : Vec Ideal s e)
    {off : Fin s.rank → ℕ} (h : off = fun _ => 0) (inb : ∀ a, off a + s.size a ≤ s.size a) :
    View.readAt (Elt Ideal) m.view (Rect.unit off s.size inb).toLoadRect (hm.unread x) = x := by
  rw [View.readAt_eq_ld, hm.read_unread]
  exact View.ld_unit_zero h inb x

/-- The flag of a point, read from the table. -/
theorem load_flag (c : Dev nD) (xt0 : TbBuf0 (F := Ideal) c tbM0_0) (a : Fin 6) (off : Fin 1 → ℕ) (ho : off 0 = a.val)
    (inb : ∀ a, off a + ![1] a ≤ S6.size a) (hp) :
    View.readAt (Elt Ideal) tbM0_0.view (Rect.unit (s := S6) off ![1] inb).toLoadRect xt0 (Shape.Idx.first hp)
      = (show Vec Ideal S6 .i32 from xt0) (ValueIdx.ix1 a) := by
  rw [View.readAt_apply]
  show (show Vec Ideal S6 .i32 from xt0) _ = _
  refine congrArg (show Vec Ideal S6 .i32 from xt0) ?_
  funext x; apply Fin.ext
  match x with
  | ⟨0, _⟩ => show off 0 + 1 * 0 = a.val; omega

/-- A store's part of the block of heads. -/
theorem unit_part (T : Vec Ideal S1024x2048 .bf16) (w : Vec Ideal S1x2048x1024 .bf16) (g : Vec Ideal S1x1024 .f32) (f : BitVec 1)
    {ct r0 l o : ℕ} {X : Vec Ideal S256x2048 .bf16} (m : Memref sig .tc .vmem S1x1024 .f32) (hm : m.IsWhole)
    (hX : ∀ (r : Fin 256) (h : r0 + r.val < 1024) (k : Fin 2048), X (ix2 r k) = T (ix2 ⟨r0 + r.val, h⟩ k))
    (ho : o = ct * 256 + l) (hl : l % 128 = 0)
    {inb : ∀ a, ![ct, r0, l] a + ![1, 256, 128] a ≤ S4x1024x256.size a} {inb' : ∀ a, ![0, o] a + ![1, 128] a ≤ S1x1024.size a}
    {h : S256x1024.Slices ![0, o] S256x128} (x : (Rect.unit (s := S4x1024x256) ![ct, r0, l] ![1, 256, 128] inb).shape.Idx) :
    headUnit f (group o h (accum w X)) (View.readAt (Elt Ideal) m.view (Rect.unit (s := S1x1024) ![0, o] ![1, 128] inb').toLoadRect (hm.unread g)) x
      = headBlock T w g f ((Rect.unit (s := S4x1024x256) ![ct, r0, l] ![1, 256, 128] inb).emb x) := by
  have b0 : ct + 1 ≤ 4 := inb 0
  have b1 : r0 + 256 ≤ 1024 := inb 1
  have b2 : l + 128 ≤ 256 := inb 2
  obtain ⟨r, n, hx⟩ : ∃ (r : Fin 256) (n : Fin 128), (show S1x256x128.Idx from x) = ix3 0 r n := by
    refine ⟨x (1 : Fin 3), x (2 : Fin 3), (ValueIdx.eq_ix3 (show S1x256x128.Idx from x)).trans ?_⟩
    refine congrArg (fun z => ValueIdx.ix3 z _ _) (Fin.ext ?_)
    have : ((show S1x256x128.Idx from x) 0).val < 1 := ((show S1x256x128.Idx from x) 0).isLt
    show ((show S1x256x128.Idx from x) 0).val = 0
    omega
  have hrb : r0 + r.val < 1024 := by omega
  have hr1 : ((Rect.unit (s := S4x1024x256) ![ct, r0, l] ![1, 256, 128] inb).emb x 1 : Fin 1024) = ⟨r0 + r.val, hrb⟩ := by
    apply Fin.ext
    have : ((show S1x256x128.Idx from x) 1).val = r.val := by rw [hx]; rfl
    show r0 + 1 * ((show S1x256x128.Idx from x) 1).val = r0 + r.val
    omega
  have hc : headCol ((Rect.unit (s := S4x1024x256) ![ct, r0, l] ![1, 256, 128] inb).emb x 0) ((Rect.unit (s := S4x1024x256) ![ct, r0, l] ![1, 256, 128] inb).emb x 2)
      = ⟨o + n.val, by omega⟩ := by
    apply Fin.ext
    have h0 : ((show S1x256x128.Idx from x) 0).val = 0 := by rw [hx]; rfl
    have h2 : ((show S1x256x128.Idx from x) 2).val = n.val := by rw [hx]; rfl
    show (ct + 1 * ((show S1x256x128.Idx from x) 0).val) * 256 + (l + 1 * ((show S1x256x128.Idx from x) 2).val) = o + n.val
    omega
  have hk : ∀ k : Fin 128, tileCol ⟨o + n.val, by omega⟩ k = ⟨o + k.val, by omega⟩ := by
    intro k
    apply Fin.ext
    show (o + n.val) / 128 * 128 + k.val = o + k.val
    omega
  have hy : ∀ k : Fin 128, group o h (accum w X) (ix2 r k) = matAt T w ⟨r0 + r.val, by omega⟩ ⟨o + k.val, by omega⟩ := by
    intro k
    rw [group_apply o (by omega), accum_apply]
    refine Finset.sum_congr rfl fun j _ => congrArg₂ (· * ·) (hX r (by omega) j) rfl
  unfold headBlock
  rw [hr1, hc]
  refine (congrArg (headUnit f (group o h (accum w X)) _) hx).trans ((headUnit_apply _ _ _ r n).trans ?_)
  simp only [hk, hy]
  refine congrArg _ ?_
  rw [View.readAt_apply, hm.read_unread]
  refine congrArg g ?_
  funext a; apply Fin.ext
  match a with
  | ⟨0, _⟩ => rfl
  | ⟨1, _⟩ => show o + 1 * n.val = o + n.val; omega

variable (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1x2048x1024 .bf16) (harg5 : arg5.IsWhole) (arg6 : Memref sig .tc .vmem S1x1024 .f32) (harg6 : arg6.IsWhole) (arg7 : Memref sig .tc .vmem S4x1024x256 .bf16) (harg7 : arg7.IsWhole) (arg8 : Memref sig .tc .vmem S1024x2048 .bf16) (harg8 : arg8.IsWhole) (arg9 : Memref sig .tc .vmem S8x256x128 .f32) (harg9 : arg9.IsWhole)
    (x0 : Vec Ideal S1024x2048 .f32) (x1 : Vec Ideal S1x2048 .f32) (x2 : Vec Ideal S1x2048x1024 .bf16) (x3 : Vec Ideal S1x1024 .f32) (xt0 : TbBuf0 (F := Ideal) c tbM0_0) (xs0 : Vec Ideal S1024x2048 .bf16)

/-- The flag's bit at a point. -/
def flagBit : BitVec 1 := Scalar.cmpi .ne ((show Vec Ideal S6 .i32 from xt0) (ValueIdx.ix1 (i 1))) 0#32

theorem flag_off : k0_off1 i 0 = (i 1).val := by
  have h : (i 1).val < 6 := (i 1).isLt
  show (BitVec.ofNat 32 (i 1).val).toNat = (i 1).val
  rw [BitVec.toNat_ofNat]
  omega

theorem flagBit_eq (hp) : flagBit c i xt0 = Scalar.cmpi .ne (View.readAt (Elt Ideal) tbM0_0.view
    (Rect.unit (s := S6) (k0_off1 i) ![1] (k0_off1_inb i)).toLoadRect xt0 (Shape.Idx.first hp)) 0#32 := by
  rw [load_flag c xt0 (i 1) _ (flag_off i)]
  rfl

theorem heads_B (hc0 : ¬cond0_0 i) (hc1 : cond0_1 i) :
    out0_B_4 c i arg3 harg3 arg4 harg4 arg5 harg5 arg6 harg6 arg7 harg7 arg8 harg8 arg9 harg9 hc0 hc1 x0 x1 x2 x3 xt0 xs0 = headBlock xs0 x2 x3 (flagBit c i xt0) := by
  unfold out0_B_4
  rw [View.read_writes_eq_canon _ _ _ (cover0_B_4 c i arg3 harg3 arg4 harg4 arg5 harg5 arg6 harg6 arg7 harg7 arg8 harg8 arg9 harg9 hc0 hc1 x0 x1 x2 x3 xt0 xs0)]
  funext y
  refine View.canon_apply_of_pieces (headBlock xs0 x2 x3 (flagBit c i xt0)) _ ?_ y (cover0_B_4 c i arg3 harg3 arg4 harg4 arg5 harg5 arg6 harg6 arg7 harg7 arg8 harg8 arg9 harg9 hc0 hc1 x0 x1 x2 x3 xt0 xs0 y)
  show PartsOf _ _
  unfold kernelRun0_B
  dsimp only
  sl_unfold_words
  have hX : ∀ (o : ℕ) (inb : ∀ a, ![o, 0] a + S256x2048.size a ≤ S1024x2048.size a) (r : Fin 256) (h : o + r.val < 1024) (k : Fin 2048),
      View.readAt (Elt Ideal) arg8.view (Rect.unit (s := S1024x2048) ![o, 0] S256x2048.size inb).toLoadRect (harg8.unread xs0) (ix2 r k)
        = xs0 (ix2 ⟨o + r.val, h⟩ k) := by
    intro o inb r h k
    rw [View.readAt_apply, harg8.read_unread]
    refine congrArg xs0 ?_
    funext a; apply Fin.ext
    match a with
    | ⟨0, _⟩ => show o + 1 * r.val = o + r.val; omega
    | ⟨1, _⟩ => show 0 + 1 * k.val = k.val; omega
  rw [load_whole arg5 harg5 x2 (by decide), flagBit_eq c i xt0 (show 0 < 1 by decide)]
  repeat' (first
    | exact parts_nil _
    | refine parts_cons _ _ _ _ (unit_part xs0 x2 x3 _ arg6 harg6 (hX _ _) rfl rfl) ?_)

/-- A slab's part of the tile of normalised rows. -/
theorem norm_part {o : ℕ} {inb inb' : ∀ a, ![o, 0] a + S256x2048.size a ≤ S1024x2048.size a}
    (j : (Rect.unit (s := S1024x2048) ![o, 0] S256x2048.size inb).shape.Idx) :
    slabNorm x1 (fun j : S256x2048.Idx => x0 ((Rect.unit (s := S1024x2048) ![o, 0] S256x2048.size inb').emb j)) j
      = normTile x0 x1 ((Rect.unit (s := S1024x2048) ![o, 0] S256x2048.size inb).emb j) := by
  obtain ⟨r, k, hj⟩ : ∃ (r : Fin 256) (k : Fin 2048), (show S256x2048.Idx from j) = ix2 r k :=
    ⟨j (0 : Fin 2), j (1 : Fin 2), ValueIdx.eq_ix2 (show S256x2048.Idx from j)⟩
  refine (congrArg (slabNorm x1 _) hj).trans ((slabNorm_apply _ _ r k).trans ?_)
  unfold normTile
  have h1 : ((Rect.unit (s := S1024x2048) ![o, 0] S256x2048.size inb).emb j 1 : Fin 2048) = k := by
    apply Fin.ext
    have : ((show S256x2048.Idx from j) 1).val = k.val := by rw [hj]; rfl
    show 0 + 1 * ((show S256x2048.Idx from j) 1).val = k.val
    omega
  rw [h1]
  refine congrArg (fun f => Cert.Up.rowNorm f _ k) ?_
  funext n
  refine congrArg x0 ?_
  funext a; apply Fin.ext
  have h0 : ((show S256x2048.Idx from j) 0).val = r.val := by rw [hj]; rfl
  match a with
  | ⟨0, _⟩ => show o + 1 * r.val = o + 1 * ((show S256x2048.Idx from j) 0).val; rw [h0]
  | ⟨1, _⟩ => show 0 + 1 * n.val = n.val; omega

/-- Rows of the tile, read back after the stores of its slabs. -/
theorem rows_read (v : View sig .tc .vmem S1024x2048 .bf16) (T : Vec Ideal S1024x2048 .bf16) {o : ℕ}
    {inb inb' : ∀ a, ![o, 0] a + S256x2048.size a ≤ S1024x2048.size a}
    {w : (Rect.unit (s := S1024x2048) ![o, 0] S256x2048.size inb).shape.Idx → Elt Ideal .bf16}
    {L : List (View.Piece (Elt Ideal) S1024x2048 .bf16)}
    (hL : PartsOf T (⟨Rect.unit (s := S1024x2048) ![o, 0] S256x2048.size inb, w⟩ :: L))
    (r : Fin 256) (h : o + r.val < 1024) (k : Fin 2048) :
    v.readCov (⟨Rect.unit (s := S1024x2048) ![o, 0] S256x2048.size inb, w⟩ :: L)
      (Rect.unit (s := S1024x2048) ![o, 0] S256x2048.size inb').toLoadRect (ix2 r k) = T (ix2 ⟨o + r.val, h⟩ k) := by
  have hc : ∀ j : (Rect.unit (s := S1024x2048) ![o, 0] S256x2048.size inb').toLoadRect.shape.Idx,
      ∃ p ∈ (⟨Rect.unit (s := S1024x2048) ![o, 0] S256x2048.size inb, w⟩ :: L : List (View.Piece (Elt Ideal) S1024x2048 .bf16)),
        (Rect.unit (s := S1024x2048) ![o, 0] S256x2048.size inb').toLoadRect.idx j ∈ p.1.set :=
    fun j => ⟨_, List.mem_cons_self, by
      show (Rect.unit (s := S1024x2048) ![o, 0] S256x2048.size inb).emb j ∈ _
      rw [← Rect.map_emb_univ]; exact Finset.mem_map_of_mem _ (Finset.mem_univ j)⟩
  rw [View.readCov_eq_canon v _ _ hc]
  refine (View.canon_apply_of_pieces T _ hL _ (hc (ix2 r k))).trans ?_
  refine congrArg T ?_
  funext a; apply Fin.ext
  match a with
  | ⟨0, _⟩ => show o + 1 * r.val = o + r.val; omega
  | ⟨1, _⟩ => show 0 + 1 * k.val = k.val; omega

theorem tile_A (hc0 : cond0_0 i) (hc1 : ¬cond0_1 i) :
    sout0_A_0 c i arg3 harg3 arg4 harg4 arg5 harg5 arg6 harg6 arg7 harg7 arg8 harg8 arg9 harg9 hc0 hc1 x0 x1 x2 x3 xt0 = normTile x0 x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 xt0)]
  funext y
  refine View.canon_apply_of_pieces (normTile x0 x1) _ ?_ y (scover0_A_0 c i arg3 harg3 arg4 harg4 arg5 harg5 arg6 harg6 arg7 harg7 arg8 harg8 arg9 harg9 hc0 hc1 x0 x1 x2 x3 xt0 y)
  show PartsOf _ _
  unfold kernelRun0_A
  dsimp only
  sl_unfold_words
  rw [load_slab 0 arg3 harg3 x0, load_slab 256 arg3 harg3 x0, load_slab 512 arg3 harg3 x0, load_slab 768 arg3 harg3 x0, load_whole arg4 harg4 x1 (by decide)]
  repeat' (first
    | exact parts_nil _
    | refine parts_cons _ _ _ _ (norm_part x0 x1) ?_)

theorem heads_A (hc0 : cond0_0 i) (hc1 : ¬cond0_1 i) :
    out0_A_4 c i arg3 harg3 arg4 harg4 arg5 harg5 arg6 harg6 arg7 harg7 arg8 harg8 arg9 harg9 hc0 hc1 x0 x1 x2 x3 xt0 = headBlock (normTile x0 x1) x2 x3 (flagBit c i xt0) := by
  unfold out0_A_4
  rw [View.read_writes_eq_canon _ _ _ (cover0_A_4 c i arg3 harg3 arg4 harg4 arg5 harg5 arg6 harg6 arg7 harg7 arg8 harg8 arg9 harg9 hc0 hc1 x0 x1 x2 x3 xt0)]
  funext y
  refine View.canon_apply_of_pieces (headBlock (normTile x0 x1) x2 x3 (flagBit c i xt0)) _ ?_ y (cover0_A_4 c i arg3 harg3 arg4 harg4 arg5 harg5 arg6 harg6 arg7 harg7 arg8 harg8 arg9 harg9 hc0 hc1 x0 x1 x2 x3 xt0 y)
  show PartsOf _ _
  unfold kernelRun0_A
  dsimp only
  sl_unfold_words
  rw [load_slab 0 arg3 harg3 x0, load_slab 256 arg3 harg3 x0, load_slab 512 arg3 harg3 x0, load_slab 768 arg3 harg3 x0, load_whole arg4 harg4 x1 (by decide),
    load_whole arg5 harg5 x2 (by decide), flagBit_eq c i xt0 (show 0 < 1 by decide)]
  repeat' (first
    | exact parts_nil _
    | refine parts_cons _ _ _ _ (norm_part x0 x1) ?_
    | refine parts_cons _ _ _ _ (unit_part (normTile x0 x1) x2 x3 _ arg6 harg6 (rows_read _ _ ?_) rfl rfl) ?_)

end Cert.Qkv

end
-- ==== Proof.QkvHost.lean ====
module

public import proofs.«01_k».proof.Proof.QkvBlock

/-!
# What the first projection's windows hold

The host operations before the call cast nothing: they pick the first gain, repeat the head gains along the columns and leave
the weight's columns as they are.
-/

@[expose] public section

set_option maxRecDepth 16384

noncomputable section

namespace Cert.Qkv

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ) (hO : Ok m) (c : Dev nD)

/-- The residual rows, as launched. -/
def resArg : Vec Ideal S8192x2048 .f32 := m ((c : Thread nD τ).loc main_arg0)
/-- The gains, as launched. -/
def gainArg : Vec Ideal S2x2048 .f32 := m ((c : Thread nD τ).loc main_arg1)
/-- The projection's weight, as launched. -/
def wArg : Vec Ideal S2048x6144 .bf16 := m ((c : Thread nD τ).loc main_arg2)
/-- The queries' gain, as launched. -/
def qArg : Vec Ideal S1x128 .f32 := m ((c : Thread nD τ).loc main_arg3)
/-- The keys' gain, as launched. -/
def kArg : Vec Ideal S1x128 .f32 := m ((c : Thread nD τ).loc main_arg4)

/-- The residual's window array. -/
def resV : Vec Ideal S8192x2048 .f32 := V m c main_arg0
/-- The gain's window array. -/
def gainV : Vec Ideal S1x2048 .f32 := V m c main_v15
/-- The weight's window array. -/
def wV : Vec Ideal S1x2048x6144 .bf16 := V m c main_v2
/-- The column gains' window array. -/
def colV : Vec Ideal S1x6144 .f32 := V m c main_v16

theorem resV_eq : resV m c = resArg m c := V_main_arg0 m c

theorem gainV_apply (k : Fin 2048) : gainV m c (ix2 0 k) = gainArg m c (ix2 0 k) := by
  have e : gainV m c = shapeCast S1x2048 (shapeCast S2048 (extractStridedSlice S1x2048 ![0, 0] (gainArg m c)
      slices_S2x2048_S1x2048_0_0) shapeCasts_S1x2048_S2048) shapeCasts_S2048_S1x2048 := by
    unfold gainV
    show StableHlo.after hostOps0 (fun b => m (c, b)) main_v15 = _
    simp only [hostOps0]
    after_results_simp <;> rfl
  rw [e]
  pointwise

theorem wV_apply (k : Fin 2048) (q : Fin 6144) : wV m c (ix3 0 k q) = wArg m c (ix2 k q) := by
  have e : wV m c = broadcastInDim S1x2048x6144 ![1, 2] bcast_S2048x6144_S1x2048x6144_1_2 (wArg m c) := by
    unfold wV
    show StableHlo.after hostOps0 (fun b => m (c, b)) main_v2 = _
    simp only [hostOps0]
    after_results_simp <;> rfl
  rw [e]
  pointwise

/-- A gain, repeated for every group of 128 columns. -/
def tiled (x : FVec Ideal S128 .f32) : FVec Ideal S2048 .f32 :=
  shapeCast S2048 (broadcastInDim S16x128 ![0, 1] bcast_S1x128_S16x128_0_1 (shapeCast S1x128 x shapeCasts_S128_S1x128)) shapeCasts_S16x128_S2048

theorem tiled_apply (x : FVec Ideal S128 .f32) (n : Fin 2048) :
    tiled x (ix1 n) = x (ix1 ⟨n.val % 128, Nat.mod_lt _ (by decide)⟩) := by
  pointwise [tiled]

/-- The queries' gain times the attention's scale. -/
def scaled (x : Vec Ideal S1x128 .f32) : FVec Ideal S128 .f32 :=
  mulf (shapeCast S128 x shapeCasts_S1x128_S128) (broadcastInDim S128 ![] bcast_S_S128 (constant (F := Ideal) S_ .f32 0x3DB504F3#32))

theorem scaled_apply (x : Vec Ideal S1x128 .f32) (n : Fin 128) :
    scaled x (ix1 n) = x (ix2 0 n) * Ideal.ofBits .f32 0x3DB504F3#32 := by
  pointwise [scaled]

theorem flat_apply (x : Vec Ideal S1x128 .f32) (n : Fin 128) :
    (shapeCast S128 x shapeCasts_S1x128_S128 : FVec Ideal S128 .f32) (ix1 n) = x (ix2 0 n) := by
  pointwise

/-- The values' gain. -/
def ones : FVec Ideal S2048 .f32 := broadcastInDim S2048 ![] bcast_S_S2048 (constant (F := Ideal) S_ .f32 0x3F800000#32)

theorem ones_apply (n : Fin 2048) : ones (ix1 n) = Ideal.ofBits .f32 0x3F800000#32 := by
  pointwise [ones]

/-- The column gains. -/
def colGain (a b d : FVec Ideal S2048 .f32) : FVec Ideal S6144 .f32 :=
  concatenate S6144 0 [⟨S2048, a⟩, ⟨S2048, b⟩, ⟨S2048, d⟩] concatenates_S2048_S2048_S2048_S6144_d0

theorem colGain_apply (a b d : FVec Ideal S2048 .f32) (q : Fin 6144) (n : Fin 2048) :
    (q.val = n.val → colGain a b d (ix1 q) = a (ix1 n)) ∧ (q.val = 2048 + n.val → colGain a b d (ix1 q) = b (ix1 n))
      ∧ (q.val = 4096 + n.val → colGain a b d (ix1 q) = d (ix1 n)) := by
  unfold colGain
  refine ⟨fun h => ?_, fun h => ?_, fun h => ?_⟩
  · exact concatenate_apply_piece (0 : Fin S6144.rank) [⟨S2048, a⟩, ⟨S2048, b⟩, ⟨S2048, d⟩] _ _ 0 (show 0 < 3 by decide) S2048 a rfl rfl 0 rfl
      (ValueIdx.ix1 n : S2048.Idx) (fun z hz => absurd (Subsingleton.elim (α := Fin 1) _ _) hz) (by show 0 + n.val = q.val; omega)
  · exact concatenate_apply_piece (0 : Fin S6144.rank) [⟨S2048, a⟩, ⟨S2048, b⟩, ⟨S2048, d⟩] _ _ 1 (show 1 < 3 by decide) S2048 b rfl rfl 2048 rfl
      (ValueIdx.ix1 n : S2048.Idx) (fun z hz => absurd (Subsingleton.elim (α := Fin 1) _ _) hz) (by show 2048 + n.val = q.val; omega)
  · exact concatenate_apply_piece (0 : Fin S6144.rank) [⟨S2048, a⟩, ⟨S2048, b⟩, ⟨S2048, d⟩] _ _ 2 (show 2 < 3 by decide) S2048 d rfl rfl 4096 rfl
      (ValueIdx.ix1 n : S2048.Idx) (fun z hz => absurd (Subsingleton.elim (α := Fin 1) _ _) hz) (by show 4096 + n.val = q.val; omega)

theorem colV_apply (q : Fin 6144) : colV m c (ix2 0 q) = gainAt (qArg m c) (kArg m c) q := by
  have e : colV m c = shapeCast S1x6144 (colGain (tiled (scaled (qArg m c))) (tiled (shapeCast S128 (kArg m c) shapeCasts_S1x128_S128)) ones)
      shapeCasts_S6144_S1x6144 := by
    unfold colV
    show StableHlo.after hostOps0 (fun b => m (c, b)) main_v16 = _
    simp only [hostOps0]
    after_results_simp <;> rfl
  have e' : ∀ x : FVec Ideal S6144 .f32, (shapeCast S1x6144 x shapeCasts_S6144_S1x6144 : FVec Ideal S1x6144 .f32) (ix2 0 q) = x (ix1 q) := by
    intro x
    pointwise
  rw [e, e']
  unfold gainAt
  by_cases h : q.val < 2048
  · rw [if_pos h, (colGain_apply _ _ _ q ⟨q.val, h⟩).1 rfl, tiled_apply, scaled_apply]
    rfl
  by_cases h' : q.val < 4096
  · rw [if_neg h, if_pos h', (colGain_apply _ _ _ q ⟨q.val - 2048, by omega⟩).2.1 (by dsimp only; omega), tiled_apply, flat_apply]
    refine congrArg (fun n => kArg m c (ValueIdx.ix2 0 n)) (Fin.ext ?_)
    show (q.val - 2048) % 128 = q.val % 128
    omega
  · rw [if_neg h, if_neg h', (colGain_apply _ _ _ q ⟨q.val - 4096, by omega⟩).2.2 (by dsimp only; omega), ones_apply]

/-- The flags the call is handed. -/
theorem flags_eq : (show Vec Ideal S6 .i32 from tbl m 0) = fun i => lit0 (S6.rowMajor i) := by
  show StableHlo.after hostOps0 (fun b => m ((0 : Dev nD), b)) main_c = _
  simp only [hostOps0]
  after_results_simp <;> rfl

theorem flags_lit : ∀ j : Fin 6, (Scalar.cmpi .ne (lit0 (S6.rowMajor (ValueIdx.ix1 j))) 0#32 = 1#1) ↔ j.val < 4 := by decide +kernel

/-- Where the windows' blocks lie at a point. -/
theorem places : ∀ t : Fin grid0.N,
    (cc0_transform_0 (grid0.coords t) 0 = t.val / 6 ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0 ∧ cc0_transform_2 (grid0.coords t) 2 = t.val % 6)
    ∧ (cc0_transform_3 (grid0.coords t) 0 = 0 ∧ cc0_transform_3 (grid0.coords t) 1 = t.val % 6)
    ∧ (cc0_transform_4 (grid0.coords t) 0 = t.val % 6 ∧ cc0_transform_4 (grid0.coords t) 1 = t.val / 6 ∧ cc0_transform_4 (grid0.coords t) 2 = 0)
    ∧ (grid0.coords t 1).val = t.val % 6 := by decide +kernel

theorem lt_points (t : Fin (cfgM m hO).N) : t.val < 48 := lt_of_lt_of_eq t.isLt N_0

theorem flag_at (t : Fin (cfgM m hO).N) : (flagBit c (grid0.coords t) (tbl m 0) = 1#1) ↔ t.val % 6 < 4 := by
  obtain ⟨-, -, -, -, -, h⟩ := places t
  unfold flagBit
  rw [flags_eq]
  refine (flags_lit (grid0.coords t 1)).trans ?_
  rw [h]

/-- A block of the weight's columns. -/
def wBlk (b : ℕ) : Vec Ideal S1x2048x1024 .bf16 :=
  fun y => wArg m c (ValueIdx.ix2 (y 1) ⟨(b * 1024 + (y 2).val) % 6144, Nat.mod_lt _ (by decide)⟩)

/-- A block of the column gains. -/
def gBlk (b : ℕ) : Vec Ideal S1x1024 .f32 :=
  fun y => gainAt (qArg m c) (kArg m c) ⟨(b * 1024 + (y 1).val) % 6144, Nat.mod_lt _ (by decide)⟩

/-- A tile of normalised rows. -/
def tileAt (i : ℕ) : Vec Ideal S1024x2048 .bf16 :=
  fun y => normAt (resArg m c) (gainArg m c) ⟨(i * 1024 + (y 0).val) % 8192, Nat.mod_lt _ (by decide)⟩ (y 1)

theorem tile_blk (t : Fin (cfgM m hO).N) :
    normTile (iblk m hO c 0 t : Vec Ideal S1024x2048 .f32) (iblk m hO c 1 t : Vec Ideal S1x2048 .f32) = tileAt m c (t.val / 6) := by
  have ht := lt_points m hO t
  obtain ⟨⟨a0, a1⟩, ⟨b0, b1⟩, -⟩ := places t
  funext y
  unfold normTile tileAt normAt
  refine congrArg₂ (fun f g => Cert.Up.rowNorm f g (y 1)) ?_ ?_
  · funext j
    show resV m c ((((cfgM m hO).win 0).blk t).view.emb (ValueIdx.ix2 (y 0) j)) = _
    rw [resV_eq]
    refine congrArg (resArg m c) ?_
    have h0 : (y 0).val < 1024 := (y 0).isLt
    funext x; apply Fin.ext
    match x with
    | ⟨0, _⟩ => show cc0_transform_0 (grid0.coords t) 0 * 1024 + 1 * (y 0).val = (t.val / 6 * 1024 + (y 0).val) % 8192; omega
    | ⟨1, _⟩ => show cc0_transform_0 (grid0.coords t) 1 * 2048 + 1 * j.val = j.val; omega
  · funext j
    show gainV m c ((((cfgM m hO).win 1).blk t).view.emb (ValueIdx.ix2 0 j)) = _
    refine (congrArg (gainV m c) ?_).trans (gainV_apply m c j)
    funext x; apply Fin.ext
    match x with
    | ⟨0, _⟩ => show cc0_transform_1 (grid0.coords t) 0 * 1 + 1 * 0 = 0; omega
    | ⟨1, _⟩ => show cc0_transform_1 (grid0.coords t) 1 * 2048 + 1 * j.val = j.val; omega

theorem blk2 (t : Fin (cfgM m hO).N) : (iblk m hO c 2 t : Vec Ideal S1x2048x1024 .bf16) = wBlk m c (t.val % 6) := by
  obtain ⟨-, -, ⟨a0, a1, a2⟩, -⟩ := places t
  refine funext fun (y : S1x2048x1024.Idx) => ?_
  have h0 : (y 0).val < 1 := (y 0).isLt
  have h2 : (y 2).val < 1024 := (y 2).isLt
  show wV m c ((((cfgM m hO).win 2).blk t).view.emb y) = _
  refine (congrArg (wV m c) ?_).trans (wV_apply m c (y 1) ⟨(t.val % 6 * 1024 + (y 2).val) % 6144, Nat.mod_lt _ (by decide)⟩)
  funext x; apply Fin.ext
  match x with
  | ⟨0, _⟩ => show cc0_transform_2 (grid0.coords t) 0 * 1 + 1 * (y 0).val = 0; omega
  | ⟨1, _⟩ => show cc0_transform_2 (grid0.coords t) 1 * 2048 + 1 * (y 1).val = (y 1).val; omega
  | ⟨2, _⟩ => show cc0_transform_2 (grid0.coords t) 2 * 1024 + 1 * (y 2).val = (t.val % 6 * 1024 + (y 2).val) % 6144; omega

theorem blk3 (t : Fin (cfgM m hO).N) : (iblk m hO c 3 t : Vec Ideal S1x1024 .f32) = gBlk m c (t.val % 6) := by
  obtain ⟨-, -, -, ⟨a0, a1⟩, -⟩ := places t
  refine funext fun (y : S1x1024.Idx) => ?_
  have h0 : (y 0).val < 1 := (y 0).isLt
  have h1 : (y 1).val < 1024 := (y 1).isLt
  show colV m c ((((cfgM m hO).win 3).blk t).view.emb y) = _
  refine (congrArg (colV m c) ?_).trans (colV_apply m c ⟨(t.val % 6 * 1024 + (y 1).val) % 6144, Nat.mod_lt _ (by decide)⟩)
  funext x; apply Fin.ext
  match x with
  | ⟨0, _⟩ => show cc0_transform_3 (grid0.coords t) 0 * 1 + 1 * (y 0).val = 0; omega
  | ⟨1, _⟩ => show cc0_transform_3 (grid0.coords t) 1 * 1024 + 1 * (y 1).val = (t.val % 6 * 1024 + (y 1).val) % 6144; omega

end Cert.Qkv

end
-- ==== Proof.QkvArrays.lean ====
module

public import proofs.«01_k».proof.Proof.QkvHost

/-!
# The first projection's result array

The tile of normalised rows is carried along a row block; every point writes its block of heads.
-/

@[expose] public section

set_option maxRecDepth 16384

noncomputable section

namespace Cert.Qkv

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ) (hO : Ok m) (c : Dev nD)

theorem carried_first (t : Fin (cfgM m hO).N) (h : t.val % 6 = 0) : (outsAt0 m hO c t.val t.isLt).2 = tileAt m c (t.val / 6) := by
  rw [outsAt0_A m hO c t h (by omega)]
  dsimp only
  exact (tile_A _ _ _ _ _ _ _ _ _ _ _ _ _ _ _ _ _ _ _ _ _ _ _).trans (tile_blk m hO c t)

theorem carried_next (t : Fin (cfgM m hO).N) (h : ¬ t.val % 6 = 0)
    (hp : (outsAt0 m hO c (t.val - 1) (lt_of_le_of_lt (Nat.sub_le _ _) t.isLt)).2 = tileAt m c ((t.val - 1) / 6)) :
    (outsAt0 m hO c t.val t.isLt).2 = tileAt m c (t.val / 6) := by
  have e : (t.val - 1) / 6 = t.val / 6 := by omega
  rw [e] at hp
  rw [outsAt0_B m hO c t h (by omega)]
  dsimp only
  unfold sout0_B_0
  exact hp

/-- What the carried tile holds after a point. -/
theorem carried (n : ℕ) : ∀ hn : n < (cfgM m hO).N, (outsAt0 m hO c n hn).2 = tileAt m c (n / 6) := by
  induction n with
  | zero => exact fun hn => carried_first m hO c ⟨0, hn⟩ rfl
  | succ n ih =>
    intro hn
    by_cases h : (n + 1) % 6 = 0
    · exact carried_first m hO c ⟨n + 1, hn⟩ h
    · exact carried_next m hO c ⟨n + 1, hn⟩ h (ih _)

theorem block_congr {T T' : Vec Ideal S1024x2048 .bf16} {w w' : Vec Ideal S1x2048x1024 .bf16} {g g' : Vec Ideal S1x1024 .f32}
    (hT : T = T') (hw : w = w') (hg : g = g') (f : BitVec 1) : headBlock T w g f = headBlock T' w' g' f := by
  rw [hT, hw, hg]

/-- A point's block of heads. -/
theorem heads_at (t : Fin (cfgM m hO).N) : (outsAt0 m hO c t.val t.isLt).1
    = headBlock (tileAt m c (t.val / 6)) (wBlk m c (t.val % 6)) (gBlk m c (t.val % 6)) (flagBit c (grid0.coords t) (tbl m 0)) := by
  by_cases h : t.val % 6 = 0
  · rw [outsAt0_A m hO c t h (by omega)]
    dsimp only
    exact (heads_A _ _ _ _ _ _ _ _ _ _ _ _ _ _ _ _ _ _ _ _ _ _ _).trans (block_congr (tile_blk m hO c t) (blk2 m hO c t) (blk3 m hO c t) _)
  · have hp := carried m hO c (t.val - 1) (lt_of_le_of_lt (Nat.sub_le _ _) t.isLt)
    have e : (t.val - 1) / 6 = t.val / 6 := by omega
    rw [e] at hp
    rw [outsAt0_B m hO c t h (by omega)]
    dsimp only
    exact (heads_B _ _ _ _ _ _ _ _ _ _ _ _ _ _ _ _ _ _ _ _ _ _ _ _).trans (block_congr hp (blk2 m hO c t) (blk3 m hO c t) _)

/-- The tile's projection at an entry. -/
theorem mat_at (i j : ℕ) (hi : i < 8) (hj : j < 6) (r : Fin 1024) (n : Fin 1024) :
    matAt (tileAt m c i) (wBlk m c j) r n
      = projAt (resArg m c) (gainArg m c) (wArg m c) ⟨i * 1024 + r.val, by omega⟩ ⟨j * 1024 + n.val, by omega⟩ := by
  unfold matAt projAt
  refine Finset.sum_congr rfl fun k _ => congrArg₂ (· * ·) ?_ ?_
  · refine congrArg (fun R => normAt (resArg m c) (gainArg m c) R k) (Fin.ext ?_)
    show (i * 1024 + r.val) % 8192 = i * 1024 + r.val
    omega
  · refine congrArg (fun q => wArg m c (ValueIdx.ix2 k q)) (Fin.ext ?_)
    show (j * 1024 + n.val) % 6144 = j * 1024 + n.val
    omega

theorem entry_congr {p q : Prop} [Decidable p] [Decidable q] (h : p ↔ q) (f : Fin 128 → EReal) (y g : EReal) :
    headEntry p f y g = headEntry q f y g := by
  unfold headEntry
  simp only [h]

/-- The block of heads at an entry. -/
theorem head_at (i j : ℕ) (hi : i < 8) (hj : j < 6) (f : BitVec 1) (hf : f = 1#1 ↔ j < 4) (a : Fin 4) (r : Fin 1024) (n : Fin 256) :
    headBlock (tileAt m c i) (wBlk m c j) (gBlk m c j) f (ValueIdx.ix3 a r n)
      = qkvAt (resArg m c) (gainArg m c) (wArg m c) (qArg m c) (kArg m c) ⟨i * 1024 + r.val, by omega⟩ ⟨(j * 4 + a.val) * 256 + n.val, by omega⟩ := by
  show headEntry (f = 1#1) (fun k => matAt _ _ r (tileCol (headCol a n) k)) (matAt _ _ r (headCol a n)) (gBlk m c j (ValueIdx.ix2 0 (headCol a n))) = _
  have hq : ((⟨j * 1024 + (headCol a n).val, by have := (headCol a n).isLt; omega⟩ : Fin 6144)) = ⟨(j * 4 + a.val) * 256 + n.val, by omega⟩ := by
    apply Fin.ext
    show j * 1024 + (a.val * 256 + n.val) = (j * 4 + a.val) * 256 + n.val
    omega
  have hk : ∀ k : Fin 128, (⟨j * 1024 + (tileCol (headCol a n) k).val, by have := (tileCol (headCol a n) k).isLt; omega⟩ : Fin 6144)
      = groupCol ⟨(j * 4 + a.val) * 256 + n.val, by omega⟩ k := by
    intro k
    apply Fin.ext
    show j * 1024 + ((a.val * 256 + n.val) / 128 * 128 + k.val) = ((j * 4 + a.val) * 256 + n.val) / 128 * 128 + k.val
    omega
  have hg : gBlk m c j (ValueIdx.ix2 0 (headCol a n)) = gainAt (qArg m c) (kArg m c) ⟨(j * 4 + a.val) * 256 + n.val, by omega⟩ := by
    refine congrArg (gainAt (qArg m c) (kArg m c)) (Fin.ext ?_)
    show (j * 1024 + (a.val * 256 + n.val)) % 6144 = (j * 4 + a.val) * 256 + n.val
    omega
  simp only [mat_at m c i j hi hj]
  rw [hg, hq]
  simp only [hk]
  refine (entry_congr (hf.trans ?_) _ _ _)
  show j < 4 ↔ (j * 4 + a.val) * 256 + n.val < 4096
  omega

/-- The result array. -/
def qkvArr : Buf (Elt Ideal) ((c : Thread nD τ).loc main_v17) :=
  (fun y => qkvAt (resArg m c) (gainArg m c) (wArg m c) (qArg m c) (kArg m c) (y 1)
    ⟨(y 0).val * 256 + (y 2).val, by have h0 : (y 0).val < 24 := (y 0).isLt; have h2 : (y 2).val < 256 := (y 2).isLt; omega⟩ : Vec Ideal S24x8192x256 .bf16)

/-- A point writes its block of the result array. -/
theorem flushed_qkv (t : Fin (cfgM m hO).N) :
    (dats m hO 0 c).flushed 4 t = (((cfgM m hO).win 4).blk t).view.read (Elt Ideal) (qkvArr m c) := by
  have ht := lt_points m hO t
  obtain ⟨-, -, -, -, ⟨a0, a1, a2⟩, -⟩ := places t
  have e : (dats m hO 0 c).flushed 4 t = ((cfgM m hO).win 4).cut (grid0.coords t) ((outsAt0 m hO c t.val t.isLt).1) := by
    show ((cfgM m hO).win 4).cut (grid0.coords t) ((dats m hO 0 c).after 4 t) = _
    rw [after0_4]
  rw [e, heads_at]
  refine funext fun (j : S4x1024x256.Idx) => ?_
  show headBlock _ _ _ _ j = qkvArr m c ((((cfgM m hO).win 4).blk t).view.emb j)
  have h0 : (j 0).val < 4 := (j 0).isLt
  have h1 : (j 1).val < 1024 := (j 1).isLt
  have h2 : (j 2).val < 256 := (j 2).isLt
  refine (congrArg _ (ValueIdx.eq_ix3 j)).trans ((head_at m c (t.val / 6) (t.val % 6) (by omega) (by omega) _ (flag_at m hO c t) (j 0) (j 1) (j 2)).trans ?_)
  unfold qkvArr
  refine congrArg₂ (qkvAt _ _ _ _ _) (Fin.ext ?_) (Fin.ext ?_)
  · show t.val / 6 * 1024 + (j 1).val = cc0_transform_4 (grid0.coords t) 1 * 1024 + 1 * (j 1).val; omega
  · show (t.val % 6 * 4 + (j 0).val) * 256 + (j 2).val
      = (cc0_transform_4 (grid0.coords t) 0 * 4 + 1 * (j 0).val) * 256 + (cc0_transform_4 (grid0.coords t) 2 * 256 + 1 * (j 2).val)
    omega

/-- Every entry of the result array is written. -/
theorem cover_qkv (y : S24x8192x256.Idx) :
    ∃ t : Fin (cfgM m hO).N, ((cfgM m hO).win 4).flush t = true ∧ y ∈ (((cfgM m hO).win 4).blk t).view.set := by
  have h0 : (y 0).val < 24 := (y 0).isLt
  have h1 : (y 1).val < 8192 := (y 1).isLt
  have h2 : (y 2).val < 256 := (y 2).isLt
  have ht : (y 1).val / 1024 * 6 + (y 0).val / 4 < grid0.N :=
    lt_of_lt_of_eq (by omega : (y 1).val / 1024 * 6 + (y 0).val / 4 < 48) N_0.symm
  refine ⟨⟨(y 1).val / 1024 * 6 + (y 0).val / 4, ht⟩, flush0_4 _ _, ?_⟩
  obtain ⟨-, -, -, -, ⟨p0, p1, p2⟩, -⟩ := places ⟨(y 1).val / 1024 * 6 + (y 0).val / 4, ht⟩
  show y ∈ ((View.whole main_v17).slice (((cfgM m hO).win 4).rect ⟨(y 1).val / 1024 * 6 + (y 0).val / 4, ht⟩)).set
  refine Eq.mpr (congrArg (fun S => y ∈ S) (View.set_slice_whole (b := main_v17) _)) ?_
  refine Rect.mem_set_unit.mpr fun a => ?_
  match a with
  | ⟨0, _⟩ => show cc0_transform_4 (grid0.coords ⟨(y 1).val / 1024 * 6 + (y 0).val / 4, ht⟩) 0 * 4 ≤ (y 0).val ∧ (y 0).val < cc0_transform_4 (grid0.coords ⟨(y 1).val / 1024 * 6 + (y 0).val / 4, ht⟩) 0 * 4 + 4; rw [p0]; dsimp only; omega
  | ⟨1, _⟩ => show cc0_transform_4 (grid0.coords ⟨(y 1).val / 1024 * 6 + (y 0).val / 4, ht⟩) 1 * 1024 ≤ (y 1).val ∧ (y 1).val < cc0_transform_4 (grid0.coords ⟨(y 1).val / 1024 * 6 + (y 0).val / 4, ht⟩) 1 * 1024 + 1024; rw [p1]; dsimp only; omega
  | ⟨2, _⟩ => show cc0_transform_4 (grid0.coords ⟨(y 1).val / 1024 * 6 + (y 0).val / 4, ht⟩) 2 * 256 ≤ (y 2).val ∧ (y 2).val < cc0_transform_4 (grid0.coords ⟨(y 1).val / 1024 * 6 + (y 0).val / 4, ht⟩) 2 * 256 + 256; rw [p2]; omega

/-- So it ends as stated. -/
theorem final_qkv : (dats m hO 0 c).arrAt 4 (cfgM m hO).N = qkvArr m c :=
  (dats m hO 0 c).arrAt_eq_of_cover 4 (qkvArr m c) (fun t _ => flushed_qkv m hO c t) (cover_qkv m hO)

end Cert.Qkv

end
-- ==== Proof.QkvRef.lean ====
module

public import proofs.«01_k».proof.Proof.QkvMath
public import proofs.«01_k».proof.Proof.Gen.Reference4Ideal.Run
public import proofs.«01_k».proof.Proof.Gen.Reference4Ideal.Read
public import Idealize.ShloMosaic.Lib.KernelVsHost

/-!
# The reference of the first projection's call

Its queries, keys and values by heads are the mathematics'.
-/

@[expose] public section

set_option maxRecDepth 16384

noncomputable section

namespace Cert.Qkv

open Idealize.ShloMosaic
open Cert.Reference4Ideal (S3x8192x8x256 S1x8192x8x256 S8192x2048 S2x2048 S2048x6144 S1x128)
open Cert.Reference4Ideal.Read

variable (x0 : Vec Ideal S8192x2048 .f32) (x1 : Vec Ideal S2x2048 .f32) (x2 : Vec Ideal S2048x6144 .bf16)
  (x3 x4 : Vec Ideal S1x128 .f32)

/-- The reference's normalised rows. -/
theorem ref_norm (R : Fin 8192) (k : Fin 2048) : val_main_v14 (F := Ideal) x0 x1 (ValueIdx.ix2 R k) = normAt x0 x1 R k := by
  rw [val_main_v14_apply, val_main_v11_apply, val_main_v10_apply, val_main_v9_apply, val_main_v8_apply, val_main_v7_apply,
    val_main_cst_1_apply, val_main_v6_apply, val_main_v5_apply, val_main_cst_0_apply, val_main_v4_apply, val_main_v3_apply,
    val_main_cst_apply, val_main_v13_apply, val_main_v12_apply, val_main_v1_apply, val_main_v0_apply]
  unfold normAt Cert.Up.rowNorm
  simp only [Ideal.hostUnary_rsqrt_def, Ideal.hostDivf_def]
  refine congrArg₂ (· * ·) (congrArg₂ (· * ·) rfl (congrArg Ideal.rsqrt (congrArg₂ (· + ·) (congrArg₂ Ideal.div ?_ rfl) rfl))) (congrArg x1 ?_)
  · show Ideal.ofBits .f32 0x00000000#32 + _ = _
    rw [Cert.Up.bits_zero, zero_add]
    refine Finset.sum_congr rfl fun j _ => ?_
    rw [val_main_v2_apply]
    have e : idx_main_v3 (idx_main_v4 (idx_main_v10 (ValueIdx.ix2 R k))) j = ValueIdx.ix2 R j := by
      funext a; match a with
      | ⟨0, _⟩ => rfl
      | ⟨1, _⟩ => rfl
    rw [e]
    rfl
  · funext a; apply Fin.ext
    match a with
    | ⟨0, _⟩ => rfl
    | ⟨1, _⟩ => show k.val % 2048 = k.val; omega

/-- The reference's projection. -/
theorem ref_proj (R : Fin 8192) (q : Fin 6144) : val_main_v16 (F := Ideal) x0 x1 x2 (ValueIdx.ix2 R q) = projAt x0 x1 x2 R q := by
  rw [val_main_v16_apply]
  unfold projAt
  refine Finset.sum_congr rfl fun k _ => ?_
  rw [val_main_v15_apply]
  refine congrArg₂ (· * ·) ((congrArg (val_main_v14 (F := Ideal) x0 x1) ?_).trans (ref_norm x0 x1 R k)) (congrArg x2 ?_)
  · funext a; match a with
    | ⟨0, _⟩ => rfl
    | ⟨1, _⟩ => rfl
  · funext a; match a with
    | ⟨0, _⟩ => rfl
    | ⟨1, _⟩ => rfl

/-- The reference's queries before their norm. -/
theorem ref_q (R : Fin 8192) (h : Fin 8) (a : Fin 2) (n : Fin 128) :
    val_main_v20 (F := Ideal) x0 x1 x2 (ValueIdx.ix4 R h a n) = projAt x0 x1 x2 R ⟨0 + (h.val * 256 + a.val * 128 + n.val), by omega⟩ := by
  rw [val_main_v20_apply, val_main_v17_apply]
  refine Eq.trans (congrArg (val_main_v16 (F := Ideal) x0 x1 x2) ?_) (ref_proj x0 x1 x2 R ⟨0 + (h.val * 256 + a.val * 128 + n.val), by omega⟩)
  funext x; apply Fin.ext
  match x with
  | ⟨0, _⟩ => show (((R.val * 8 + h.val) * 2 + a.val) * 128 + n.val) / 2048 = R.val; omega
  | ⟨1, _⟩ => show (((R.val * 8 + h.val) * 2 + a.val) * 128 + n.val) % 2048 = 0 + (h.val * 256 + a.val * 128 + n.val); omega

/-- The reference's keys before their norm. -/
theorem ref_k (R : Fin 8192) (h : Fin 8) (a : Fin 2) (n : Fin 128) :
    val_main_v37 (F := Ideal) x0 x1 x2 (ValueIdx.ix4 R h a n) = projAt x0 x1 x2 R ⟨2048 + (h.val * 256 + a.val * 128 + n.val), by omega⟩ := by
  rw [val_main_v37_apply, val_main_v18_apply]
  refine Eq.trans (congrArg (val_main_v16 (F := Ideal) x0 x1 x2) ?_) (ref_proj x0 x1 x2 R ⟨2048 + (h.val * 256 + a.val * 128 + n.val), by omega⟩)
  funext x; apply Fin.ext
  match x with
  | ⟨0, _⟩ => show (((R.val * 8 + h.val) * 2 + a.val) * 128 + n.val) / 2048 = R.val; omega
  | ⟨1, _⟩ => show 2048 + (((R.val * 8 + h.val) * 2 + a.val) * 128 + n.val) % 2048 = 2048 + (h.val * 256 + a.val * 128 + n.val); omega

/-- The reference's queries. -/
theorem ref_query (R : Fin 8192) (h : Fin 8) (a : Fin 2) (n : Fin 128) :
    val_main_v36 (F := Ideal) x0 x1 x2 x3 (ValueIdx.ix4 R h a n)
      = qkvAt x0 x1 x2 x3 x4 R ⟨0 + (h.val * 256 + a.val * 128 + n.val), by omega⟩ := by
  have hg : ∀ k : Fin 128, groupCol ⟨0 + (h.val * 256 + a.val * 128 + n.val), by omega⟩ k = ⟨0 + (h.val * 256 + a.val * 128 + k.val), by omega⟩ := by
    intro k
    apply Fin.ext
    show (0 + (h.val * 256 + a.val * 128 + n.val)) / 128 * 128 + k.val = _
    show _ = 0 + (h.val * 256 + a.val * 128 + k.val)
    omega
  have hm : (⟨(0 + (h.val * 256 + a.val * 128 + n.val)) % 128, Nat.mod_lt _ (by decide)⟩ : Fin 128) = n := by
    apply Fin.ext
    show (0 + (h.val * 256 + a.val * 128 + n.val)) % 128 = n.val
    omega
  rw [val_main_v36_apply, val_main_v35_apply, val_main_cst_5_apply, val_main_v34_apply, val_main_v33_apply, val_main_v32_apply, val_main_v21_apply, val_main_v31_apply, val_main_v30_apply, val_main_v29_apply, val_main_v28_apply, val_main_v27_apply, val_main_cst_4_apply, val_main_v26_apply, val_main_v25_apply, val_main_cst_3_apply, val_main_v24_apply, val_main_v23_apply, val_main_cst_2_apply, ref_q]
  simp only [Ideal.hostUnary_rsqrt_def, Ideal.hostDivf_def]
  unfold qkvAt headEntry gainAt
  simp only [hg, hm]
  rw [if_pos (show 0 + (h.val * 256 + a.val * 128 + n.val) < 4096 by omega), if_pos (show 0 + (h.val * 256 + a.val * 128 + n.val) < 2048 by omega)]
  refine (congrArg₂ (· * ·) ?_ rfl).trans (mul_assoc _ _ _)
  refine congrArg₂ (· * ·) (congrArg₂ (· * ·) rfl (congrArg Ideal.rsqrt (congrArg₂ (· + ·) (congrArg₂ Ideal.div ?_ rfl) rfl))) (congrArg x3 ?_)
  · show Ideal.ofBits .f32 0x00000000#32 + _ = _
    rw [Cert.Up.bits_zero, zero_add]
    refine Finset.sum_congr rfl fun j _ => ?_
    rw [val_main_v22_apply]
    have e : idx_main_v23 (idx_main_v24 <| idx_main_v30 (ValueIdx.ix4 R h a n)) j = ValueIdx.ix4 R h a j := by
      funext x; match x with
      | ⟨0, _⟩ => rfl
      | ⟨1, _⟩ => rfl
      | ⟨2, _⟩ => rfl
      | ⟨3, _⟩ => rfl
    rw [e, ref_q]
    rfl
  · funext x; apply Fin.ext
    match x with
    | ⟨0, _⟩ => rfl
    | ⟨1, _⟩ => show n.val % 128 = n.val; omega

/-- The reference's keys. -/
theorem ref_key (R : Fin 8192) (h : Fin 8) (a : Fin 2) (n : Fin 128) :
    val_main_v51 (F := Ideal) x0 x1 x2 x4 (ValueIdx.ix4 R h a n)
      = qkvAt x0 x1 x2 x3 x4 R ⟨2048 + (h.val * 256 + a.val * 128 + n.val), by omega⟩ := by
  have hg : ∀ k : Fin 128, groupCol ⟨2048 + (h.val * 256 + a.val * 128 + n.val), by omega⟩ k = ⟨2048 + (h.val * 256 + a.val * 128 + k.val), by omega⟩ := by
    intro k
    apply Fin.ext
    show (2048 + (h.val * 256 + a.val * 128 + n.val)) / 128 * 128 + k.val = _
    show _ = 2048 + (h.val * 256 + a.val * 128 + k.val)
    omega
  have hm : (⟨(2048 + (h.val * 256 + a.val * 128 + n.val)) % 128, Nat.mod_lt _ (by decide)⟩ : Fin 128) = n := by
    apply Fin.ext
    show (2048 + (h.val * 256 + a.val * 128 + n.val)) % 128 = n.val
    omega
  rw [val_main_v51_apply, val_main_v50_apply, val_main_v49_apply, val_main_v38_apply, val_main_v48_apply, val_main_v47_apply, val_main_v46_apply, val_main_v45_apply, val_main_v44_apply, val_main_cst_8_apply, val_main_v43_apply, val_main_v42_apply, val_main_cst_7_apply, val_main_v41_apply, val_main_v40_apply, val_main_cst_6_apply, ref_k]
  simp only [Ideal.hostUnary_rsqrt_def, Ideal.hostDivf_def]
  unfold qkvAt headEntry gainAt
  simp only [hg, hm]
  rw [if_pos (show 2048 + (h.val * 256 + a.val * 128 + n.val) < 4096 by omega), if_neg (show ¬ 2048 + (h.val * 256 + a.val * 128 + n.val) < 2048 by omega), if_pos (show 2048 + (h.val * 256 + a.val * 128 + n.val) < 4096 by omega)]
  refine Eq.trans ?_ rfl
  refine congrArg₂ (· * ·) (congrArg₂ (· * ·) rfl (congrArg Ideal.rsqrt (congrArg₂ (· + ·) (congrArg₂ Ideal.div ?_ rfl) rfl))) (congrArg x4 ?_)
  · show Ideal.ofBits .f32 0x00000000#32 + _ = _
    rw [Cert.Up.bits_zero, zero_add]
    refine Finset.sum_congr rfl fun j _ => ?_
    rw [val_main_v39_apply]
    have e : idx_main_v40 (idx_main_v41 <| idx_main_v47 (ValueIdx.ix4 R h a n)) j = ValueIdx.ix4 R h a j := by
      funext x; match x with
      | ⟨0, _⟩ => rfl
      | ⟨1, _⟩ => rfl
      | ⟨2, _⟩ => rfl
      | ⟨3, _⟩ => rfl
    rw [e, ref_k]
    rfl
  · funext x; apply Fin.ext
    match x with
    | ⟨0, _⟩ => rfl
    | ⟨1, _⟩ => show n.val % 128 = n.val; omega

/-- The reference's queries, keys and values before they are laid by heads. -/
theorem ref_parts (s : Fin 3) (R : Fin 8192) (h : Fin 8) (n : Fin 256) :
    val_main_v58 (F := Ideal) x0 x1 x2 x3 x4 (ValueIdx.ix4 s R h n)
      = qkvAt x0 x1 x2 x3 x4 R ⟨s.val * 2048 + (h.val * 256 + n.val), by omega⟩ := by
  have key : ∀ (off q : ℕ) (hq : q < 6144) (hq' : off + (h.val * 256 + n.val / 128 * 128 + n.val % 128) < 6144), q = off + (h.val * 256 + n.val) →
      qkvAt x0 x1 x2 x3 x4 R ⟨off + (h.val * 256 + n.val / 128 * 128 + n.val % 128), hq'⟩ = qkvAt x0 x1 x2 x3 x4 R ⟨q, hq⟩ := by
    intro off q hq hq' e
    refine congrArg _ (Fin.ext ?_)
    show off + (h.val * 256 + n.val / 128 * 128 + n.val % 128) = q
    omega
  unfold val_main_v58
  match s with
  | ⟨0, _⟩ =>
    refine (concatenate_apply_piece (0 : Fin S3x8192x8x256.rank) [⟨S1x8192x8x256, val_main_v55 (F := Ideal) x0 x1 x2 x3⟩,
      ⟨S1x8192x8x256, val_main_v56 (F := Ideal) x0 x1 x2 x4⟩, ⟨S1x8192x8x256, val_main_v57 (F := Ideal) x0 x1 x2⟩]
      _ _ 0 (show 0 < 3 by decide) S1x8192x8x256 (val_main_v55 (F := Ideal) x0 x1 x2 x3) rfl rfl 0 rfl
      (ValueIdx.ix4 0 R h n : S1x8192x8x256.Idx) (fun b hb => ?_) rfl).trans ?_
    · match b with
      | ⟨0, _⟩ => exact absurd rfl hb
      | ⟨1, _⟩ => rfl
      | ⟨2, _⟩ => rfl
      | ⟨3, _⟩ => rfl
    · rw [val_main_v55_apply, val_main_v52_apply]
      refine (congrArg _ ?_).trans ((ref_query x0 x1 x2 x3 x4 R h ⟨n.val / 128, by omega⟩ ⟨n.val % 128, Nat.mod_lt _ (by decide)⟩).trans
        (key 0 _ _ _ (by show 0 * 2048 + (h.val * 256 + n.val) = _; omega)))
      funext x; apply Fin.ext
      match x with
      | ⟨0, _⟩ => show ((R.val * 8 + h.val) * 256 + n.val) / 2048 = R.val; omega
      | ⟨1, _⟩ => show ((R.val * 8 + h.val) * 256 + n.val) / 256 % 8 = h.val; omega
      | ⟨2, _⟩ => show ((R.val * 8 + h.val) * 256 + n.val) / 128 % 2 = n.val / 128; omega
      | ⟨3, _⟩ => show ((R.val * 8 + h.val) * 256 + n.val) % 128 = n.val % 128; omega
  | ⟨1, _⟩ =>
    refine (concatenate_apply_piece (0 : Fin S3x8192x8x256.rank) [⟨S1x8192x8x256, val_main_v55 (F := Ideal) x0 x1 x2 x3⟩,
      ⟨S1x8192x8x256, val_main_v56 (F := Ideal) x0 x1 x2 x4⟩, ⟨S1x8192x8x256, val_main_v57 (F := Ideal) x0 x1 x2⟩]
      _ _ 1 (show 1 < 3 by decide) S1x8192x8x256 (val_main_v56 (F := Ideal) x0 x1 x2 x4) rfl rfl 1 rfl
      (ValueIdx.ix4 0 R h n : S1x8192x8x256.Idx) (fun b hb => ?_) rfl).trans ?_
    · match b with
      | ⟨0, _⟩ => exact absurd rfl hb
      | ⟨1, _⟩ => rfl
      | ⟨2, _⟩ => rfl
      | ⟨3, _⟩ => rfl
    · rw [val_main_v56_apply, val_main_v53_apply]
      refine (congrArg _ ?_).trans ((ref_key x0 x1 x2 x3 x4 R h ⟨n.val / 128, by omega⟩ ⟨n.val % 128, Nat.mod_lt _ (by decide)⟩).trans
        (key 2048 _ _ _ (by show 1 * 2048 + (h.val * 256 + n.val) = _; omega)))
      funext x; apply Fin.ext
      match x with
      | ⟨0, _⟩ => show ((R.val * 8 + h.val) * 256 + n.val) / 2048 = R.val; omega
      | ⟨1, _⟩ => show ((R.val * 8 + h.val) * 256 + n.val) / 256 % 8 = h.val; omega
      | ⟨2, _⟩ => show ((R.val * 8 + h.val) * 256 + n.val) / 128 % 2 = n.val / 128; omega
      | ⟨3, _⟩ => show ((R.val * 8 + h.val) * 256 + n.val) % 128 = n.val % 128; omega
  | ⟨2, _⟩ =>
    refine (concatenate_apply_piece (0 : Fin S3x8192x8x256.rank) [⟨S1x8192x8x256, val_main_v55 (F := Ideal) x0 x1 x2 x3⟩,
      ⟨S1x8192x8x256, val_main_v56 (F := Ideal) x0 x1 x2 x4⟩, ⟨S1x8192x8x256, val_main_v57 (F := Ideal) x0 x1 x2⟩]
      _ _ 2 (show 2 < 3 by decide) S1x8192x8x256 (val_main_v57 (F := Ideal) x0 x1 x2) rfl rfl 2 rfl
      (ValueIdx.ix4 0 R h n : S1x8192x8x256.Idx) (fun b hb => ?_) rfl).trans ?_
    · match b with
      | ⟨0, _⟩ => exact absurd rfl hb
      | ⟨1, _⟩ => rfl
      | ⟨2, _⟩ => rfl
      | ⟨3, _⟩ => rfl
    · rw [val_main_v57_apply, val_main_v54_apply, val_main_v19_apply]
      unfold qkvAt headEntry gainAt
      rw [if_neg (show ¬ 2 * 2048 + (h.val * 256 + n.val) < 4096 by omega), if_neg (show ¬ 2 * 2048 + (h.val * 256 + n.val) < 2048 by omega),
        if_neg (show ¬ 2 * 2048 + (h.val * 256 + n.val) < 4096 by omega), Cert.Up.bits_one, mul_one, mul_one]
      refine Eq.trans (congrArg (val_main_v16 (F := Ideal) x0 x1 x2) ?_) (ref_proj x0 x1 x2 R _)
      funext x; apply Fin.ext
      match x with
      | ⟨0, _⟩ => show ((R.val * 8 + h.val) * 256 + n.val) / 2048 = R.val; omega
      | ⟨1, _⟩ => show 4096 + ((R.val * 8 + h.val) * 256 + n.val) % 2048 = 2 * 2048 + (h.val * 256 + n.val); omega

/-- The reference's result at an entry. -/
theorem ref_qkv (T : Fin 24) (R : Fin 8192) (n : Fin 256) :
    val_main_v61 (F := Ideal) x0 x1 x2 x3 x4 (ValueIdx.ix3 T R n) = qkvAt x0 x1 x2 x3 x4 R ⟨T.val * 256 + n.val, by omega⟩ := by
  rw [val_main_v61_apply, val_main_v60_apply, val_main_v59_apply]
  refine Eq.trans (congrArg (val_main_v58 (F := Ideal) x0 x1 x2 x3 x4) ?_)
    ((ref_parts x0 x1 x2 x3 x4 ⟨T.val / 8, by omega⟩ R ⟨T.val % 8, Nat.mod_lt _ (by decide)⟩ n).trans (congrArg _ (Fin.ext ?_)))
  · funext x; apply Fin.ext
    match x with
    | ⟨0, _⟩ => show ((T.val * 8192 + R.val) * 256 + n.val) / 16777216 = T.val / 8; omega
    | ⟨1, _⟩ => show ((T.val * 8192 + R.val) * 256 + n.val) / 256 % 8192 = R.val; omega
    | ⟨2, _⟩ => show ((T.val * 8192 + R.val) * 256 + n.val) / 2097152 % 8 = T.val % 8; omega
    | ⟨3, _⟩ => show ((T.val * 8192 + R.val) * 256 + n.val) % 256 = n.val; omega
  · show T.val / 8 * 2048 + (T.val % 8 * 256 + n.val) = T.val * 256 + n.val
    omega

end Cert.Qkv

end
-- ==== Proof.Qkv.lean ====
module

public import proofs.«01_k».proof.Defs
public import proofs.«01_k».proof.Proof.QkvArrays
public import proofs.«01_k».proof.Proof.QkvRef
public import Idealize.ShloMosaic.Lib.Claim

/-!
# The first projection's call

The kernel and the reference leave the same queries, keys and values.
-/

@[expose] public section

set_option maxRecDepth 16384

noncomputable section

namespace Cert.Qkv

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ) (c : Dev nD)

/-- The kernel's run: its result array, and its arguments unchanged. -/
theorem run_qkv (g : Dev nD → PrngReg) :
    θ_run (defs (F := Ideal)) (onTc (τ := τ) (main (F := Ideal))) ⟨m, fun _ => 0, g⟩ fun r => ∀ c : Dev nD,
      r.2.mem ((c : Thread nD τ).loc main_v17) = qkvArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨((h c).1 4).trans (final_qkv m trivial c),
      ((h c).1 0).trans (((dats m trivial 0 c).arrAt_in 0 rfl _).trans ((A_eq m trivial c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m g trivial)

/-- The reference's result of the same arguments is the same array. -/
theorem qkv_eq : Cert.Reference4Ideal.Read.val_main_v61 (F := Ideal) (resArg m c) (gainArg m c) (wArg m c) (qArg m c) (kArg m c)
    = qkvArr m c := by
  funext y
  exact (congrArg _ (ValueIdx.eq_ix3 y)).trans (ref_qkv _ _ _ _ _ (y 0) (y 1) (y 2))

/-- The two programs leave the same result. -/
theorem same_qkv : Cert.algebraic_Kernel4Ideal_Reference4Ideal (hKernel4Ideal := Cert.Kernel4Ideal.Gen.facts)
    (hReference4Ideal := Cert.Reference4Ideal.Gen.facts) := by
  intro m g m' g' _ hargs
  refine ⟨fun c => qkvArr m c, run_qkv m g, ?_⟩
  refine (θ_run _ _ _).mono (fun r h c => ?_) (Cert.Reference4Ideal.Value.run m' g')
  obtain ⟨r0, hr⟩ := h c
  obtain ⟨e0, e1, e2, e3, e4⟩ := hargs c
  refine ⟨r0.trans ?_, hr⟩
  refine (Cert.Reference4Ideal.Read.val_main_v61_eq m' c).trans ?_
  rw [e0, e1, e2, e3, e4]
  exact qkv_eq m c

/-- The reference leaves its arguments unchanged; it has no semaphores. -/
theorem reference_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal)))
      ⟨m, fun _ => 0, ρ⟩ (fun r => (∀ c : Dev Cert.Reference4Ideal.nD,
        r.2.mem ((c.tc : Thread _ _).loc Cert.Reference4Ideal.main_arg0) = m ((c.tc : Thread _ _).loc Cert.Reference4Ideal.main_arg0)
        ∧ r.2.mem ((c.tc : Thread _ _).loc Cert.Reference4Ideal.main_arg1) = m ((c.tc : Thread _ _).loc Cert.Reference4Ideal.main_arg1)
        ∧ r.2.mem ((c.tc : Thread _ _).loc Cert.Reference4Ideal.main_arg2) = m ((c.tc : Thread _ _).loc Cert.Reference4Ideal.main_arg2)
        ∧ r.2.mem ((c.tc : Thread _ _).loc Cert.Reference4Ideal.main_arg3) = m ((c.tc : Thread _ _).loc Cert.Reference4Ideal.main_arg3)
        ∧ r.2.mem ((c.tc : Thread _ _).loc Cert.Reference4Ideal.main_arg4) = m ((c.tc : Thread _ _).loc Cert.Reference4Ideal.main_arg4))
        ∧ r.2.sem = fun _ => 0) :=
  (θ_run _ _ _).mono (fun r h => ⟨fun c => (h c).2, sem_eq_zero_of_no_sems (by decide) r.2⟩)
    (Cert.Reference4Ideal.Value.run m ρ)

end Cert.Qkv

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.KernelRun
public import proofs.«01_k».proof.Proof.SameArrays
public import proofs.«01_k».proof.Proof.Up
public import proofs.«01_k».proof.Proof.Down
public import proofs.«01_k».proof.Proof.Qkv
public import Idealize.ShloMosaic.Lib.Claim
public import Idealize.ShloMosaic.Adequacy
public import Idealize.ShloMosaic.Init

/-!
# The certificate's claim

The programs leave their arguments unchanged, and the naming of the mask's constant is as stated. From finite
projections, biases and weights of lambda the attention's three results are the reference's; the up-projection's two
results, the down-projection's and the first projection's are the references' from any arguments.
-/

@[expose] public section

noncomputable section

namespace Cert.Proof

open Idealize.ShloMosaic Idealize.ShloMosaic.TcCoe Idealize.SL.Sem Idealize.ShloMosaic.StableHlo Cert.DiffAttn

/-- A number whose absolute value compares below plus infinity is real. -/
theorem real_of_lt (x : EReal) (h : Ideal.cmp .olt (max x (-x)) (Ideal.ofBits .f32 0x7F800000#32) = 1#1) :
    ∃ r : ℝ, x = r := by
  have e : Ideal.ofBits .f32 0x7F800000#32 = (⊤ : EReal) := by simp [Ideal.ofBits, Ideal.ieee]
  rw [e] at h
  unfold Ideal.cmp at h
  have hlt : max x (-x) < ⊤ := by
    by_contra hc
    have hd : decide (max x (-x) < ⊤) = false := decide_eq_false hc
    change BitVec.ofBool (decide (max x (-x) < ⊤)) = 1#1 at h
    rw [hd] at h
    exact absurd h (by decide)
  rw [max_lt_iff] at hlt
  refine ⟨x.toReal, (EReal.coe_toReal hlt.1.ne ?_).symm⟩
  rintro rfl
  exact absurd hlt.2 (by simp)

/-- The precondition makes the projections, the biases and lambda's weights real. -/
theorem pre_real (m : (ℓ : Loc Cert.KernelIdeal.nD Cert.KernelIdeal.τ Cert.KernelIdeal.sig) → Buf (Elt Ideal) ℓ)
    (h : Cert.Pre_KernelIdeal_finite_inputs (hPre_finite_inputs := Cert.Pre_finite_inputs.Gen.facts) m) (c : Dev Cert.KernelIdeal.nD) :
    IsReal (argQkv m c) ∧ IsReal (argBias m c) ∧ IsReal (argLam m c) := by
  obtain ⟨h0, h1, h2⟩ := h c
  exact ⟨fun i => real_of_lt _ (congrFun h0 i), fun i => real_of_lt _ (congrFun h1 i), fun i => real_of_lt _ (congrFun h2 i)⟩

/-- The reference leaves its arguments unchanged; it has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4)
        ∧ r.2.mem ((c.tc : Thread _ _).loc Cert.ReferenceIdeal.main_arg5) = m ((c.tc : Thread _ _).loc Cert.ReferenceIdeal.main_arg5))
        ∧ r.2.sem = fun _ => 0) :=
  (θ_run _ _ _).mono (fun r h => ⟨fun c => (h c).2.2.2, sem_eq_zero_of_no_sems (by decide) r.2⟩)
    (Cert.ReferenceIdeal.Value.run m ρ)

/-- From finite arguments the two programs leave the same results. -/
theorem same_results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨fun c => attnArr m c, fun c => castArr m c, fun c => upArr m c, kernel_run m g, ?_⟩
  refine (θ_run _ _ _).mono (fun r h c => ?_) (Cert.ReferenceIdeal.Value.run m' g')
  obtain ⟨r0, r1, r2, hr⟩ := h c
  obtain ⟨e0, e1, e2, e3, e4, e5⟩ := hargs c
  obtain ⟨p0, p1, p2⟩ := pre_real m hpre c
  refine ⟨?_, ?_, ?_, hr⟩
  · refine (r0.trans (Cert.ReferenceIdeal.Read.val_main_v105_eq (launchContents m' c))).trans ?_
    rw [launchContents_devRef, launchContents_devRef, launchContents_devRef, launchContents_devRef, e0, e1, e2, e3]
    exact attn_eq m c p0 p1 p2
  · refine (r1.trans (Cert.ReferenceIdeal.Read.val_main_v107_eq (launchContents m' c))).trans ?_
    rw [launchContents_devRef, e4]
    exact proj_eq m c
  · refine (r2.trans (Cert.ReferenceIdeal.Read.val_main_v110_eq (launchContents m' c))).trans ?_
    rw [launchContents_devRef, e5]
    exact up_eq m c

/-- All claims of the four programs. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Pre_finite_inputs.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.Kernel2.Gen.frame m ρ,
    fun m ρ _ => Cert.Kernel2Ideal.Gen.frame m ρ,
    fun m ρ _ => Cert.Up.reference_frame m ρ,
    fun m ρ _ => Cert.Kernel3.Gen.frame m ρ,
    fun m ρ _ => Cert.Kernel3Ideal.Gen.frame m ρ,
    fun m ρ _ => Cert.Down.reference_frame m ρ,
    fun m ρ _ => Cert.Kernel4.Gen.frame m ρ trivial,
    fun m ρ _ => Cert.Kernel4Ideal.Gen.frame m ρ trivial,
    fun m ρ _ => Cert.Qkv.reference_frame m ρ,
    IdealRules.named_const.statement Cert.KernelIdeal.κ "mask" .f32 0xF149F2CA#32 ⊥ rfl,
    same_results,
    trivial,
    Cert.Up.same_up,
    trivial,
    Cert.Down.same_down,
    trivial,
    Cert.Qkv.same_qkv⟩

end Cert.Proof

end
